-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelMla (m : (ℓ : Loc Cert.KernelMla.nD Cert.KernelMla.τ Cert.KernelMla.sig) → Buf (Elt Bits) ℓ) : Prop :=
  True

def Pre_KernelMlaIdeal (m : (ℓ : Loc Cert.KernelMlaIdeal.nD Cert.KernelMlaIdeal.τ Cert.KernelMlaIdeal.sig) → Buf (Elt Ideal) ℓ) : Prop :=
  True

def Pre_KernelMlaIdeal_finite_latent [hPre_finite_latent : Cert.Pre_finite_latent.Facts] (m : (ℓ : Loc Cert.KernelMlaIdeal.nD Cert.KernelMlaIdeal.τ Cert.KernelMlaIdeal.sig) → Buf (Elt Ideal) ℓ) : Prop :=
  ∀ c : Dev Cert.KernelMlaIdeal.nD,
    (Cert.Pre_finite_latent.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))).1 = (fun _ => 1#1)
    ∧ (Cert.Pre_finite_latent.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))).2 = (fun _ => 1#1)

def Pre_ReferenceMlaIdeal (m : (ℓ : Loc Cert.ReferenceMlaIdeal.nD Cert.ReferenceMlaIdeal.τ Cert.ReferenceMlaIdeal.sig) → Buf (Elt Ideal) ℓ) : Prop :=
  True

def Pre_ReferenceMlaIdeal_finite_latent [hPre_finite_latent : Cert.Pre_finite_latent.Facts] (m : (ℓ : Loc Cert.ReferenceMlaIdeal.nD Cert.ReferenceMlaIdeal.τ Cert.ReferenceMlaIdeal.sig) → Buf (Elt Ideal) ℓ) : Prop :=
  ∀ c : Dev Cert.ReferenceMlaIdeal.nD,
    (Cert.Pre_finite_latent.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))).1 = (fun _ => 1#1)
    ∧ (Cert.Pre_finite_latent.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))).2 = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7))
      ∧ r.2.sem = fun _ => 0)

def quiescent_KernelMla [hKernelMla : Cert.KernelMla.Facts] : Prop :=
  ∀ (m : (ℓ : Loc Cert.KernelMla.nD Cert.KernelMla.τ Cert.KernelMla.sig) → Buf (Elt Bits) ℓ) (g : Dev Cert.KernelMla.nD → PrngReg), Pre_KernelMla m →
    θ_run (Cert.KernelMla.defs (F := Bits)) (onTc (τ := Cert.KernelMla.τ) (Cert.KernelMla.main (F := Bits))) ⟨m, fun _ => 0, g⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2))
      ∧ r.2.sem = fun _ => 0)

def quiescent_KernelMlaIdeal [hKernelMlaIdeal : Cert.KernelMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_KernelMlaIdeal_pre_finite_latent [hKernelMlaIdeal : Cert.KernelMlaIdeal.Facts] [hPre_finite_latent : Cert.Pre_finite_latent.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal_finite_latent m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_ReferenceMlaIdeal [hReferenceMlaIdeal : Cert.ReferenceMlaIdeal.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_ReferenceMlaIdeal_pre_finite_latent [hReferenceMlaIdeal : Cert.ReferenceMlaIdeal.Facts] [hPre_finite_latent : Cert.Pre_finite_latent.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal_finite_latent m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)) →
    ∃ (v0 : (c : Dev Cert.KernelFinalIdeal.nD) → Buf (Elt Ideal) ((c.tc : Thread Cert.KernelFinalIdeal.nD Cert.KernelFinalIdeal.τ).loc Cert.KernelFinalIdeal.main_v0)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v0) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v20) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)
      ∧ m' ((c.tc : Thread Cert.ReferenceMidIdeal.nD Cert.ReferenceMidIdeal.τ).loc Cert.ReferenceMidIdeal.main_arg7) = m ((c.tc : Thread Cert.KernelMidIdeal.nD Cert.KernelMidIdeal.τ).loc Cert.KernelMidIdeal.main_arg7)) →
    ∃ (v0 : (c : Dev Cert.KernelMidIdeal.nD) → Buf (Elt Ideal) ((c.tc : Thread Cert.KernelMidIdeal.nD Cert.KernelMidIdeal.τ).loc Cert.KernelMidIdeal.main_v0_0)) (v1 : (c : Dev Cert.KernelMidIdeal.nD) → Buf (Elt Ideal) ((c.tc : Thread Cert.KernelMidIdeal.nD Cert.KernelMidIdeal.τ).loc Cert.KernelMidIdeal.main_v0_1)) (v2 : (c : Dev Cert.KernelMidIdeal.nD) → Buf (Elt Ideal) ((c.tc : Thread Cert.KernelMidIdeal.nD Cert.KernelMidIdeal.τ).loc Cert.KernelMidIdeal.main_v0_2)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v0_0) = v0 c
          ∧ r.2.mem ((c.tc : Thread Cert.KernelMidIdeal.nD Cert.KernelMidIdeal.τ).loc Cert.KernelMidIdeal.main_v0_1) = v1 c
          ∧ r.2.mem ((c.tc : Thread Cert.KernelMidIdeal.nD Cert.KernelMidIdeal.τ).loc Cert.KernelMidIdeal.main_v0_2) = v2 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v7) = v0 c
          ∧ r.2.mem ((c.tc : Thread Cert.ReferenceMidIdeal.nD Cert.ReferenceMidIdeal.τ).loc Cert.ReferenceMidIdeal.main_v23) = v1 c
          ∧ r.2.mem ((c.tc : Thread Cert.ReferenceMidIdeal.nD Cert.ReferenceMidIdeal.τ).loc Cert.ReferenceMidIdeal.main_v25) = v2 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7))

def preserves_KernelMla_KernelMlaIdeal : Prop :=
  True

def algebraic_KernelMlaIdeal_ReferenceMlaIdeal_pre_finite_latent [hKernelMlaIdeal : Cert.KernelMlaIdeal.Facts] [hReferenceMlaIdeal : Cert.ReferenceMlaIdeal.Facts] [hPre_finite_latent : Cert.Pre_finite_latent.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg)
    (m' : (ℓ : Loc Cert.ReferenceMlaIdeal.nD Cert.ReferenceMlaIdeal.τ Cert.ReferenceMlaIdeal.sig) → Buf (Elt Ideal) ℓ) (g' : Dev Cert.ReferenceMlaIdeal.nD → PrngReg), Pre_KernelMlaIdeal_finite_latent m →
    (∀ c : Dev Cert.KernelMlaIdeal.nD,
      m' ((c.tc : Thread Cert.ReferenceMlaIdeal.nD Cert.ReferenceMlaIdeal.τ).loc Cert.ReferenceMlaIdeal.main_arg0) = m ((c.tc : Thread Cert.KernelMlaIdeal.nD Cert.KernelMlaIdeal.τ).loc Cert.KernelMlaIdeal.main_arg0)
      ∧ m' ((c.tc : Thread Cert.ReferenceMlaIdeal.nD Cert.ReferenceMlaIdeal.τ).loc Cert.ReferenceMlaIdeal.main_arg1) = m ((c.tc : Thread Cert.KernelMlaIdeal.nD Cert.KernelMlaIdeal.τ).loc Cert.KernelMlaIdeal.main_arg1)
      ∧ m' ((c.tc : Thread Cert.ReferenceMlaIdeal.nD Cert.ReferenceMlaIdeal.τ).loc Cert.ReferenceMlaIdeal.main_arg2) = m ((c.tc : Thread Cert.KernelMlaIdeal.nD Cert.KernelMlaIdeal.τ).loc Cert.KernelMlaIdeal.main_arg2)) →
    ∃ (v0 : (c : Dev Cert.KernelMlaIdeal.nD) → Buf (Elt Ideal) ((c.tc : Thread Cert.KernelMlaIdeal.nD Cert.KernelMlaIdeal.τ).loc Cert.KernelMlaIdeal.main_v0)),
      θ_run (Cert.KernelMlaIdeal.defs (F := Ideal)) (onTc (τ := Cert.KernelMlaIdeal.τ) (Cert.KernelMlaIdeal.main (F := Ideal))) ⟨m, fun _ => 0, g⟩ (fun r => ∀ c : Dev Cert.KernelMlaIdeal.nD,
          r.2.mem ((c.tc : Thread Cert.KernelMlaIdeal.nD Cert.KernelMlaIdeal.τ).loc Cert.KernelMlaIdeal.main_v0) = v0 c
          ∧ r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
          ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
          ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ θ_run (Cert.ReferenceMlaIdeal.defs (F := Ideal)) (onTc (τ := Cert.ReferenceMlaIdeal.τ) (Cert.ReferenceMlaIdeal.main (F := Ideal))) ⟨m', fun _ => 0, g'⟩ (fun r => ∀ c : Dev Cert.ReferenceMlaIdeal.nD,
          r.2.mem ((c.tc : Thread Cert.ReferenceMlaIdeal.nD Cert.ReferenceMlaIdeal.τ).loc Cert.ReferenceMlaIdeal.main_v28) = v0 c
          ∧ r.2.mem ((c.tc : Thread Cert.ReferenceMlaIdeal.nD Cert.ReferenceMlaIdeal.τ).loc Cert.ReferenceMlaIdeal.main_arg0) = m' ((c.tc : Thread Cert.ReferenceMlaIdeal.nD Cert.ReferenceMlaIdeal.τ).loc Cert.ReferenceMlaIdeal.main_arg0)
          ∧ r.2.mem ((c.tc : Thread Cert.ReferenceMlaIdeal.nD Cert.ReferenceMlaIdeal.τ).loc Cert.ReferenceMlaIdeal.main_arg1) = m' ((c.tc : Thread Cert.ReferenceMlaIdeal.nD Cert.ReferenceMlaIdeal.τ).loc Cert.ReferenceMlaIdeal.main_arg1)
          ∧ r.2.mem ((c.tc : Thread Cert.ReferenceMlaIdeal.nD Cert.ReferenceMlaIdeal.τ).loc Cert.ReferenceMlaIdeal.main_arg2) = m' ((c.tc : Thread Cert.ReferenceMlaIdeal.nD Cert.ReferenceMlaIdeal.τ).loc Cert.ReferenceMlaIdeal.main_arg2))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)) →
    ∃ (v0 : (c : Dev Cert.KernelProjIdeal.nD) → Buf (Elt Ideal) ((c.tc : Thread Cert.KernelProjIdeal.nD Cert.KernelProjIdeal.τ).loc Cert.KernelProjIdeal.main_v87_0)) (v1 : (c : Dev Cert.KernelProjIdeal.nD) → Buf (Elt Ideal) ((c.tc : Thread Cert.KernelProjIdeal.nD Cert.KernelProjIdeal.τ).loc Cert.KernelProjIdeal.main_v87_1)) (v2 : (c : Dev Cert.KernelProjIdeal.nD) → Buf (Elt Ideal) ((c.tc : Thread Cert.KernelProjIdeal.nD Cert.KernelProjIdeal.τ).loc Cert.KernelProjIdeal.main_v87_2)) (v3 : (c : Dev Cert.KernelProjIdeal.nD) → Buf (Elt Ideal) ((c.tc : Thread Cert.KernelProjIdeal.nD Cert.KernelProjIdeal.τ).loc Cert.KernelProjIdeal.main_v87_3)) (v4 : (c : Dev Cert.KernelProjIdeal.nD) → Buf (Elt Ideal) ((c.tc : Thread Cert.KernelProjIdeal.nD Cert.KernelProjIdeal.τ).loc Cert.KernelProjIdeal.main_v87_4)) (v5 : (c : Dev Cert.KernelProjIdeal.nD) → Buf (Elt Ideal) ((c.tc : Thread Cert.KernelProjIdeal.nD Cert.KernelProjIdeal.τ).loc Cert.KernelProjIdeal.main_v87_5)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v87_0) = v0 c
          ∧ r.2.mem ((c.tc : Thread Cert.KernelProjIdeal.nD Cert.KernelProjIdeal.τ).loc Cert.KernelProjIdeal.main_v87_1) = v1 c
          ∧ r.2.mem ((c.tc : Thread Cert.KernelProjIdeal.nD Cert.KernelProjIdeal.τ).loc Cert.KernelProjIdeal.main_v87_2) = v2 c
          ∧ r.2.mem ((c.tc : Thread Cert.KernelProjIdeal.nD Cert.KernelProjIdeal.τ).loc Cert.KernelProjIdeal.main_v87_3) = v3 c
          ∧ r.2.mem ((c.tc : Thread Cert.KernelProjIdeal.nD Cert.KernelProjIdeal.τ).loc Cert.KernelProjIdeal.main_v87_4) = v4 c
          ∧ r.2.mem ((c.tc : Thread Cert.KernelProjIdeal.nD Cert.KernelProjIdeal.τ).loc Cert.KernelProjIdeal.main_v87_5) = v5 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v106) = v0 c
          ∧ r.2.mem ((c.tc : Thread Cert.ReferenceProjIdeal.nD Cert.ReferenceProjIdeal.τ).loc Cert.ReferenceProjIdeal.main_v109) = v1 c
          ∧ r.2.mem ((c.tc : Thread Cert.ReferenceProjIdeal.nD Cert.ReferenceProjIdeal.τ).loc Cert.ReferenceProjIdeal.main_v112) = v2 c
          ∧ r.2.mem ((c.tc : Thread Cert.ReferenceProjIdeal.nD Cert.ReferenceProjIdeal.τ).loc Cert.ReferenceProjIdeal.main_v115) = v3 c
          ∧ r.2.mem ((c.tc : Thread Cert.ReferenceProjIdeal.nD Cert.ReferenceProjIdeal.τ).loc Cert.ReferenceProjIdeal.main_v125) = v4 c
          ∧ r.2.mem ((c.tc : Thread Cert.ReferenceProjIdeal.nD Cert.ReferenceProjIdeal.τ).loc Cert.ReferenceProjIdeal.main_v126) = v5 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7))

def Claim : Prop :=
  ∃ (hKernel : Cert.Kernel.Facts) (hKernelIdeal : Cert.KernelIdeal.Facts) (hReferenceIdeal : Cert.ReferenceIdeal.Facts) (hKernelFinal : Cert.KernelFinal.Facts) (hKernelFinalIdeal : Cert.KernelFinalIdeal.Facts) (hReferenceFinalIdeal : Cert.ReferenceFinalIdeal.Facts) (hKernelMid : Cert.KernelMid.Facts) (hKernelMidIdeal : Cert.KernelMidIdeal.Facts) (hReferenceMidIdeal : Cert.ReferenceMidIdeal.Facts) (hKernelMla : Cert.KernelMla.Facts) (hKernelMlaIdeal : Cert.KernelMlaIdeal.Facts) (hReferenceMlaIdeal : Cert.ReferenceMlaIdeal.Facts) (hKernelProj : Cert.KernelProj.Facts) (hKernelProjIdeal : Cert.KernelProjIdeal.Facts) (hReferenceProjIdeal : Cert.ReferenceProjIdeal.Facts) (hPre_finite_scores : Cert.Pre_finite_scores.Facts) (hPre_finite_latent : Cert.Pre_finite_latent.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelMla (hKernelMla := hKernelMla)
    ∧ quiescent_KernelMlaIdeal (hKernelMlaIdeal := hKernelMlaIdeal)
    ∧ quiescent_KernelMlaIdeal_pre_finite_latent (hKernelMlaIdeal := hKernelMlaIdeal) (hPre_finite_latent := hPre_finite_latent)
    ∧ quiescent_ReferenceMlaIdeal (hReferenceMlaIdeal := hReferenceMlaIdeal)
    ∧ quiescent_ReferenceMlaIdeal_pre_finite_latent (hReferenceMlaIdeal := hReferenceMlaIdeal) (hPre_finite_latent := hPre_finite_latent)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelMid_KernelMidIdeal
    ∧ algebraic_KernelMidIdeal_ReferenceMidIdeal (hKernelMidIdeal := hKernelMidIdeal) (hReferenceMidIdeal := hReferenceMidIdeal)
    ∧ preserves_KernelMla_KernelMlaIdeal
    ∧ algebraic_KernelMlaIdeal_ReferenceMlaIdeal_pre_finite_latent (hKernelMlaIdeal := hKernelMlaIdeal) (hReferenceMlaIdeal := hReferenceMlaIdeal) (hPre_finite_latent := hPre_finite_latent)
    ∧ preserves_KernelProj_KernelProjIdeal
    ∧ algebraic_KernelProjIdeal_ReferenceProjIdeal (hKernelProjIdeal := hKernelProjIdeal) (hReferenceProjIdeal := hReferenceProjIdeal)
-- ==== Pre_finite_latent.lean ====
abbrev S8x4096x1024 : Shape := ⟨3, ![8, 4096, 1024]⟩
abbrev S8x4096x512 : Shape := ⟨3, ![8, 4096, 512]⟩
abbrev S_ : Shape := ⟨0, ![]⟩

class Facts : Prop where
  bcast_S_S8x4096x1024 : S_.BroadcastsInDim S8x4096x1024 (![] : Fin 0 → Fin S8x4096x1024.rank)

variable [Facts]

def fn {F : FTy → Type} [FloatOps F] (main_arg0 : FVec F S8x4096x1024 .bf16) (main_arg1 : FVec F S8x4096x1024 .bf16) (main_arg2 : FVec F S8x4096x512 .bf16) : IVec S8x4096x1024 1 × IVec S8x4096x1024 1 :=
  let main_v0 : FVec F S8x4096x1024 .bf16 := Host.absf main_arg0
  let main_v1 : FVec F S8x4096x1024 .bf16 := Host.absf main_arg1
  let main_cst : FVec F S_ .bf16 := constant S_ .bf16 0x7F80#16
  let main_v2 : FVec F S8x4096x1024 .bf16 := broadcastInDim S8x4096x1024 ![] bcast_S_S8x4096x1024 main_cst
  let main_v3 : IVec S8x4096x1024 1 := cmpf .olt main_v0 main_v2
  let main_cst_0 : FVec F S_ .bf16 := constant S_ .bf16 0x7F80#16
  let main_v4 : FVec F S8x4096x1024 .bf16 := broadcastInDim S8x4096x1024 ![] bcast_S_S8x4096x1024 main_cst_0
  let main_v5 : IVec S8x4096x1024 1 := cmpf .olt main_v1 main_v4
  (main_v3, main_v5)
-- ==== Pre_finite_scores.lean ====
abbrev S8x4096x4096 : Shape := ⟨3, ![8, 4096, 4096]⟩
abbrev S8x16x4096 : Shape := ⟨3, ![8, 16, 4096]⟩
abbrev S8x4096x2048 : Shape := ⟨3, ![8, 4096, 2048]⟩
abbrev S_ : Shape := ⟨0, ![]⟩

class Facts : Prop where
  slices_S8x4096x4096_S8x4096x2048_0_0_0 : S8x4096x4096.Slices ![0, 0, 0] S8x4096x2048
  bcast_S_S8x4096x2048 : S_.BroadcastsInDim S8x4096x2048 (![] : Fin 0 → Fin S8x4096x2048.rank)
  bcast_S_S8x16x4096 : S_.BroadcastsInDim S8x16x4096 (![] : Fin 0 → Fin S8x16x4096.rank)

variable [Facts]

def fn {F : FTy → Type} [FloatOps F] (main_arg0 : FVec F S8x4096x4096 .bf16) (main_arg1 : FVec F S8x16x4096 .f32) : IVec S8x4096x2048 1 × IVec S8x16x4096 1 :=
  let main_v0 : FVec F S8x4096x2048 .bf16 := (extractStridedSlice S8x4096x2048 ![0, 0, 0] · slices_S8x4096x4096_S8x4096x2048_0_0_0) main_arg0
  let main_v1 : FVec F S8x4096x2048 .bf16 := Host.absf main_v0
  let main_v2 : FVec F S8x16x4096 .f32 := Host.absf main_arg1
  let main_cst : FVec F S_ .bf16 := constant S_ .bf16 0x7F80#16
  let main_v3 : FVec F S8x4096x2048 .bf16 := broadcastInDim S8x4096x2048 ![] bcast_S_S8x4096x2048 main_cst
  let main_v4 : IVec S8x4096x2048 1 := cmpf .olt main_v1 main_v3
  let main_cst_0 : FVec F S_ .f32 := constant S_ .f32 0x7F800000#32
  let main_v5 : FVec F S8x16x4096 .f32 := broadcastInDim S8x16x4096 ![] bcast_S_S8x16x4096 main_cst_0
  let main_v6 : IVec S8x16x4096 1 := cmpf .olt main_v2 main_v5
  (main_v4, main_v6)
-- ==== Kernel.lean ====
abbrev S8x4096x4096 : Shape := ⟨3, ![8, 4096, 4096]⟩
abbrev S8x16x4096 : Shape := ⟨3, ![8, 16, 4096]⟩
abbrev S8x16x8x1x512 : Shape := ⟨5, ![8, 16, 8, 1, 512]⟩
abbrev S8x4096x1024 : Shape := ⟨3, ![8, 4096, 1024]⟩
abbrev S1x4096x128 : Shape := ⟨3, ![1, 4096, 128]⟩
abbrev S1x2x8x1x512 : Shape := ⟨5, ![1, 2, 8, 1, 512]⟩
abbrev S512x128 : Shape := ⟨2, ![512, 128]⟩
abbrev S512x512 : Shape := ⟨2, ![512, 512]⟩
abbrev S1x512x128 : Shape := ⟨3, ![1, 512, 128]⟩
abbrev S1x1x1x1x512 : Shape := ⟨5, ![1, 1, 1, 1, 512]⟩
abbrev S1x512 : Shape := ⟨2, ![1, 512]⟩
abbrev S1x1 : Shape := ⟨2, ![1, 1]⟩
abbrev S512 : Shape := ⟨1, ![512]⟩
abbrev S512x1 : Shape := ⟨2, ![512, 1]⟩

abbrev nBuf : Space → Nat
  | .hbm => 4
  | .vmem => 13
  | .smem => 0
  | _ => 0

abbrev bufTy : (tb : Table) → Fin (tcTables nBuf tb) → BufTy
  | .hbm, ⟨0, _⟩ => ⟨S8x4096x4096, .bf16⟩
  | .hbm, ⟨1, _⟩ => ⟨S8x16x4096, .f32⟩
  | .hbm, ⟨2, _⟩ => ⟨S8x16x8x1x512, .f32⟩
  | .hbm, ⟨3, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x8x1x512, .f32⟩
  | .local _ .vmem, ⟨7, _⟩ => ⟨S1x2x8x1x512, .f32⟩
  | .local _ .vmem, ⟨8, _⟩ => ⟨S1x4096x128, .bf16⟩
  | .local _ .vmem, ⟨9, _⟩ => ⟨S1x4096x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v9 : BitVec 32 := Scalar.muli arg10 c512_i32
  v9
def k0_off1 (k0_t1 : Fin k0_t1_loop.trips) : Fin 3 → Nat :=
  let c0 : Index := 0#32
  let c0_i32 : BitVec 32 := 0#32
  let c1_i32 : BitVec 32 := 1#32
  let arg10 : BitVec 32 := Scf.iv c0_i32 c1_i32 k0_t1
  let c512_i32 : BitVec 32 := 512#32
  let v9 : BitVec 32 := Scalar.muli arg10 c512_i32
  let v10 : BitVec 32 := v9
  let v11 : Index := Scalar.indexCast v10
  let c0_6 : Index := 0#32
  ![0, v11.toNat, 0]
def k0_off2 (k0_t1 : Fin k0_t1_loop.trips) : Fin 5 → Nat :=
  let c0_16 : Index := 0#32
  let c0_17 : Index := 0#32
  let c0_i32 : BitVec 32 := 0#32
  let c1_i32 : BitVec 32 := 1#32
  let arg10 : BitVec 32 := Scf.iv c0_i32 c1_i32 k0_t1
  let v28 : Index := Scalar.indexCast arg10
  let c0_18 : Index := 0#32
  let c0_19 : Index := 0#32
  ![0, 0, v28.toNat, 0, 0]
@[reducible] def k0_t2_loop (k0_t1 : Fin k0_t1_loop.trips) : Scf.Loop 32 :=
  let c0_i32_21 : BitVec 32 := 0#32
  let c0_i32 : BitVec 32 := 0#32
  let c1_i32 : BitVec 32 := 1#32
  let arg10 : BitVec 32 := Scf.iv c0_i32 c1_i32 k0_t1
  let v32 : BitVec 32 := Scalar.subi arg10 c0_i32_21
  let c1_i32_22 : BitVec 32 := 1#32
  let v34 : BitVec 32 := Scalar.divsi v32 c1_i32_22
  let v35 : BitVec 32 := Scalar.muli v34 c1_i32_22
  let v36 : BitVec 32 := Scalar.addi c0_i32_21 v35
  let c1_i32_23 : BitVec 32 := 1#32
  ⟨c0_i32_21, v36, c1_i32_23⟩
def k0_mult2 (k0_t1 : Fin k0_t1_loop.trips) (k0_t2 : Fin (k0_t2_loop k0_t1).trips) : BitVec 32 :=
  let c0_i32_21 : BitVec 32 := 0#32
  let c1_i32_23 : BitVec 32 := 1#32
  let arg11 : BitVec 32 := Scf.iv c0_i32_21 c1_i32_23 k0_t2
  let c512_i32_57 : BitVec 32 := 512#32
  let v94 : BitVec 32 := Scalar.muli arg11 c512_i32_57
  v94
def k0_off3 (k0_t1 : Fin k0_t1_loop.trips) (k0_t2 : Fin (k0_t2_loop k0_t1).trips) : Fin 3 → Nat :=
  let c0_58 : Index := 0#32
  let c0_i32_21 : BitVec 32 := 0#32
  let c1_i32_23 : BitVec 32 := 1#32
  let arg11 : BitVec 32 := Scf.iv c0_i32_21 c1_i32_23 k0_t2
  let c512_i32_57 : BitVec 32 := 512#32
  let v94 : BitVec 32 := Scalar.muli arg11 c512_i32_57
  let v95 : BitVec 32 := v94
  let v96 : Index := Scalar.indexCast v95
  let c0_59 : Index := 0#32
  ![0, v96.toNat, 0]
def k0_off4 (k0_t1 : Fin k0_t1_loop.trips) (k0_t2 : Fin (k0_t2_loop k0_t1).trips) : Fin 5 → Nat :=
  let c0_61 : Index := 0#32
  let c0_62 : Index := 0#32
  let c0_i32_21 : BitVec 32 := 0#32
  let c1_i32_23 : BitVec 32 := 1#32
  let arg11 : BitVec 32 := Scf.iv c0_i32_21 c1_i32_23 k0_t2
  let v100 : Index := Scalar.indexCast arg11
  let c0_63 : Index := 0#32
  let c0_64 : Index := 0#32
  ![0, 0, v100.toNat, 0, 0]
@[reducible] def k0_t3_loop (k0_t1 : Fin k0_t1_loop.trips) : Scf.Loop 32 :=
  let c0_i32_21 : BitVec 32 := 0#32
  let c0_i32 : BitVec 32 := 0#32
  let c1_i32 : BitVec 32 := 1#32
  let arg10 : BitVec 32 := Scf.iv c0_i32 c1_i32 k0_t1
  let v32 : BitVec 32 := Scalar.subi arg10 c0_i32_21
  let c1_i32_22 : BitVec 32 := 1#32
  let v34 : BitVec 32 := Scalar.divsi v32 c1_i32_22
  let v35 : BitVec 32 := Scalar.muli v34 c1_i32_22
  let v36 : BitVec 32 := Scalar.addi c0_i32_21 v35
  let v33 : BitVec 32 := Scalar.addi c0_i32_21 v32
  let c1_i32_24 : BitVec 32 := 1#32
  ⟨v36, v33, c1_i32_24⟩
def k0_mult3 (k0_t1 : Fin k0_t1_loop.trips) (k0_t3 : Fin (k0_t3_loop k0_t1).trips) : BitVec 32 :=
  let c0_i32_21 : BitVec 32 := 0#32
  let c0_i32 : BitVec 32 := 0#32
  let c1_i32 : BitVec 32 := 1#32
  let arg10 : BitVec 32 := Scf.iv c0_i32 c1_i32 k0_t1
  let v32 : BitVec 32 := Scalar.subi arg10 c0_i32_21
  let c1_i32_22 : BitVec 32 := 1#32
  let v34 : BitVec 32 := Scalar.divsi v32 c1_i32_22
  let v35 : BitVec 32 := Scalar.muli v34 c1_i32_22
  let v36 : BitVec 32 := Scalar.addi c0_i32_21 v35
  let c1_i32_24 : BitVec 32 := 1#32
  let arg11 : BitVec 32 := Scf.iv v36 c1_i32_24 k0_t3
  let c512_i32_57 : BitVec 32 := 512#32
  let v94 : BitVec 32 := Scalar.muli arg11 c512_i32_57
  v94
def k0_off5 (k0_t1 : Fin k0_t1_loop.trips) (k0_t3 : Fin (k0_t3_loop k0_t1).trips) : Fin 3 → Nat :=
  let c0_58 : Index := 0#32
  let c0_i32_21 : BitVec 32 := 0#32
  let c0_i32 : BitVec 32 := 0#32
  let c1_i32 : BitVec 32 := 1#32
  let arg10 : BitVec 32 := Scf.iv c0_i32 c1_i32 k0_t1
  let v32 : BitVec 32 := Scalar.subi arg10 c0_i32_21
  let c1_i32_22 : BitVec 32 := 1#32
  let v34 : BitVec 32 := Scalar.divsi v32 c1_i32_22
  let v35 : BitVec 32 := Scalar.muli v34 c1_i32_22
  let v36 : BitVec 32 := Scalar.addi c0_i32_21 v35
  let c1_i32_24 : BitVec 32 := 1#32
  let arg11 : BitVec 32 := Scf.iv v36 c1_i32_24 k0_t3
  let c512_i32_57 : BitVec 32 := 512#32
  let v94 : BitVec 32 := Scalar.muli arg11 c512_i32_57
  let v95 : BitVec 32 := v94
  let v96 : Index := Scalar.indexCast v95
  let c0_59 : Index := 0#32
  ![0, v96.toNat, 0]
def k0_off6 (k0_t1 : Fin k0_t1_loop.trips) (k0_t3 : Fin (k0_t3_loop k0_t1).trips) : Fin 5 → Nat :=
  let c0_61 : Index := 0#32
  let c0_62 : Index := 0#32
  let c0_i32_21 : BitVec 32 := 0#32
  let c0_i32 : BitVec 32 := 0#32
  let c1_i32 : BitVec 32 := 1#32
  let arg10 : BitVec 32 := Scf.iv c0_i32 c1_i32 k0_t1
  let v32 : BitVec 32 := Scalar.subi arg10 c0_i32_21
  let c1_i32_22 : BitVec 32 := 1#32
  let v34 : BitVec 32 := Scalar.divsi v32 c1_i32_22
  let v35 : BitVec 32 := Scalar.muli v34 c1_i32_22
  let v36 : BitVec 32 := Scalar.addi c0_i32_21 v35
  let c1_i32_24 : BitVec 32 := 1#32
  let arg11 : BitVec 32 := Scf.iv v36 c1_i32_24 k0_t3
  let v100 : Index := Scalar.indexCast arg11
  let c0_63 : Index := 0#32
  let c0_64 : Index := 0#32
  ![0, 0, v100.toNat, 0, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_25 : BitVec 32 := 512#32
  let v37 : BitVec 32 := Scalar.muli arg10 c512_i32_25
  v37
@[reducible] def k0_t4_loop : Scf.Loop 32 :=
  let c0_i32_2 : BitVec 32 := 0#32
  let c8_i32_3 : BitVec 32 := 8#32
  let v8 : BitVec 32 := Scalar.addi c0_i32_2 c8_i32_3
  let c1_i32_4 : BitVec 32 := 1#32
  ⟨c0_i32_2, v8, c1_i32_4⟩
def k0_mult5 (k0_t4 : Fin k0_t4_loop.trips) : BitVec 32 :=
  let c0_i32_2 : BitVec 32 := 0#32
  let c1_i32_4 : BitVec 32 := 1#32
  let arg10 : BitVec 32 := Scf.iv c0_i32_2 c1_i32_4 k0_t4
  let c512_i32 : BitVec 32 := 512#32
  let v9 : BitVec 32 := Scalar.muli arg10 c512_i32
  v9
def k0_off7 (k0_t4 : Fin k0_t4_loop.trips) : Fin 3 → Nat :=
  let c0 : Index := 0#32
  let c0_i32_2 : BitVec 32 := 0#32
  let c1_i32_4 : BitVec 32 := 1#32
  let arg10 : BitVec 32 := Scf.iv c0_i32_2 c1_i32_4 k0_t4
  let c512_i32 : BitVec 32 := 512#32
  let v9 : BitVec 32 := Scalar.muli arg10 c512_i32
  let v10 : BitVec 32 := v9
  let v11 : Index := Scalar.indexCast v10
  let c0_6 : Index := 0#32
  ![0, v11.toNat, 0]
def k0_off8 (k0_t4 : Fin k0_t4_loop.trips) : Fin 5 → Nat :=
  let c0_16 : Index := 0#32
  let c1 : Index := 1#32
  let c0_i32_2 : BitVec 32 := 0#32
  let c1_i32_4 : BitVec 32 := 1#32
  let arg10 : BitVec 32 := Scf.iv c0_i32_2 c1_i32_4 k0_t4
  let v28 : Index := Scalar.indexCast arg10
  let c0_17 : Index := 0#32
  let c0_18 : Index := 0#32
  ![0, 1, v28.toNat, 0, 0]
@[reducible] def k0_t5_loop (k0_t4 : Fin k0_t4_loop.trips) : Scf.Loop 32 :=
  let c0_i32_20 : BitVec 32 := 0#32
  let c0_i32_2 : BitVec 32 := 0#32
  let c1_i32_4 : BitVec 32 := 1#32
  let arg10 : BitVec 32 := Scf.iv c0_i32_2 c1_i32_4 k0_t4
  let v32 : BitVec 32 := Scalar.subi arg10 c0_i32_20
  let c1_i32_21 : BitVec 32 := 1#32
  let v34 : BitVec 32 := Scalar.divsi v32 c1_i32_21
  let v35 : BitVec 32 := Scalar.muli v34 c1_i32_21
  let v36 : BitVec 32 := Scalar.addi c0_i32_20 v35
  let c1_i32_22 : BitVec 32 := 1#32
  ⟨c0_i32_20, v36, c1_i32_22⟩
def k0_mult6 (k0_t4 : Fin k0_t4_loop.trips) (k0_t5 : Fin (k0_t5_loop k0_t4).trips) : BitVec 32 :=
  let c0_i32_20 : BitVec 32 := 0#32
  let c1_i32_22 : BitVec 32 := 1#32
  let arg11 : BitVec 32 := Scf.iv c0_i32_20 c1_i32_22 k0_t5
  let c512_i32_58 : BitVec 32 := 512#32
  let v98 : BitVec 32 := Scalar.muli arg11 c512_i32_58
  v98
def k0_off9 (k0_t4 : Fin k0_t4_loop.trips) (k0_t5 : Fin (k0_t5_loop k0_t4).trips) : Fin 3 → Nat :=
  let c0_59 : Index := 0#32
  let c0_i32_20 : BitVec 32 := 0#32
  let c1_i32_22 : BitVec 32 := 1#32
  let arg11 : BitVec 32 := Scf.iv c0_i32_20 c1_i32_22 k0_t5
  let c512_i32_58 : BitVec 32 := 512#32
  let v98 : BitVec 32 := Scalar.muli arg11 c512_i32_58
  let v99 : BitVec 32 := v98
  let v100 : Index := Scalar.indexCast v99
  let c0_60 : Index := 0#32
  ![0, v100.toNat, 0]
def k0_off10 (k0_t4 : Fin k0_t4_loop.trips) (k0_t5 : Fin (k0_t5_loop k0_t4).trips) : Fin 5 → Nat :=
  let c0_62 : Index := 0#32
  let c1_63 : Index := 1#32
  let c0_i32_20 : BitVec 32 := 0#32
  let c1_i32_22 : BitVec 32 := 1#32
  let arg11 : BitVec 32 := Scf.iv c0_i32_20 c1_i32_22 k0_t5
  let v104 : Index := Scalar.indexCast arg11
  let c0_64 : Index := 0#32
  let c0_65 : Index := 0#32
  ![0, 1, v104.toNat, 0, 0]
@[reducible] def k0_t6_loop (k0_t4 : Fin k0_t4_loop.trips) : Scf.Loop 32 :=
  let c0_i32_20 : BitVec 32 := 0#32
  let c0_i32_2 : BitVec 32 := 0#32
  let c1_i32_4 : BitVec 32 := 1#32
  let arg10 : BitVec 32 := Scf.iv c0_i32_2 c1_i32_4 k0_t4
  let v32 : BitVec 32 := Scalar.subi arg10 c0_i32_20
  let c1_i32_21 : BitVec 32 := 1#32
  let v34 : BitVec 32 := Scalar.divsi v32 c1_i32_21
  let v35 : BitVec 32 := Scalar.muli v34 c1_i32_21
  let v36 : BitVec 32 := Scalar.addi c0_i32_20 v35
  let v33 : BitVec 32 := Scalar.addi c0_i32_20 v32
  let c1_i32_23 : BitVec 32 := 1#32
  ⟨v36, v33, c1_i32_23⟩
def k0_mult7 (k0_t4 : Fin k0_t4_loop.trips) (k0_t6 : Fin (k0_t6_loop k0_t4).trips) : BitVec 32 :=
  let c0_i32_20 : BitVec 32 := 0#32
  let c0_i32_2 : BitVec 32 := 0#32
  let c1_i32_4 : BitVec 32 := 1#32
  let arg10 : BitVec 32 := Scf.iv c0_i32_2 c1_i32_4 k0_t4
  let v32 : BitVec 32 := Scalar.subi arg10 c0_i32_20
  let c1_i32_21 : BitVec 32 := 1#32
  let v34 : BitVec 32 := Scalar.divsi v32 c1_i32_21
  let v35 : BitVec 32 := Scalar.muli v34 c1_i32_21
  let v36 : BitVec 32 := Scalar.addi c0_i32_20 v35
  let c1_i32_23 : BitVec 32 := 1#32
  let arg11 : BitVec 32 := Scf.iv v36 c1_i32_23 k0_t6
  let c512_i32_58 : BitVec 32 := 512#32
  let v98 : BitVec 32 := Scalar.muli arg11 c512_i32_58
  v98
def k0_off11 (k0_t4 : Fin k0_t4_loop.trips) (k0_t6 : Fin (k0_t6_loop k0_t4).trips) : Fin 3 → Nat :=
  let c0_59 : Index := 0#32
  let c0_i32_20 : BitVec 32 := 0#32
  let c0_i32_2 : BitVec 32 := 0#32
  let c1_i32_4 : BitVec 32 := 1#32
  let arg10 : BitVec 32 := Scf.iv c0_i32_2 c1_i32_4 k0_t4
  let v32 : BitVec 32 := Scalar.subi arg10 c0_i32_20
  let c1_i32_21 : BitVec 32 := 1#32
  let v34 : BitVec 32 := Scalar.divsi v32 c1_i32_21
  let v35 : BitVec 32 := Scalar.muli v34 c1_i32_21
  let v36 : BitVec 32 := Scalar.addi c0_i32_20 v35
  let c1_i32_23 : BitVec 32 := 1#32
  let arg11 : BitVec 32 := Scf.iv v36 c1_i32_23 k0_t6
  let c512_i32_58 : BitVec 32 := 512#32
  let v98 : BitVec 32 := Scalar.muli arg11 c512_i32_58
  let v99 : BitVec 32 := v98
  let v100 : Index := Scalar.indexCast v99
  let c0_60 : Index := 0#32
  ![0, v100.toNat, 0]
def k0_off12 (k0_t4 : Fin k0_t4_loop.trips) (k0_t6 : Fin (k0_t6_loop k0_t4).trips) : Fin 5 → Nat :=
  let c0_62 : Index := 0#32
  let c1_63 : Index := 1#32
  let c0_i32_20 : BitVec 32 := 0#32
  let c0_i32_2 : BitVec 32 := 0#32
  let c1_i32_4 : BitVec 32 := 1#32
  let arg10 : BitVec 32 := Scf.iv c0_i32_2 c1_i32_4 k0_t4
  let v32 : BitVec 32 := Scalar.subi arg10 c0_i32_20
  let c1_i32_21 : BitVec 32 := 1#32
  let v34 : BitVec 32 := Scalar.divsi v32 c1_i32_21
  let v35 : BitVec 32 := Scalar.muli v34 c1_i32_21
  let v36 : BitVec 32 := Scalar.addi c0_i32_20 v35
  let c1_i32_23 : BitVec 32 := 1#32
  let arg11 : BitVec 32 := Scf.iv v36 c1_i32_23 k0_t6
  let v104 : Index := Scalar.indexCast arg11
  let c0_64 : Index := 0#32
  let c0_65 : Index := 0#32
  ![0, 1, v104.toNat, 0, 0]
def k0_mult8 (k0_t4 : Fin k0_t4_loop.trips) : BitVec 32 :=
  let c0_i32_2 : BitVec 32 := 0#32
  let c1_i32_4 : BitVec 32 := 1#32
  let arg10 : BitVec 32 := Scf.iv c0_i32_2 c1_i32_4 k0_t4
  let c512_i32_24 : BitVec 32 := 512#32
  let v37 : BitVec 32 := Scalar.muli arg10 c512_i32_24
  v37
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x4096x4096 : Shape := ⟨3, ![8, 4096, 4096]⟩
abbrev S8x16x4096 : Shape := ⟨3, ![8, 16, 4096]⟩
abbrev S8x4096x1024 : Shape := ⟨3, ![8, 4096, 1024]⟩
abbrev S8x4096x16x64 : Shape := ⟨4, ![8, 4096, 16, 64]⟩
abbrev S8x16x4096x4096 : Shape := ⟨4, ![8, 16, 4096, 4096]⟩
abbrev S8x16x4096x1 : Shape := ⟨4, ![8, 16, 4096, 1]⟩
abbrev S8x16x1x4096 : Shape := ⟨4, ![8, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x16x64x4096 : Shape := ⟨4, ![8, 16, 64, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S8x16x4096, .f32⟩
  | .hbm, ⟨2, _⟩ => ⟨S8x4096x1024, .bf16⟩
  | .hbm, ⟨3, _⟩ => ⟨S8x4096x16x64, .bf16⟩
  | .hbm, ⟨4, _⟩ => ⟨S8x4096x16x64, .f32⟩
  | .hbm, ⟨5, _⟩ => ⟨S8x4096x1024, .bf16⟩
  | .hbm, ⟨6, _⟩ => ⟨S8x4096x16x64, .bf16⟩
  | .hbm, ⟨7, _⟩ => ⟨S8x4096x16x64, .f32⟩
  | .hbm, ⟨8, _⟩ => ⟨S8x4096x1024, .bf16⟩
  | .hbm, ⟨9, _⟩ => ⟨S8x4096x16x64, .bf16⟩
  | .hbm, ⟨10, _⟩ => ⟨S8x4096x16x64, .f32⟩
  | .hbm, ⟨11, _⟩ => ⟨S8x16x4096x4096, .f32⟩
  | .hbm, ⟨12, _⟩ => ⟨S8x16x4096x1, .f32⟩
  | .hbm, ⟨13, _⟩ => ⟨S8x16x4096x4096, .f32⟩
  | .hbm, ⟨14, _⟩ => ⟨S8x16x4096x4096, .f32⟩
  | .hbm, ⟨15, _⟩ => ⟨S8x16x1x4096, .f32⟩
  | .hbm, ⟨16, _⟩ => ⟨S8x16x4096x4096, .f32⟩
  | .hbm, ⟨17, _⟩ => ⟨S8x16x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x16x4096x4096, .i1⟩
  | .hbm, ⟨27, _⟩ => ⟨S8x16x4096x4096, .f32⟩
  | .hbm, ⟨28, _⟩ => ⟨S8x16x4096x4096, .f32⟩
  | .hbm, ⟨29, _⟩ => ⟨S_, .f32⟩
  | .hbm, ⟨30, _⟩ => ⟨S8x16x4096, .f32⟩
  | .hbm, ⟨31, _⟩ => ⟨S_, .f32⟩
  | .hbm, ⟨32, _⟩ => ⟨S8x16x4096, .f32⟩
  | .hbm, ⟨33, _⟩ => ⟨S8x16x4096, .f32⟩
  | .hbm, ⟨34, _⟩ => ⟨S8x16x4096x1, .f32⟩
  | .hbm, ⟨35, _⟩ => ⟨S8x16x4096x4096, .f32⟩
  | .hbm, ⟨36, _⟩ => ⟨S8x16x4096x4096, .f32⟩
  | .hbm, ⟨37, _⟩ => ⟨S8x16x4096x4096, .f32⟩
  | .hbm, ⟨38, _⟩ => ⟨S_, .f32⟩
  | .hbm, ⟨39, _⟩ => ⟨S8x16x4096, .f32⟩
  | .hbm, ⟨40, _⟩ => ⟨S8x16x4096x1, .f32⟩
  | .hbm, ⟨41, _⟩ => ⟨S8x16x4096x4096, .f32⟩
  | .hbm, ⟨42, _⟩ => ⟨S8x16x4096x4096, .f32⟩
  | .hbm, ⟨43, _⟩ => ⟨S8x16x64x4096, .f32⟩
  | .hbm, ⟨44, _⟩ => ⟨S8x4096x16x64, .f32⟩
  | .hbm, ⟨45, _⟩ => ⟨S8x4096x1024, .f32⟩
  | .hbm, ⟨46, _⟩ => ⟨S8x4096x1024, .bf16⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== KernelFinal.lean ====
abbrev S8x4096x1024 : Shape := ⟨3, ![8, 4096, 1024]⟩
abbrev S8x4096x4096 : Shape := ⟨3, ![8, 4096, 4096]⟩
abbrev S1024x1024 : Shape := ⟨2, ![1024, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x4096, .bf16⟩
  | .hbm, ⟨3, _⟩ => ⟨S1024x1024, .bf16⟩
  | .hbm, ⟨4, _⟩ => ⟨S1x1024, .f32⟩
  | .hbm, ⟨5, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFinalIdeal.lean ====
abbrev S8x4096x1024 : Shape := ⟨3, ![8, 4096, 1024]⟩
abbrev S8x4096x4096 : Shape := ⟨3, ![8, 4096, 4096]⟩
abbrev S1024x1024 : Shape := ⟨2, ![1024, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x4096, .bf16⟩
  | .hbm, ⟨3, _⟩ => ⟨S1024x1024, .bf16⟩
  | .hbm, ⟨4, _⟩ => ⟨S1x1024, .f32⟩
  | .hbm, ⟨5, _⟩ => ⟨S8x4096x1024, .bf16⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S1024x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== KernelMid.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1x1024 : Shape := ⟨2, ![1, 1024]⟩
abbrev S1024x4096 : Shape := ⟨2, ![1024, 4096]⟩
abbrev S1024x128 : Shape := ⟨2, ![1024, 128]⟩
abbrev S8x4096x4096 : Shape := ⟨3, ![8, 4096, 4096]⟩
abbrev S8x4096x128 : Shape := ⟨3, ![8, 4096, 128]⟩
abbrev S1x512x1024 : Shape := ⟨3, ![1, 512, 1024]⟩
abbrev S1x512x512 : Shape := ⟨3, ![1, 512, 512]⟩
abbrev S1x512x4096 : Shape := ⟨3, ![1, 512, 4096]⟩
abbrev S1x512x128 : Shape := ⟨3, ![1, 512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 11
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x1024, .bf16⟩
  | .hbm, ⟨4, _⟩ => ⟨S1024x1024, .bf16⟩
  | .hbm, ⟨5, _⟩ => ⟨S1x1024, .f32⟩
  | .hbm, ⟨6, _⟩ => ⟨S1024x4096, .bf16⟩
  | .hbm, ⟨7, _⟩ => ⟨S1024x128, .bf16⟩
  | .hbm, ⟨8, _⟩ => ⟨S8x4096x1024, .f32⟩
  | .hbm, ⟨9, _⟩ => ⟨S8x4096x4096, .bf16⟩
  | .hbm, ⟨10, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S1024x128, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x4096, .bf16⟩
  | .local _ .vmem, ⟨15, _⟩ => ⟨S1x512x4096, .bf16⟩
  | .local _ .vmem, ⟨16, _⟩ => ⟨S1x512x128, .f32⟩
  | .local _ .vmem, ⟨17, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceMidIdeal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1x1024 : Shape := ⟨2, ![1, 1024]⟩
abbrev S1024x4096 : Shape := ⟨2, ![1024, 4096]⟩
abbrev S1024x128 : Shape := ⟨2, ![1024, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S8x4096x128 : Shape := ⟨3, ![8, 4096, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x1024, .bf16⟩
  | .hbm, ⟨4, _⟩ => ⟨S1024x1024, .bf16⟩
  | .hbm, ⟨5, _⟩ => ⟨S1x1024, .f32⟩
  | .hbm, ⟨6, _⟩ => ⟨S1024x4096, .bf16⟩
  | .hbm, ⟨7, _⟩ => ⟨S1024x128, .bf16⟩
  | .hbm, ⟨8, _⟩ => ⟨S8x4096x1024, .bf16⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S1024x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S1024x4096, .f32⟩
  | .hbm, ⟨41, _⟩ => ⟨S8x4096x4096, .f32⟩
  | .hbm, ⟨42, _⟩ => ⟨S8x4096x4096, .bf16⟩
  | .hbm, ⟨43, _⟩ => ⟨S1024x128, .f32⟩
  | .hbm, ⟨44, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== KernelMla.lean ====
abbrev S8x4096x1024 : Shape := ⟨3, ![8, 4096, 1024]⟩
abbrev S8x4096x512 : Shape := ⟨3, ![8, 4096, 512]⟩
abbrev S1x4096x256 : Shape := ⟨3, ![1, 4096, 256]⟩
abbrev S1x4096x128 : Shape := ⟨3, ![1, 4096, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x512, .bf16⟩
  | .hbm, ⟨3, _⟩ => ⟨S8x4096x512, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v7 : BitVec 32 := Scalar.muli arg9 c512_i32
  v7
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c512_i32 : BitVec 32 := 512#32
  let v7 : BitVec 32 := Scalar.muli arg9 c512_i32
  let v8 : BitVec 32 := v7
  let v9 : Index := Scalar.indexCast v8
  let c0_5 : Index := 0#32
  ![0, v9.toNat, 0]
@[reducible] def k0_t2_loop (k0_t1 : Fin k0_t1_loop.trips) : Scf.Loop 32 :=
  let c0_i32_15 : BitVec 32 := 0#32
  let c0_i32 : BitVec 32 := 0#32
  let c1_i32 : BitVec 32 := 1#32
  let arg9 : BitVec 32 := Scf.iv c0_i32 c1_i32 k0_t1
  let v24 : BitVec 32 := Scalar.subi arg9 c0_i32_15
  let c1_i32_16 : BitVec 32 := 1#32
  let v26 : BitVec 32 := Scalar.divsi v24 c1_i32_16
  let v27 : BitVec 32 := Scalar.muli v26 c1_i32_16
  let v28 : BitVec 32 := Scalar.addi c0_i32_15 v27
  let c1_i32_17 : BitVec 32 := 1#32
  ⟨c0_i32_15, v28, c1_i32_17⟩
def k0_mult2 (k0_t1 : Fin k0_t1_loop.trips) (k0_t2 : Fin (k0_t2_loop k0_t1).trips) : BitVec 32 :=
  let c0_i32_15 : BitVec 32 := 0#32
  let c1_i32_17 : BitVec 32 := 1#32
  let arg10 : BitVec 32 := Scf.iv c0_i32_15 c1_i32_17 k0_t2
  let c512_i32_47 : BitVec 32 := 512#32
  let v79 : BitVec 32 := Scalar.muli arg10 c512_i32_47
  v79
def k0_off2 (k0_t1 : Fin k0_t1_loop.trips) (k0_t2 : Fin (k0_t2_loop k0_t1).trips) : Fin 3 → Nat :=
  let c0_48 : Index := 0#32
  let c0_i32_15 : BitVec 32 := 0#32
  let c1_i32_17 : BitVec 32 := 1#32
  let arg10 : BitVec 32 := Scf.iv c0_i32_15 c1_i32_17 k0_t2
  let c512_i32_47 : BitVec 32 := 512#32
  let v79 : BitVec 32 := Scalar.muli arg10 c512_i32_47
  let v80 : BitVec 32 := v79
  let v81 : Index := Scalar.indexCast v80
  let c0_49 : Index := 0#32
  ![0, v81.toNat, 0]
def k0_off3 (k0_t1 : Fin k0_t1_loop.trips) (k0_t2 : Fin (k0_t2_loop k0_t1).trips) : Fin 3 → Nat :=
  let c0_61 : Index := 0#32
  let c0_i32_15 : BitVec 32 := 0#32
  let c1_i32_17 : BitVec 32 := 1#32
  let arg10 : BitVec 32 := Scf.iv c0_i32_15 c1_i32_17 k0_t2
  let c512_i32_47 : BitVec 32 := 512#32
  let v79 : BitVec 32 := Scalar.muli arg10 c512_i32_47
  let v80 : BitVec 32 := v79
  let v107 : Index := Scalar.indexCast v80
  let c0_62 : Index := 0#32
  ![0, v107.toNat, 0]
@[reducible] def k0_t3_loop (k0_t1 : Fin k0_t1_loop.trips) : Scf.Loop 32 :=
  let c0_i32_15 : BitVec 32 := 0#32
  let c0_i32 : BitVec 32 := 0#32
  let c1_i32 : BitVec 32 := 1#32
  let arg9 : BitVec 32 := Scf.iv c0_i32 c1_i32 k0_t1
  let v24 : BitVec 32 := Scalar.subi arg9 c0_i32_15
  let c1_i32_16 : BitVec 32 := 1#32
  let v26 : BitVec 32 := Scalar.divsi v24 c1_i32_16
  let v27 : BitVec 32 := Scalar.muli v26 c1_i32_16
  let v28 : BitVec 32 := Scalar.addi c0_i32_15 v27
  let v25 : BitVec 32 := Scalar.addi c0_i32_15 v24
  let c1_i32_18 : BitVec 32 := 1#32
  ⟨v28, v25, c1_i32_18⟩
def k0_mult3 (k0_t1 : Fin k0_t1_loop.trips) (k0_t3 : Fin (k0_t3_loop k0_t1).trips) : BitVec 32 :=
  let c0_i32_15 : BitVec 32 := 0#32
  let c0_i32 : BitVec 32 := 0#32
  let c1_i32 : BitVec 32 := 1#32
  let arg9 : BitVec 32 := Scf.iv c0_i32 c1_i32 k0_t1
  let v24 : BitVec 32 := Scalar.subi arg9 c0_i32_15
  let c1_i32_16 : BitVec 32 := 1#32
  let v26 : BitVec 32 := Scalar.divsi v24 c1_i32_16
  let v27 : BitVec 32 := Scalar.muli v26 c1_i32_16
  let v28 : BitVec 32 := Scalar.addi c0_i32_15 v27
  let c1_i32_18 : BitVec 32 := 1#32
  let arg10 : BitVec 32 := Scf.iv v28 c1_i32_18 k0_t3
  let c512_i32_47 : BitVec 32 := 512#32
  let v79 : BitVec 32 := Scalar.muli arg10 c512_i32_47
  v79
def k0_off4 (k0_t1 : Fin k0_t1_loop.trips) (k0_t3 : Fin (k0_t3_loop k0_t1).trips) : Fin 3 → Nat :=
  let c0_48 : Index := 0#32
  let c0_i32_15 : BitVec 32 := 0#32
  let c0_i32 : BitVec 32 := 0#32
  let c1_i32 : BitVec 32 := 1#32
  let arg9 : BitVec 32 := Scf.iv c0_i32 c1_i32 k0_t1
  let v24 : BitVec 32 := Scalar.subi arg9 c0_i32_15
  let c1_i32_16 : BitVec 32 := 1#32
  let v26 : BitVec 32 := Scalar.divsi v24 c1_i32_16
  let v27 : BitVec 32 := Scalar.muli v26 c1_i32_16
  let v28 : BitVec 32 := Scalar.addi c0_i32_15 v27
  let c1_i32_18 : BitVec 32 := 1#32
  let arg10 : BitVec 32 := Scf.iv v28 c1_i32_18 k0_t3
  let c512_i32_47 : BitVec 32 := 512#32
  let v79 : BitVec 32 := Scalar.muli arg10 c512_i32_47
  let v80 : BitVec 32 := v79
  let v81 : Index := Scalar.indexCast v80
  let c0_49 : Index := 0#32
  ![0, v81.toNat, 0]
def k0_off5 (k0_t1 : Fin k0_t1_loop.trips) (k0_t3 : Fin (k0_t3_loop k0_t1).trips) : Fin 3 → Nat :=
  let c0_61 : Index := 0#32
  let c0_i32_15 : BitVec 32 := 0#32
  let c0_i32 : BitVec 32 := 0#32
  let c1_i32 : BitVec 32 := 1#32
  let arg9 : BitVec 32 := Scf.iv c0_i32 c1_i32 k0_t1
  let v24 : BitVec 32 := Scalar.subi arg9 c0_i32_15
  let c1_i32_16 : BitVec 32 := 1#32
  let v26 : BitVec 32 := Scalar.divsi v24 c1_i32_16
  let v27 : BitVec 32 := Scalar.muli v26 c1_i32_16
  let v28 : BitVec 32 := Scalar.addi c0_i32_15 v27
  let c1_i32_18 : BitVec 32 := 1#32
  let arg10 : BitVec 32 := Scf.iv v28 c1_i32_18 k0_t3
  let c512_i32_47 : BitVec 32 := 512#32
  let v79 : BitVec 32 := Scalar.muli arg10 c512_i32_47
  let v80 : BitVec 32 := v79
  let v107 : Index := Scalar.indexCast v80
  let c0_62 : Index := 0#32
  ![0, v107.toNat, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32_19 : BitVec 32 := 512#32
  let v29 : BitVec 32 := Scalar.muli arg9 c512_i32_19
  v29
def k0_off6 (k0_t1 : Fin k0_t1_loop.trips) : Fin 3 → Nat :=
  let c0_34 : Index := 0#32
  let c0_i32 : BitVec 32 := 0#32
  let c1_i32 : BitVec 32 := 1#32
  let arg9 : BitVec 32 := Scf.iv c0_i32 c1_i32 k0_t1
  let c512_i32_19 : BitVec 32 := 512#32
  let v29 : BitVec 32 := Scalar.muli arg9 c512_i32_19
  let v30 : BitVec 32 := v29
  let v60 : Index := Scalar.indexCast v30
  let c0_35 : Index := 0#32
  ![0, v60.toNat, 0]
@[reducible] def k0_t4_loop : Scf.Loop 32 :=
  let c0_i32_1 : BitVec 32 := 0#32
  let c8_i32_2 : BitVec 32 := 8#32
  let v6 : BitVec 32 := Scalar.addi c0_i32_1 c8_i32_2
  let c1_i32_3 : BitVec 32 := 1#32
  ⟨c0_i32_1, v6, c1_i32_3⟩
def k0_mult5 (k0_t4 : Fin k0_t4_loop.trips) : BitVec 32 :=
  let c0_i32_1 : BitVec 32 := 0#32
  let c1_i32_3 : BitVec 32 := 1#32
  let arg9 : BitVec 32 := Scf.iv c0_i32_1 c1_i32_3 k0_t4
  let c512_i32 : BitVec 32 := 512#32
  let v7 : BitVec 32 := Scalar.muli arg9 c512_i32
  v7
def k0_off7 (k0_t4 : Fin k0_t4_loop.trips) : Fin 3 → Nat :=
  let c0 : Index := 0#32
  let c0_i32_1 : BitVec 32 := 0#32
  let c1_i32_3 : BitVec 32 := 1#32
  let arg9 : BitVec 32 := Scf.iv c0_i32_1 c1_i32_3 k0_t4
  let c512_i32 : BitVec 32 := 512#32
  let v7 : BitVec 32 := Scalar.muli arg9 c512_i32
  let v8 : BitVec 32 := v7
  let v9 : Index := Scalar.indexCast v8
  let c128 : Index := 128#32
  ![0, v9.toNat, 128]
@[reducible] def k0_t5_loop (k0_t4 : Fin k0_t4_loop.trips) : Scf.Loop 32 :=
  let c0_i32_14 : BitVec 32 := 0#32
  let c0_i32_1 : BitVec 32 := 0#32
  let c1_i32_3 : BitVec 32 := 1#32
  let arg9 : BitVec 32 := Scf.iv c0_i32_1 c1_i32_3 k0_t4
  let v24 : BitVec 32 := Scalar.subi arg9 c0_i32_14
  let c1_i32_15 : BitVec 32 := 1#32
  let v26 : BitVec 32 := Scalar.divsi v24 c1_i32_15
  let v27 : BitVec 32 := Scalar.muli v26 c1_i32_15
  let v28 : BitVec 32 := Scalar.addi c0_i32_14 v27
  let c1_i32_16 : BitVec 32 := 1#32
  ⟨c0_i32_14, v28, c1_i32_16⟩
def k0_mult6 (k0_t4 : Fin k0_t4_loop.trips) (k0_t5 : Fin (k0_t5_loop k0_t4).trips) : BitVec 32 :=
  let c0_i32_14 : BitVec 32 := 0#32
  let c1_i32_16 : BitVec 32 := 1#32
  let arg10 : BitVec 32 := Scf.iv c0_i32_14 c1_i32_16 k0_t5
  let c512_i32_48 : BitVec 32 := 512#32
  let v83 : BitVec 32 := Scalar.muli arg10 c512_i32_48
  v83
def k0_off8 (k0_t4 : Fin k0_t4_loop.trips) (k0_t5 : Fin (k0_t5_loop k0_t4).trips) : Fin 3 → Nat :=
  let c0_49 : Index := 0#32
  let c0_i32_14 : BitVec 32 := 0#32
  let c1_i32_16 : BitVec 32 := 1#32
  let arg10 : BitVec 32 := Scf.iv c0_i32_14 c1_i32_16 k0_t5
  let c512_i32_48 : BitVec 32 := 512#32
  let v83 : BitVec 32 := Scalar.muli arg10 c512_i32_48
  let v84 : BitVec 32 := v83
  let v85 : Index := Scalar.indexCast v84
  let c128_50 : Index := 128#32
  ![0, v85.toNat, 128]
def k0_off9 (k0_t4 : Fin k0_t4_loop.trips) (k0_t5 : Fin (k0_t5_loop k0_t4).trips) : Fin 3 → Nat :=
  let c0_62 : Index := 0#32
  let c0_i32_14 : BitVec 32 := 0#32
  let c1_i32_16 : BitVec 32 := 1#32
  let arg10 : BitVec 32 := Scf.iv c0_i32_14 c1_i32_16 k0_t5
  let c512_i32_48 : BitVec 32 := 512#32
  let v83 : BitVec 32 := Scalar.muli arg10 c512_i32_48
  let v84 : BitVec 32 := v83
  let v111 : Index := Scalar.indexCast v84
  let c0_63 : Index := 0#32
  ![0, v111.toNat, 0]
@[reducible] def k0_t6_loop (k0_t4 : Fin k0_t4_loop.trips) : Scf.Loop 32 :=
  let c0_i32_14 : BitVec 32 := 0#32
  let c0_i32_1 : BitVec 32 := 0#32
  let c1_i32_3 : BitVec 32 := 1#32
  let arg9 : BitVec 32 := Scf.iv c0_i32_1 c1_i32_3 k0_t4
  let v24 : BitVec 32 := Scalar.subi arg9 c0_i32_14
  let c1_i32_15 : BitVec 32 := 1#32
  let v26 : BitVec 32 := Scalar.divsi v24 c1_i32_15
  let v27 : BitVec 32 := Scalar.muli v26 c1_i32_15
  let v28 : BitVec 32 := Scalar.addi c0_i32_14 v27
  let v25 : BitVec 32 := Scalar.addi c0_i32_14 v24
  let c1_i32_17 : BitVec 32 := 1#32
  ⟨v28, v25, c1_i32_17⟩
def k0_mult7 (k0_t4 : Fin k0_t4_loop.trips) (k0_t6 : Fin (k0_t6_loop k0_t4).trips) : BitVec 32 :=
  let c0_i32_14 : BitVec 32 := 0#32
  let c0_i32_1 : BitVec 32 := 0#32
  let c1_i32_3 : BitVec 32 := 1#32
  let arg9 : BitVec 32 := Scf.iv c0_i32_1 c1_i32_3 k0_t4
  let v24 : BitVec 32 := Scalar.subi arg9 c0_i32_14
  let c1_i32_15 : BitVec 32 := 1#32
  let v26 : BitVec 32 := Scalar.divsi v24 c1_i32_15
  let v27 : BitVec 32 := Scalar.muli v26 c1_i32_15
  let v28 : BitVec 32 := Scalar.addi c0_i32_14 v27
  let c1_i32_17 : BitVec 32 := 1#32
  let arg10 : BitVec 32 := Scf.iv v28 c1_i32_17 k0_t6
  let c512_i32_48 : BitVec 32 := 512#32
  let v83 : BitVec 32 := Scalar.muli arg10 c512_i32_48
  v83
def k0_off10 (k0_t4 : Fin k0_t4_loop.trips) (k0_t6 : Fin (k0_t6_loop k0_t4).trips) : Fin 3 → Nat :=
  let c0_49 : Index := 0#32
  let c0_i32_14 : BitVec 32 := 0#32
  let c0_i32_1 : BitVec 32 := 0#32
  let c1_i32_3 : BitVec 32 := 1#32
  let arg9 : BitVec 32 := Scf.iv c0_i32_1 c1_i32_3 k0_t4
  let v24 : BitVec 32 := Scalar.subi arg9 c0_i32_14
  let c1_i32_15 : BitVec 32 := 1#32
  let v26 : BitVec 32 := Scalar.divsi v24 c1_i32_15
  let v27 : BitVec 32 := Scalar.muli v26 c1_i32_15
  let v28 : BitVec 32 := Scalar.addi c0_i32_14 v27
  let c1_i32_17 : BitVec 32 := 1#32
  let arg10 : BitVec 32 := Scf.iv v28 c1_i32_17 k0_t6
  let c512_i32_48 : BitVec 32 := 512#32
  let v83 : BitVec 32 := Scalar.muli arg10 c512_i32_48
  let v84 : BitVec 32 := v83
  let v85 : Index := Scalar.indexCast v84
  let c128_50 : Index := 128#32
  ![0, v85.toNat, 128]
def k0_off11 (k0_t4 : Fin k0_t4_loop.trips) (k0_t6 : Fin (k0_t6_loop k0_t4).trips) : Fin 3 → Nat :=
  let c0_62 : Index := 0#32
  let c0_i32_14 : BitVec 32 := 0#32
  let c0_i32_1 : BitVec 32 := 0#32
  let c1_i32_3 : BitVec 32 := 1#32
  let arg9 : BitVec 32 := Scf.iv c0_i32_1 c1_i32_3 k0_t4
  let v24 : BitVec 32 := Scalar.subi arg9 c0_i32_14
  let c1_i32_15 : BitVec 32 := 1#32
  let v26 : BitVec 32 := Scalar.divsi v24 c1_i32_15
  let v27 : BitVec 32 := Scalar.muli v26 c1_i32_15
  let v28 : BitVec 32 := Scalar.addi c0_i32_14 v27
  let c1_i32_17 : BitVec 32 := 1#32
  let arg10 : BitVec 32 := Scf.iv v28 c1_i32_17 k0_t6
  let c512_i32_48 : BitVec 32 := 512#32
  let v83 : BitVec 32 := Scalar.muli arg10 c512_i32_48
  let v84 : BitVec 32 := v83
  let v111 : Index := Scalar.indexCast v84
  let c0_63 : Index := 0#32
  ![0, v111.toNat, 0]
def k0_mult8 (k0_t4 : Fin k0_t4_loop.trips) : BitVec 32 :=
  let c0_i32_1 : BitVec 32 := 0#32
  let c1_i32_3 : BitVec 32 := 1#32
  let arg9 : BitVec 32 := Scf.iv c0_i32_1 c1_i32_3 k0_t4
  let c512_i32_18 : BitVec 32 := 512#32
  let v29 : BitVec 32 := Scalar.muli arg9 c512_i32_18
  v29
def k0_off12 (k0_t4 : Fin k0_t4_loop.trips) : Fin 3 → Nat :=
  let c0_33 : Index := 0#32
  let c0_i32_1 : BitVec 32 := 0#32
  let c1_i32_3 : BitVec 32 := 1#32
  let arg9 : BitVec 32 := Scf.iv c0_i32_1 c1_i32_3 k0_t4
  let c512_i32_18 : BitVec 32 := 512#32
  let v29 : BitVec 32 := Scalar.muli arg9 c512_i32_18
  let v30 : BitVec 32 := v29
  let v60 : Index := Scalar.indexCast v30
  let c0_34 : Index := 0#32
  ![0, v60.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMlaIdeal.lean ====
abbrev S8x4096x1024 : Shape := ⟨3, ![8, 4096, 1024]⟩
abbrev S8x4096x512 : Shape := ⟨3, ![8, 4096, 512]⟩
abbrev S8x4096x8x128 : Shape := ⟨4, ![8, 4096, 8, 128]⟩
abbrev S8x4096x8x64 : Shape := ⟨4, ![8, 4096, 8, 64]⟩
abbrev S8x8x4096x4096 : Shape := ⟨4, ![8, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x512, .bf16⟩
  | .hbm, ⟨3, _⟩ => ⟨S8x4096x8x128, .bf16⟩
  | .hbm, ⟨4, _⟩ => ⟨S8x4096x8x128, .f32⟩
  | .hbm, ⟨5, _⟩ => ⟨S8x4096x8x128, .bf16⟩
  | .hbm, ⟨6, _⟩ => ⟨S8x4096x8x128, .f32⟩
  | .hbm, ⟨7, _⟩ => ⟨S8x4096x8x64, .bf16⟩
  | .hbm, ⟨8, _⟩ => ⟨S8x4096x8x64, .f32⟩
  | .hbm, ⟨9, _⟩ => ⟨S8x8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x8x4096x4096, .i1⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096, .f32⟩
  | .hbm, ⟨23, _⟩ => ⟨S_, .f32⟩
  | .hbm, ⟨24, _⟩ => ⟨S8x8x4096, .f32⟩
  | .hbm, ⟨25, _⟩ => ⟨S8x8x4096, .f32⟩
  | .hbm, ⟨26, _⟩ => ⟨S8x8x4096x1, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S_, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x64x4096, .f32⟩
  | .hbm, ⟨36, _⟩ => ⟨S8x4096x8x64, .f32⟩
  | .hbm, ⟨37, _⟩ => ⟨S8x4096x512, .f32⟩
  | .hbm, ⟨38, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== KernelProj.lean ====
abbrev S8x4096x1024 : Shape := ⟨3, ![8, 4096, 1024]⟩
abbrev S8x4096 : Shape := ⟨2, ![8, 4096]⟩
abbrev S1x1024 : Shape := ⟨2, ![1, 1024]⟩
abbrev S1024x2208 : Shape := ⟨2, ![1024, 2208]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x640 : Shape := ⟨2, ![1024, 640]⟩
abbrev S1024x64 : Shape := ⟨2, ![1024, 64]⟩
abbrev S256x8x96 : Shape := ⟨3, ![256, 8, 96]⟩
abbrev S256x8x128 : Shape := ⟨3, ![256, 8, 128]⟩
abbrev S256x1024 : Shape := ⟨2, ![256, 1024]⟩
abbrev S256x8x16 : Shape := ⟨3, ![256, 8, 16]⟩
abbrev S256x8x32 : Shape := ⟨3, ![256, 8, 32]⟩
abbrev S128x8x128 : Shape := ⟨3, ![128, 8, 128]⟩
abbrev S128x8x64 : Shape := ⟨3, ![128, 8, 64]⟩
abbrev S128x512 : Shape := ⟨2, ![128, 512]⟩
abbrev S8x4096x1 : Shape := ⟨3, ![8, 4096, 1]⟩
abbrev S16 : Shape := ⟨1, ![16]⟩
abbrev S8x128 : Shape := ⟨2, ![8, 128]⟩
abbrev S1 : Shape := ⟨1, ![1]⟩
abbrev S2 : Shape := ⟨1, ![2]⟩
abbrev S32 : Shape := ⟨1, ![32]⟩
abbrev S64 : Shape := ⟨1, ![64]⟩
abbrev S8x4096x512 : Shape := ⟨3, ![8, 4096, 512]⟩
abbrev S1x512x1024 : Shape := ⟨3, ![1, 512, 1024]⟩
abbrev S1x512x1 : Shape := ⟨3, ![1, 512, 1]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x640 : Shape := ⟨2, ![512, 640]⟩
abbrev S512x256 : Shape := ⟨2, ![512, 256]⟩
abbrev S512x128 : Shape := ⟨2, ![512, 128]⟩
abbrev S256x256 : Shape := ⟨2, ![256, 256]⟩
abbrev S128x256 : Shape := ⟨2, ![128, 256]⟩
abbrev S1x512x128 : Shape := ⟨3, ![1, 512, 128]⟩
abbrev S512x512 : Shape := ⟨2, ![512, 512]⟩

abbrev nBuf : Space → Nat
  | .hbm => 134
  | .vmem => 28
  | .smem => 0
  | _ => 0

abbrev hbmTy0_0 (i : Nat) : BufTy := match i % 128 with
  | 0 => ⟨S8x4096x1024, .f32⟩
  | 1 => ⟨S8x4096, .i32⟩
  | 2 => ⟨S1x1024, .f32⟩
  | 3 => ⟨S1024x2208, .f32⟩
  | 4 => ⟨S1x256, .f32⟩
  | 5 => ⟨S256x768, .f32⟩
  | 6 => ⟨S1x128, .f32⟩
  | 7 => ⟨S128x1024, .f32⟩
  | 8 => ⟨S1024x256, .f32⟩
  | 9 => ⟨S1024x128, .f32⟩
  | 10 => ⟨S1024x32, .f32⟩
  | 11 => ⟨S1024x512, .f32⟩
  | 12 => ⟨S1024x128, .f32⟩
  | 13 => ⟨S1024x128, .f32⟩
  | 14 => ⟨S1024x1024, .f32⟩
  | 15 => ⟨S1024x16, .f32⟩
  | 16 => ⟨S1024x16, .f32⟩
  | 17 => ⟨S1024x32, .f32⟩
  | 18 => ⟨S_, .i32⟩
  | 19 => ⟨S_, .f32⟩
  | 20 => ⟨S1024x128, .f32⟩
  | 21 => ⟨S_, .i32⟩
  | 22 => ⟨S_, .f32⟩
  | 23 => ⟨S1024x128, .f32⟩
  | 24 => ⟨S1024x640, .f32⟩
  | 25 => ⟨S1024x64, .f32⟩
  | 26 => ⟨S1024x64, .f32⟩
  | 27 => ⟨S1024x64, .f32⟩
  | 28 => ⟨S1024x64, .f32⟩
  | 29 => ⟨S1024x64, .f32⟩
  | 30 => ⟨S1024x64, .f32⟩
  | 31 => ⟨S1024x64, .f32⟩
  | 32 => ⟨S1024x64, .f32⟩
  | 33 => ⟨S1024x512, .f32⟩
  | 34 => ⟨S256x8x96, .f32⟩
  | 35 => ⟨S_, .i32⟩
  | 36 => ⟨S_, .f32⟩
  | 37 => ⟨S256x8x128, .f32⟩
  | 38 => ⟨S256x1024, .f32⟩
  | 39 => ⟨S256x8x16, .f32⟩
  | 40 => ⟨S256x8x16, .f32⟩
  | 41 => ⟨S256x8x32, .f32⟩
  | 42 => ⟨S_, .i32⟩
  | 43 => ⟨S_, .f32⟩
  | 44 => ⟨S256x8x128, .f32⟩
  | 45 => ⟨S256x1024, .f32⟩
  | 46 => ⟨S128x8x128, .f32⟩
  | 47 => ⟨S128x8x64, .f32⟩
  | 48 => ⟨S_, .i32⟩
  | 49 => ⟨S_, .f32⟩
  | 50 => ⟨S128x8x128, .f32⟩
  | 51 => ⟨S128x1024, .f32⟩
  | 52 => ⟨S128x8x64, .f32⟩
  | 53 => ⟨S128x512, .f32⟩
  | 54 => ⟨S_, .f32⟩
  | 55 => ⟨S1024x512, .f32⟩
  | 56 => ⟨S1024x512, .f32⟩
  | 57 => ⟨S1024x640, .bf16⟩
  | 58 => ⟨S1024x512, .bf16⟩
  | 59 => ⟨S1024x512, .bf16⟩
  | 60 => ⟨S1024x1024, .bf16⟩
  | 61 => ⟨S256x1024, .bf16⟩
  | 62 => ⟨S256x1024, .bf16⟩
  | 63 => ⟨S128x1024, .bf16⟩
  | 64 => ⟨S128x512, .bf16⟩
  | 65 => ⟨S8x4096x1, .i32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S8x128, .f32⟩
  | 84 => ⟨S_, .i32⟩
  | 85 => ⟨S1, .i32⟩
  | 86 => ⟨S_, .i32⟩
  | 87 => ⟨S1, .i32⟩
  | 88 => ⟨S2, .i32⟩
  | 89 => ⟨S8x128, .f32⟩
  | 90 => ⟨S_, .i32⟩
  | 91 => ⟨S1, .i32⟩
  | 92 => ⟨S_, .i32⟩
  | 93 => ⟨S1, .i32⟩
  | 94 => ⟨S2, .i32⟩
  | 95 => ⟨S8x128, .f32⟩
  | 96 => ⟨S_, .i32⟩
  | 97 => ⟨S1, .i32⟩
  | 98 => ⟨S_, .i32⟩
  | 99 => ⟨S1, .i32⟩
  | 100 => ⟨S2, .i32⟩
  | 101 => ⟨S_, .f32⟩
  | 102 => ⟨S32, .f32⟩
  | 103 => ⟨S8x128, .f32⟩
  | 104 => ⟨S_, .i32⟩
  | 105 => ⟨S1, .i32⟩
  | 106 => ⟨S_, .i32⟩
  | 107 => ⟨S1, .i32⟩
  | 108 => ⟨S2, .i32⟩
  | 109 => ⟨S_, .f32⟩
  | 110 => ⟨S16, .f32⟩
  | 111 => ⟨S8x128, .f32⟩
  | 112 => ⟨S_, .i32⟩
  | 113 => ⟨S1, .i32⟩
  | 114 => ⟨S_, .i32⟩
  | 115 => ⟨S1, .i32⟩
  | 116 => ⟨S2, .i32⟩
  | 117 => ⟨S_, .f32⟩
  | 118 => ⟨S16, .f32⟩
  | 119 => ⟨S8x128, .f32⟩
  | 120 => ⟨S_, .i32⟩
  | 121 => ⟨S1, .i32⟩
  | 122 => ⟨S_, .i32⟩
  | 123 => ⟨S1, .i32⟩
  | 124 => ⟨S2, .i32⟩
  | 125 => ⟨S_, .f32⟩
  | 126 => ⟨S64, .f32⟩
  | 127 => ⟨S8x128, .f32⟩
  | _ => ⟨S8x4096x1024, .f32⟩

abbrev hbmTy0_1 (i : Nat) : BufTy := match i % 128 with
  | 0 => ⟨S8x4096x1024, .bf16⟩
  | 1 => ⟨S8x4096x1024, .bf16⟩
  | 2 => ⟨S8x4096x512, .bf16⟩
  | 3 => ⟨S8x4096x512, .bf16⟩
  | 4 => ⟨S8x4096x512, .bf16⟩
  | 5 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x1024, .f32⟩
  | .local _ .vmem, ⟨5, _⟩ => ⟨S1024x640, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1x256, .f32⟩
  | .local _ .vmem, ⟨10, _⟩ => ⟨S256x1024, .bf16⟩
  | .local _ .vmem, ⟨11, _⟩ => ⟨S256x1024, .bf16⟩
  | .local _ .vmem, ⟨12, _⟩ => ⟨S1x128, .f32⟩
  | .local _ .vmem, ⟨13, _⟩ => ⟨S128x1024, .bf16⟩
  | .local _ .vmem, ⟨14, _⟩ => ⟨S128x512, .bf16⟩
  | .local _ .vmem, ⟨15, _⟩ => ⟨S8x128, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x1024, .bf16⟩
  | .local _ .vmem, ⟨27, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_call2_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_call3_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_3 : Ref sig .tc := ⟨.hbm, 48, rfl⟩
abbrev main_call4_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_cst_19 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_c_21 : Ref sig .tc := ⟨.hbm, 114, rfl⟩
abbrev main_v78 : Ref sig .tc := ⟨.hbm, 115, rfl⟩
abbrev main_v79 : Ref sig .tc := ⟨.hbm, 116, rfl⟩
abbrev main_cst_22 : Ref sig .tc := ⟨.hbm, 117, rfl⟩
abbrev main_v80 : Ref sig .tc := ⟨.hbm, 118, rfl⟩
abbrev main_v81 : Ref sig .tc := ⟨.hbm, 119, rfl⟩
abbrev main_c_23 : Ref sig .tc := ⟨.hbm, 120, rfl⟩
abbrev main_v82 : Ref sig .tc := ⟨.hbm, 121, rfl⟩
abbrev main_c_24 : Ref sig .tc := ⟨.hbm, 122, rfl⟩
abbrev main_v83 : Ref sig .tc := ⟨.hbm, 123, rfl⟩
abbrev main_v84 : Ref sig .tc := ⟨.hbm, 124, rfl⟩
abbrev main_cst_25 : Ref sig .tc := ⟨.hbm, 125, rfl⟩
abbrev main_v85 : Ref sig .tc := ⟨.hbm, 126, rfl⟩
abbrev main_v86 : Ref sig .tc := ⟨.hbm, 127, rfl⟩
abbrev main_v87_0 : Ref sig .tc := ⟨.hbm, 128, rfl⟩
abbrev main_v87_1 : Ref sig .tc := ⟨.hbm, 129, rfl⟩
abbrev main_v87_2 : Ref sig .tc := ⟨.hbm, 130, rfl⟩
abbrev main_v87_3 : Ref sig .tc := ⟨.hbm, 131, rfl⟩
abbrev main_v87_4 : Ref sig .tc := ⟨.hbm, 132, rfl⟩
abbrev main_v87_5 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceProjIdeal.lean ====
abbrev S8x4096x1024 : Shape := ⟨3, ![8, 4096, 1024]⟩
abbrev S8x4096 : Shape := ⟨2, ![8, 4096]⟩
abbrev S1x1024 : Shape := ⟨2, ![1, 1024]⟩
abbrev S1024x2208 : Shape := ⟨2, ![1024, 2208]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S_ : Shape := ⟨0, ![]⟩
abbrev S8x4096x1 : Shape := ⟨3, ![8, 4096, 1]⟩
abbrev S1x1x1024 : Shape := ⟨3, ![1, 1, 1024]⟩
abbrev S8x4096x2208 : Shape := ⟨3, ![8, 4096, 2208]⟩
abbrev S8x4096x256 : Shape := ⟨3, ![8, 4096, 256]⟩
abbrev S8x4096x128 : Shape := ⟨3, ![8, 4096, 128]⟩
abbrev S8x4096x32 : Shape := ⟨3, ![8, 4096, 32]⟩
abbrev S8x4096x512 : Shape := ⟨3, ![8, 4096, 512]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S1x1x128 : Shape := ⟨3, ![1, 1, 128]⟩
abbrev S8x4096x8x128 : Shape := ⟨4, ![8, 4096, 8, 128]⟩
abbrev S16 : Shape := ⟨1, ![16]⟩
abbrev S1x1x16 : Shape := ⟨3, ![1, 1, 16]⟩
abbrev S8x4096x16 : Shape := ⟨3, ![8, 4096, 16]⟩
abbrev S8x4096x8x32 : Shape := ⟨4, ![8, 4096, 8, 32]⟩
abbrev S8x4096x1x16 : Shape := ⟨4, ![8, 4096, 1, 16]⟩
abbrev S8x4096x8x16 : Shape := ⟨4, ![8, 4096, 8, 16]⟩
abbrev S8x4096x1x32 : Shape := ⟨4, ![8, 4096, 1, 32]⟩
abbrev S8x4096x8x64 : Shape := ⟨4, ![8, 4096, 8, 64]⟩
abbrev S8x4096x2x1x64 : Shape := ⟨5, ![8, 4096, 2, 1, 64]⟩
abbrev S8x4096x2x1x2x64 : Shape := ⟨6, ![8, 4096, 2, 1, 2, 64]⟩
abbrev S8x4096x2x2x64 : Shape := ⟨5, ![8, 4096, 2, 2, 64]⟩

abbrev nBuf : Space → Nat
  | .hbm => 155
  | .vmem => 0
  | .smem => 0
  | _ => 0

abbrev hbmTy0_0 (i : Nat) : BufTy := match i % 128 with
  | 0 => ⟨S8x4096x1024, .f32⟩
  | 1 => ⟨S8x4096, .i32⟩
  | 2 => ⟨S1x1024, .f32⟩
  | 3 => ⟨S1024x2208, .f32⟩
  | 4 => ⟨S1x256, .f32⟩
  | 5 => ⟨S256x768, .f32⟩
  | 6 => ⟨S1x128, .f32⟩
  | 7 => ⟨S128x1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S8x4096x2208, .f32⟩
  | 25 => ⟨S8x4096x256, .f32⟩
  | 26 => ⟨S8x4096x128, .f32⟩
  | 27 => ⟨S8x4096x32, .f32⟩
  | 28 => ⟨S8x4096x512, .f32⟩
  | 29 => ⟨S8x4096x128, .f32⟩
  | 30 => ⟨S8x4096x128, .f32⟩
  | 31 => ⟨S8x4096x1024, .f32⟩
  | 32 => ⟨S8x4096x256, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x256, .f32⟩
  | 44 => ⟨S8x4096x256, .f32⟩
  | 45 => ⟨S1x1x256, .f32⟩
  | 46 => ⟨S8x4096x256, .f32⟩
  | 47 => ⟨S8x4096x256, .f32⟩
  | 48 => ⟨S8x4096x768, .f32⟩
  | 49 => ⟨S8x4096x8x96, .f32⟩
  | 50 => ⟨S8x4096x128, .f32⟩
  | 51 => ⟨S_, .f32⟩
  | 52 => ⟨S8x4096, .f32⟩
  | 53 => ⟨S8x4096x1, .f32⟩
  | 54 => ⟨S_, .f32⟩
  | 55 => ⟨S8x4096x1, .f32⟩
  | 56 => ⟨S8x4096x1, .f32⟩
  | 57 => ⟨S_, .f32⟩
  | 58 => ⟨S8x4096x1, .f32⟩
  | 59 => ⟨S8x4096x1, .f32⟩
  | 60 => ⟨S8x4096x1, .f32⟩
  | 61 => ⟨S8x4096x128, .f32⟩
  | 62 => ⟨S8x4096x128, .f32⟩
  | 63 => ⟨S1x1x128, .f32⟩
  | 64 => ⟨S8x4096x128, .f32⟩
  | 65 => ⟨S8x4096x128, .f32⟩
  | 66 => ⟨S8x4096x1024, .f32⟩
  | 67 => ⟨S8x4096x8x128, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S8x4096, .f32⟩
  | 85 => ⟨S8x4096x1, .f32⟩
  | 86 => ⟨S1x1x16, .f32⟩
  | 87 => ⟨S8x4096x16, .f32⟩
  | 88 => ⟨S8x4096x16, .f32⟩
  | 89 => ⟨S8x4096x16, .f32⟩
  | 90 => ⟨S8x4096x8x32, .f32⟩
  | 91 => ⟨S8x4096x1x16, .f32⟩
  | 92 => ⟨S8x4096x1x16, .f32⟩
  | 93 => ⟨S8x4096x1x16, .f32⟩
  | 94 => ⟨S8x4096x8x16, .f32⟩
  | 95 => ⟨S8x4096x8x16, .f32⟩
  | 96 => ⟨S8x4096x8x16, .f32⟩
  | 97 => ⟨S8x4096x8x16, .f32⟩
  | 98 => ⟨S8x4096x8x16, .f32⟩
  | 99 => ⟨S8x4096x8x16, .f32⟩
  | 100 => ⟨S8x4096x8x16, .f32⟩
  | 101 => ⟨S8x4096x8x16, .f32⟩
  | 102 => ⟨S8x4096x8x16, .f32⟩
  | 103 => ⟨S8x4096x8x16, .f32⟩
  | 104 => ⟨S8x4096x8x16, .f32⟩
  | 105 => ⟨S8x4096x8x16, .f32⟩
  | 106 => ⟨S8x4096x8x32, .f32⟩
  | 107 => ⟨S8x4096x16, .f32⟩
  | 108 => ⟨S8x4096x16, .f32⟩
  | 109 => ⟨S8x4096x16, .f32⟩
  | 110 => ⟨S8x4096x16, .f32⟩
  | 111 => ⟨S8x4096x16, .f32⟩
  | 112 => ⟨S8x4096x16, .f32⟩
  | 113 => ⟨S8x4096x16, .f32⟩
  | 114 => ⟨S8x4096x16, .f32⟩
  | 115 => ⟨S8x4096x16, .f32⟩
  | 116 => ⟨S8x4096x16, .f32⟩
  | 117 => ⟨S8x4096x32, .f32⟩
  | 118 => ⟨S8x4096x1x32, .f32⟩
  | 119 => ⟨S8x4096x8x64, .f32⟩
  | 120 => ⟨S8x4096x8x96, .f32⟩
  | 121 => ⟨S_, .f32⟩
  | 122 => ⟨S8x4096x8x96, .f32⟩
  | 123 => ⟨S8x4096x8x96, .f32⟩
  | 124 => ⟨S8x4096x8x64, .f32⟩
  | 125 => ⟨S8x4096x8x32, .f32⟩
  | 126 => ⟨S8x4096x8x96, .f32⟩
  | 127 => ⟨S_, .i32⟩
  | _ => ⟨S8x4096x1024, .f32⟩

abbrev hbmTy0_1 (i : Nat) : BufTy := match i % 128 with
  | 0 => ⟨S_, .f32⟩
  | 1 => ⟨S8x4096x8x128, .f32⟩
  | 2 => ⟨S8x4096x1024, .f32⟩
  | 3 => ⟨S8x4096x1024, .bf16⟩
  | 4 => ⟨S_, .i32⟩
  | 5 => ⟨S_, .f32⟩
  | 6 => ⟨S8x4096x8x128, .f32⟩
  | 7 => ⟨S8x4096x1024, .f32⟩
  | 8 => ⟨S8x4096x1024, .bf16⟩
  | 9 => ⟨S8x4096x8x64, .f32⟩
  | 10 => ⟨S8x4096x512, .f32⟩
  | 11 => ⟨S8x4096x512, .bf16⟩
  | 12 => ⟨S_, .f32⟩
  | 13 => ⟨S8x4096x512, .f32⟩
  | 14 => ⟨S8x4096x512, .f32⟩
  | 15 => ⟨S8x4096x512, .bf16⟩
  | 16 => ⟨S8x4096x2x1x64, .f32⟩
  | 17 => ⟨S8x4096x2x1x2x64, .f32⟩
  | 18 => ⟨S8x4096x2x2x64, .f32⟩
  | 19 => ⟨S8x4096x256, .f32⟩
  | 20 => ⟨S8x4096x2x1x64, .f32⟩
  | 21 => ⟨S8x4096x2x1x2x64, .f32⟩
  | 22 => ⟨S8x4096x2x2x64, .f32⟩
  | 23 => ⟨S8x4096x256, .f32⟩
  | 24 => ⟨S8x4096x512, .f32⟩
  | 25 => ⟨S8x4096x512, .bf16⟩
  | 26 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_13 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_c : Ref sig .tc := ⟨.hbm, 127, rfl⟩
abbrev main_call0_v0 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_14 : Ref sig .tc := ⟨.hbm, 132, rfl⟩
abbrev main_call1_v0 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_15 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩

abbrev nD : Nat := 1
abbrev τ : Topo := Topo.v7x

variable {F : FTy → Type} [FloatOps F]
-- ==== Proof.Inner.lean ====
/-
  The inner loops of the kernel: one tile of keys and values after another, each taking the running
  maximum, the running sum and the running accumulator one step further.
-/
module

public import proofs.«01_k».proof.Proof.Gen.KernelIdeal.Frame
public import proofs.«01_k».proof.Proof.Gen.KernelIdeal.Loops
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three running arrays: maximum, sum, accumulator. -/
abbrev St (F : FTy → Type) [FloatOps F] : Type := FVec F S512x128 .f32 × FVec F S512x128 .f32 × FVec F S512x128 .f32

/-- A tile of 512 rows of a block, and the lc row of a tile, as the kernel loads them. -/
abbrev rows (X : Vec F S1x4096x128 .bf16) (off : Fin 3 → ℕ) (h : ∀ a, off a + S1x512x128.size a ≤ S1x4096x128.size a) : Vec F S1x512x128 .bf16 :=
  View.ld X (Rect.unit (s := S1x4096x128) off S1x512x128.size h)
abbrev lcRow (X : Vec F S1x2x8x1x512 .f32) (off : Fin 5 → ℕ) (h : ∀ a, off a + S1x1x1x1x512.size a ≤ S1x2x8x1x512.size a) : Vec F S1x1x1x1x512 .f32 :=
  View.ld X (Rect.unit (s := S1x2x8x1x512) off S1x1x1x1x512.size h)

/-- One tile of the first head's inner loop. -/
def step2 (v15 : FVec F S512x128 .bf16) (v31 : FVec F S1x1 .f32) (K : Vec F S1x512x128 .bf16) (L : Vec F S1x1x1x1x512 .f32) (V : Vec F S1x512x128 .bf16) (s : St F) : St F :=
  (k0_pay31 (k0_pay10 v15 v31 K L s.1), k0_pay13 v15 v31 K L s.1 s.2.1,
    k0_pay30 (k0_pay14 v15 v31 K L s.1 s.2.2) (k0_pay15 v15 v31 K L s.1) (k0_pay16 V))

/-- The running arrays after `n` tiles of the first head's inner loop. -/
def run2 (X3 X4 : Vec F S1x4096x128 .bf16) (X5 : Vec F S1x2x8x1x512 .f32) (i : Fin k0_t1_loop.trips) (v15 : FVec F S512x128 .bf16) (v31 : FVec F S1x1 .f32) (s : St F) : ℕ → St F
  | 0 => s
  | n + 1 => if h : n < (k0_t2_loop i).trips then
      step2 v15 v31 (rows X3 (k0_off3 i ⟨n, h⟩) (k0_off3_inb i ⟨n, h⟩)) (lcRow X5 (k0_off4 i ⟨n, h⟩) (k0_off4_inb i ⟨n, h⟩)) (rows X4 (k0_off3 i ⟨n, h⟩) (k0_off3_inb i ⟨n, h⟩))
        (run2 X3 X4 X5 i v15 v31 s n)
    else run2 X3 X4 X5 i v15 v31 s n

theorem run2_succ (X3 X4 : Vec F S1x4096x128 .bf16) (X5 : Vec F S1x2x8x1x512 .f32) (i : Fin k0_t1_loop.trips) (v15 : FVec F S512x128 .bf16) (v31 : FVec F S1x1 .f32) (s : St F)
    (n : Fin (k0_t2_loop i).trips) : run2 X3 X4 X5 i v15 v31 s (n.val + 1)
      = step2 v15 v31 (rows X3 (k0_off3 i n) (k0_off3_inb i n)) (lcRow X5 (k0_off4 i n) (k0_off4_inb i n)) (rows X4 (k0_off3 i n) (k0_off3_inb i n))
        (run2 X3 X4 X5 i v15 v31 s n.val) := by
  rw [run2, dif_pos n.isLt]

/-- The running arrays after `n` tiles of the second head's inner loop. -/
def run5 (X3 X4 : Vec F S1x4096x128 .bf16) (X5 : Vec F S1x2x8x1x512 .f32) (i : Fin k0_t4_loop.trips) (v15 : FVec F S512x128 .bf16) (v31 : FVec F S1x1 .f32) (s : St F) : ℕ → St F
  | 0 => s
  | n + 1 => if h : n < (k0_t5_loop i).trips then
      step2 v15 v31 (rows X3 (k0_off9 i ⟨n, h⟩) (k0_off9_inb i ⟨n, h⟩)) (lcRow X5 (k0_off10 i ⟨n, h⟩) (k0_off10_inb i ⟨n, h⟩)) (rows X4 (k0_off9 i ⟨n, h⟩) (k0_off9_inb i ⟨n, h⟩))
        (run5 X3 X4 X5 i v15 v31 s n)
    else run5 X3 X4 X5 i v15 v31 s n

theorem run5_succ (X3 X4 : Vec F S1x4096x128 .bf16) (X5 : Vec F S1x2x8x1x512 .f32) (i : Fin k0_t4_loop.trips) (v15 : FVec F S512x128 .bf16) (v31 : FVec F S1x1 .f32) (s : St F)
    (n : Fin (k0_t5_loop i).trips) : run5 X3 X4 X5 i v15 v31 s (n.val + 1)
      = step2 v15 v31 (rows X3 (k0_off9 i n) (k0_off9_inb i n)) (lcRow X5 (k0_off10 i n) (k0_off10_inb i n)) (rows X4 (k0_off9 i n) (k0_off9_inb i n))
        (run5 X3 X4 X5 i v15 v31 s n.val) := by
  rw [run5, dif_pos n.isLt]

/-- A scratch buffer read whole, and written whole. -/
theorem readAt_whole (M : Memref sig .tc .vmem S512x128 .f32) (f : BufTy.Contents (Elt F) M.view.ty) :
    M.view.readAt (Elt F) (Rect.unit (s := S512x128) ![0, 0] S512x128.size inb_S512x128_S512x128_0_0).toLoadRect f = M.view.read (Elt F) f :=
  View.readAt_full _ _ _
theorem read_writes_whole (M : Memref sig .tc .vmem S512x128 .f32) (f : BufTy.Contents (Elt F) M.view.ty) (w : FVec F S512x128 .f32)
    (L : List (View.Piece (Elt F) S512x128 .f32)) :
    M.view.read (Elt F) (M.view.writes (Elt F) f (⟨Rect.unit (s := S512x128) ![0, 0] S512x128.size inb_S512x128_S512x128_0_0, w⟩ :: L)) = w :=
  View.read_writes_full _ _ _ _ _

section
variable (c : Dev nD) (i : grid0.Coords)
  (arg2 : Memref sig .tc .vmem S1x4096x128 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x2x8x1x512 .f32) (harg5 : arg5.IsWhole)
  (arg6 : Memref sig .tc .vmem S1x4096x128 .bf16) (harg6 : arg6.IsWhole) (arg7 : Memref sig .tc .vmem S512x128 .f32) (harg7 : arg7.IsWhole)
  (arg8 : Memref sig .tc .vmem S512x128 .f32) (harg8 : arg8.IsWhole) (arg9 : Memref sig .tc .vmem S512x128 .f32) (harg9 : arg9.IsWhole)
  (f3 : BufTy.Contents (Elt F) arg3.view.ty) (f4 : BufTy.Contents (Elt F) arg4.view.ty) (f5 : BufTy.Contents (Elt F) arg5.view.ty)

/-- The three scratch buffers holding the running arrays `s`. -/
abbrev scr (s : St F) : sProp 𝕄 :=
  iprop((∃ f, (arg7.view.loc (c : Thread nD τ) ↦[arg7.view.set]{fullShare} f) ∗ ⌜arg7.view.read (Elt F) f = s.1⌝)
    ∗ (∃ f, (arg8.view.loc (c : Thread nD τ) ↦[arg8.view.set]{fullShare} f) ∗ ⌜arg8.view.read (Elt F) f = s.2.1⌝)
    ∗ (∃ f, (arg9.view.loc (c : Thread nD τ) ↦[arg9.view.set]{fullShare} f) ∗ ⌜arg9.view.read (Elt F) f = s.2.2⌝))

set_option warn.classDefReducibility false in
/-- The invariant of the first head's inner loop: the inputs as they are, the scratch at the running arrays. -/
@[sl_loop] def loopInv_k0_t2 (v4 : IVec S512x128 1) (c0 c1 : BitVec 32) (k : Fin k0_t1_loop.trips) (v12 : Vec F S1x512x128 .bf16) (v29 : Vec F S1x1x1x1x512 .f32)
    (m0 l0 a0 : FVec F S512x128 .f32) :
    LoopInvTy_k0_t2 (F := F) Unit ℕ (UR sig nD τ) ℕ Variants.none c none Set.univ i arg2 harg2 arg3 harg3 arg4 harg4 arg5 harg5 arg6 harg6 arg7 harg7 arg8 harg8 arg9 harg9 v4 c0 c1 k v12 v29 where
  inv n _ := iprop((arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5)
      ∗ scr c arg7 arg8 arg9 (run2 (arg3.view.read (Elt F) f3) (arg4.view.read (Elt F) f4) (arg5.view.read (Elt F) f5) k (k0_pay25 v4 v12) (k0_pay29 v29) (m0, l0, a0) n))
  step n _ := by
    unfold k0_t2_body
    iintro ⟨H3, H4, H5, ⟨%f7, H7, %h7⟩, ⟨%f8, H8, %h8⟩, ⟨%f9, H9, %h9⟩⟩
    sl_exec
    sl_step
    have e7 := (readAt_whole arg7 f7).trans h7
    have e8 := (readAt_whole arg8 f8).trans h8
    have e9 := (readAt_whole arg9 f9).trans h9
    have er := run2_succ (arg3.view.read (Elt F) f3) (arg4.view.read (Elt F) f4) (arg5.view.read (Elt F) f5) k (k0_pay25 v4 v12) (k0_pay29 v29) (m0, l0, a0) n
    isplitl [H3]; · iexact H3
    isplitl [H4]; · iexact H4
    isplitl [H5]; · iexact H5
    isplitl [H7]
    · iexists _; isplitl [H7]; · iexact H7
      ipureintro; rw [read_writes_whole, er]; unfold step2; rw [← e7]; rfl
    isplitl [H8]
    · iexists _; isplitl [H8]; · iexact H8
      ipureintro; rw [read_writes_whole, er]; unfold step2; rw [← e7, ← e8]; rfl
    · iexists _; isplitl [H9]; · iexact H9
      ipureintro; rw [read_writes_whole, er]; unfold step2; rw [← e7, ← e9]; rfl
set_option warn.classDefReducibility false in
/-- The invariant of the second head's inner loop: the inputs as they are, the scratch at the running arrays. -/
@[sl_loop] def loopInv_k0_t5 (v4 : IVec S512x128 1) (c0 c1 : BitVec 32) (k : Fin k0_t4_loop.trips) (v12 : Vec F S1x512x128 .bf16) (v29 : Vec F S1x1x1x1x512 .f32)
    (m0 l0 a0 : FVec F S512x128 .f32) :
    LoopInvTy_k0_t5 (F := F) Unit ℕ (UR sig nD τ) ℕ Variants.none c none Set.univ i arg2 harg2 arg3 harg3 arg4 harg4 arg5 harg5 arg6 harg6 arg7 harg7 arg8 harg8 arg9 harg9 v4 c0 c1 k v12 v29 where
  inv n _ := iprop((arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5)
      ∗ scr c arg7 arg8 arg9 (run5 (arg3.view.read (Elt F) f3) (arg4.view.read (Elt F) f4) (arg5.view.read (Elt F) f5) k (k0_pay58 v4 v12) (k0_pay62 v29) (m0, l0, a0) n))
  step n _ := by
    unfold k0_t5_body
    iintro ⟨H3, H4, H5, ⟨%f7, H7, %h7⟩, ⟨%f8, H8, %h8⟩, ⟨%f9, H9, %h9⟩⟩
    sl_exec
    sl_step
    have e7 := (readAt_whole arg7 f7).trans h7
    have e8 := (readAt_whole arg8 f8).trans h8
    have e9 := (readAt_whole arg9 f9).trans h9
    have er := run5_succ (arg3.view.read (Elt F) f3) (arg4.view.read (Elt F) f4) (arg5.view.read (Elt F) f5) k (k0_pay58 v4 v12) (k0_pay62 v29) (m0, l0, a0) n
    isplitl [H3]; · iexact H3
    isplitl [H4]; · iexact H4
    isplitl [H5]; · iexact H5
    isplitl [H7]
    · iexists _; isplitl [H7]; · iexact H7
      ipureintro; rw [read_writes_whole, er]; unfold step2; rw [← e7]; rfl
    isplitl [H8]
    · iexists _; isplitl [H8]; · iexact H8
      ipureintro; rw [read_writes_whole, er]; unfold step2; rw [← e7, ← e8]; rfl
    · iexists _; isplitl [H9]; · iexact H9
      ipureintro; rw [read_writes_whole, er]; unfold step2; rw [← e7, ← e9]; rfl
set_option warn.classDefReducibility false in
/-- The first head's second loop runs no trip. -/
@[sl_loop] def loopInv_k0_t3 (v4 : IVec S512x128 1) (c0 c1 : BitVec 32) (k : Fin k0_t1_loop.trips) (v12 : Vec F S1x512x128 .bf16) (v29 : Vec F S1x1x1x1x512 .f32) (v36 : BitVec 32) :
    LoopInvTy_k0_t3 (F := F) Unit ℕ (UR sig nD τ) ℕ Variants.none c none Set.univ i arg2 harg2 arg3 harg3 arg4 harg4 arg5 harg5 arg6 harg6 arg7 harg7 arg8 harg8 arg9 harg9 v4 c0 c1 k v12 v29 v36 where
  inv _ _ := iprop(emp)
  step n _ := absurd n.isLt (Nat.not_lt.2 (Nat.le_trans (k0_t3_abs k).2.1 (Nat.zero_le _)))

set_option warn.classDefReducibility false in
/-- The second head's second loop runs no trip. -/
@[sl_loop] def loopInv_k0_t6 (v4 : IVec S512x128 1) (c0 c1 : BitVec 32) (k : Fin k0_t4_loop.trips) (v12 : Vec F S1x512x128 .bf16) (v29 : Vec F S1x1x1x1x512 .f32) (v36 : BitVec 32) :
    LoopInvTy_k0_t6 (F := F) Unit ℕ (UR sig nD τ) ℕ Variants.none c none Set.univ i arg2 harg2 arg3 harg3 arg4 harg4 arg5 harg5 arg6 harg6 arg7 harg7 arg8 harg8 arg9 harg9 v4 c0 c1 k v12 v29 v36 where
  inv _ _ := iprop(emp)
  step n _ := absurd n.isLt (Nat.not_lt.2 (Nat.le_trans (k0_t6_abs k).2.1 (Nat.zero_le _)))

end
end Cert.Proof.KernelIdeal
end
-- ==== Proof.Outer.lean ====
/-
  The loops over query tiles: each tile starts the running arrays afresh, runs the inner loop, takes the
  diagonal tile and stores the quotient into its rows of the output block.
-/
module

public import proofs.«01_k».proof.Proof.Gen.KernelIdeal.Frame
public import proofs.«01_k».proof.Proof.Gen.KernelIdeal.Loops
public import proofs.«01_k».proof.Proof.Inner

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The diagonal tile: the scores past the row masked, then one more step. -/
def stepD (v1 v2 : IVec S512x512 32) (v15 : FVec F S512x128 .bf16) (v31 : FVec F S1x1 .f32) (K : Vec F S1x512x128 .bf16) (L : Vec F S1x1x1x1x512 .f32) (V : Vec F S1x512x128 .bf16) (s : St F) : St F :=
  (k0_pay3 (k0_pay35 v1 v2 v15 v31 K L s.1), k0_pay38 v1 v2 v15 v31 K L s.1 s.2.1,
    k0_pay2 (k0_pay39 v1 v2 v15 v31 K L s.1 s.2.2) (k0_pay40 v1 v2 v15 v31 K L s.1) (k0_pay41 V) (constant S512x128 .f32 0x00000000#32))

/-- What a tile of queries starts from. -/
def st0 : St F := (k0_pay26, k0_pay27, k0_pay28)

/-- The three scratch buffers just reset hold the start. -/
theorem st0_eq (arg7 arg8 arg9 : Memref sig .tc .vmem S512x128 .f32) :
    ((arg7.view.read (Elt F) (arg7.view.writes (Elt F) arg7.view.junk [⟨Rect.unit (s := S512x128) ![0, 0] S512x128.size inb_S512x128_S512x128_0_0, (k0_pay26 (F := F))⟩]),
      arg8.view.read (Elt F) (arg8.view.writes (Elt F) arg8.view.junk [⟨Rect.unit (s := S512x128) ![0, 0] S512x128.size inb_S512x128_S512x128_0_0, (k0_pay27 (F := F))⟩]),
      arg9.view.read (Elt F) (arg9.view.writes (Elt F) arg9.view.junk [⟨Rect.unit (s := S512x128) ![0, 0] S512x128.size inb_S512x128_S512x128_0_0, (k0_pay28 (F := F))⟩])) : St F) = st0 :=
  Prod.ext (read_writes_whole _ _ _ _) (Prod.ext (read_writes_whole _ _ _ _) (read_writes_whole _ _ _ _))

/-- The diagonal tile of the second head: the scores past the row masked, then one more step. -/
def stepE (v1 v2 : IVec S512x512 32) (v15 : FVec F S512x128 .bf16) (v31 : FVec F S1x1 .f32) (K : Vec F S1x512x128 .bf16) (L : Vec F S1x1x1x1x512 .f32) (V : Vec F S1x512x128 .bf16) (s : St F) : St F :=
  (k0_pay7 (k0_pay68 v1 v2 v15 v31 K L s.1), k0_pay71 v1 v2 v15 v31 K L s.1 s.2.1,
    k0_pay6 (k0_pay72 v1 v2 v15 v31 K L s.1 s.2.2) (k0_pay73 v1 v2 v15 v31 K L s.1) (k0_pay74 V) (constant S512x128 .f32 0x00000000#32))

/-- What a tile of queries starts from, second head. -/
def st1 : St F := (k0_pay59, k0_pay60, k0_pay61)

/-- The three scratch buffers just reset hold the start, second head. -/
theorem st1_eq (arg7 arg8 arg9 : Memref sig .tc .vmem S512x128 .f32) :
    ((arg7.view.read (Elt F) (arg7.view.writes (Elt F) arg7.view.junk [⟨Rect.unit (s := S512x128) ![0, 0] S512x128.size inb_S512x128_S512x128_0_0, (k0_pay59 (F := F))⟩]),
      arg8.view.read (Elt F) (arg8.view.writes (Elt F) arg8.view.junk [⟨Rect.unit (s := S512x128) ![0, 0] S512x128.size inb_S512x128_S512x128_0_0, (k0_pay60 (F := F))⟩]),
      arg9.view.read (Elt F) (arg9.view.writes (Elt F) arg9.view.junk [⟨Rect.unit (s := S512x128) ![0, 0] S512x128.size inb_S512x128_S512x128_0_0, (k0_pay61 (F := F))⟩])) : St F) = st1 :=
  Prod.ext (read_writes_whole _ _ _ _) (Prod.ext (read_writes_whole _ _ _ _) (read_writes_whole _ _ _ _))

/-- The running arrays of query tile `k` of the first head after its last tile of keys. -/
def fin1 (v1 v2 : IVec S512x512 32) (X2 X3 X4 : Vec F S1x4096x128 .bf16) (X5 : Vec F S1x2x8x1x512 .f32) (k : Fin k0_t1_loop.trips) : St F :=
  stepD v1 v2 (k0_pay25 k0_pay1 (rows X2 (k0_off1 k) (k0_off1_inb k))) (k0_pay29 (lcRow X5 (k0_off2 k) (k0_off2_inb k)))
    (rows X3 (k0_off1 k) (k0_off1_inb k)) (lcRow X5 (k0_off2 k) (k0_off2_inb k)) (rows X4 (k0_off1 k) (k0_off1_inb k))
    (run2 X3 X4 X5 k (k0_pay25 k0_pay1 (rows X2 (k0_off1 k) (k0_off1_inb k))) (k0_pay29 (lcRow X5 (k0_off2 k) (k0_off2_inb k))) st0 (k0_t2_loop k).trips)

/-- The output block after the first `n` query tiles of the first head. -/
def out1 (v1 v2 : IVec S512x512 32) (X2 X3 X4 : Vec F S1x4096x128 .bf16) (X5 : Vec F S1x2x8x1x512 .f32) (X6 : Vec F S1x4096x128 .bf16) : ℕ → Vec F S1x4096x128 .bf16
  | 0 => X6
  | n + 1 => if h : n < k0_t1_loop.trips then
      VecWindow.put (s := S1x4096x128) (out1 v1 v2 X2 X3 X4 X5 X6 n) (k0_off1 ⟨n, h⟩) S1x512x128.size
        (k0_pay4 (fin1 v1 v2 X2 X3 X4 X5 ⟨n, h⟩).2.2 (fin1 v1 v2 X2 X3 X4 X5 ⟨n, h⟩).2.1)
    else out1 v1 v2 X2 X3 X4 X5 X6 n

theorem out1_succ (v1 v2 : IVec S512x512 32) (X2 X3 X4 : Vec F S1x4096x128 .bf16) (X5 : Vec F S1x2x8x1x512 .f32) (X6 : Vec F S1x4096x128 .bf16) (k : Fin k0_t1_loop.trips) :
    out1 v1 v2 X2 X3 X4 X5 X6 (k.val + 1) = VecWindow.put (s := S1x4096x128) (out1 v1 v2 X2 X3 X4 X5 X6 k.val) (k0_off1 k) S1x512x128.size
        (k0_pay4 (fin1 v1 v2 X2 X3 X4 X5 k).2.2 (fin1 v1 v2 X2 X3 X4 X5 k).2.1) := by
  rw [out1, dif_pos k.isLt]

/-- The running arrays of query tile `k` of the second head after its last tile of keys. -/
def fin4 (v1 v2 : IVec S512x512 32) (X2 X3 X4 : Vec F S1x4096x128 .bf16) (X5 : Vec F S1x2x8x1x512 .f32) (k : Fin k0_t4_loop.trips) : St F :=
  stepE v1 v2 (k0_pay58 k0_pay5 (rows X2 (k0_off7 k) (k0_off7_inb k))) (k0_pay62 (lcRow X5 (k0_off8 k) (k0_off8_inb k)))
    (rows X3 (k0_off7 k) (k0_off7_inb k)) (lcRow X5 (k0_off8 k) (k0_off8_inb k)) (rows X4 (k0_off7 k) (k0_off7_inb k))
    (run5 X3 X4 X5 k (k0_pay58 k0_pay5 (rows X2 (k0_off7 k) (k0_off7_inb k))) (k0_pay62 (lcRow X5 (k0_off8 k) (k0_off8_inb k))) st1 (k0_t5_loop k).trips)

/-- The output block after the first `n` query tiles of the second head. -/
def out4 (v1 v2 : IVec S512x512 32) (X2 X3 X4 : Vec F S1x4096x128 .bf16) (X5 : Vec F S1x2x8x1x512 .f32) (X6 : Vec F S1x4096x128 .bf16) : ℕ → Vec F S1x4096x128 .bf16
  | 0 => X6
  | n + 1 => if h : n < k0_t4_loop.trips then
      VecWindow.put (s := S1x4096x128) (out4 v1 v2 X2 X3 X4 X5 X6 n) (k0_off7 ⟨n, h⟩) S1x512x128.size
        (k0_pay8 (fin4 v1 v2 X2 X3 X4 X5 ⟨n, h⟩).2.2 (fin4 v1 v2 X2 X3 X4 X5 ⟨n, h⟩).2.1 (rows (out4 v1 v2 X2 X3 X4 X5 X6 n) (k0_off7 ⟨n, h⟩) (k0_off7_inb ⟨n, h⟩)))
    else out4 v1 v2 X2 X3 X4 X5 X6 n

theorem out4_succ (v1 v2 : IVec S512x512 32) (X2 X3 X4 : Vec F S1x4096x128 .bf16) (X5 : Vec F S1x2x8x1x512 .f32) (X6 : Vec F S1x4096x128 .bf16) (k : Fin k0_t4_loop.trips) :
    out4 v1 v2 X2 X3 X4 X5 X6 (k.val + 1) = VecWindow.put (s := S1x4096x128) (out4 v1 v2 X2 X3 X4 X5 X6 k.val) (k0_off7 k) S1x512x128.size
        (k0_pay8 (fin4 v1 v2 X2 X3 X4 X5 k).2.2 (fin4 v1 v2 X2 X3 X4 X5 k).2.1 (rows (out4 v1 v2 X2 X3 X4 X5 X6 k.val) (k0_off7 k) (k0_off7_inb k))) := by
  rw [out4, dif_pos k.isLt]

section
variable (c : Dev nD) (i : grid0.Coords)
  (arg2 : Memref sig .tc .vmem S1x4096x128 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x2x8x1x512 .f32) (harg5 : arg5.IsWhole)
  (arg6 : Memref sig .tc .vmem S1x4096x128 .bf16) (harg6 : arg6.IsWhole) (arg7 : Memref sig .tc .vmem S512x128 .f32) (harg7 : arg7.IsWhole)
  (arg8 : Memref sig .tc .vmem S512x128 .f32) (harg8 : arg8.IsWhole) (arg9 : Memref sig .tc .vmem S512x128 .f32) (harg9 : arg9.IsWhole)
  (f2 : BufTy.Contents (Elt F) arg2.view.ty) (f3 : BufTy.Contents (Elt F) arg3.view.ty) (f4 : BufTy.Contents (Elt F) arg4.view.ty) (f5 : BufTy.Contents (Elt F) arg5.view.ty)

set_option warn.classDefReducibility false in
/-- The invariant of the first head's loop over query tiles: the output block as far as it is written. -/
@[sl_loop] def loopInv_k0_t1 (v1 v2 : IVec S512x512 32) (X6 : Vec F S1x4096x128 .bf16) :
    LoopInvTy_k0_t1 (F := F) Unit ℕ (UR sig nD τ) ℕ Variants.none c none Set.univ i arg2 harg2 arg3 harg3 arg4 harg4 arg5 harg5 arg6 harg6 arg7 harg7 arg8 harg8 arg9 harg9 v1 v2 where
  inv n _ := iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (∃ f, (arg6.view.loc (c : Thread nD τ) ↦[arg6.view.set]{fullShare} f) ∗ ⌜arg6.view.read (Elt F) f
          = out1 v1 v2 (arg2.view.read (Elt F) f2) (arg3.view.read (Elt F) f3) (arg4.view.read (Elt F) f4) (arg5.view.read (Elt F) f5) X6 n⌝)
      ∗ (∃ f, (arg7.view.loc (c : Thread nD τ) ↦[arg7.view.set]{fullShare} f)) ∗ (∃ f, (arg8.view.loc (c : Thread nD τ) ↦[arg8.view.set]{fullShare} f))
      ∗ (∃ f, (arg9.view.loc (c : Thread nD τ) ↦[arg9.view.set]{fullShare} f)))
  step n _ := by
    unfold k0_t1_body
    iintro ⟨H2, H3, H4, H5, ⟨%f6, H6, %h6⟩, ⟨%f7, H7⟩, ⟨%f8, H8⟩, ⟨%f9, H9⟩⟩
    sl_exec
    sl_step
    have hs := st0_eq (F := F) arg7 arg8 arg9
    have e7 := (readAt_whole arg7 fL0).trans (hL4.trans (congrArg (fun s => (run2 (arg3.view.read (Elt F) f3) (arg4.view.read (Elt F) f4) (arg5.view.read (Elt F) f5) n (k0_pay25 k0_pay1 (rows (arg2.view.read (Elt F) f2) (k0_off1 n) (k0_off1_inb n))) (k0_pay29 (lcRow (arg5.view.read (Elt F) f5) (k0_off2 n) (k0_off2_inb n))) s (k0_t2_loop n).trips).1) hs))
    have e8 := (readAt_whole arg8 fL1).trans (hL6.trans (congrArg (fun s => (run2 (arg3.view.read (Elt F) f3) (arg4.view.read (Elt F) f4) (arg5.view.read (Elt F) f5) n (k0_pay25 k0_pay1 (rows (arg2.view.read (Elt F) f2) (k0_off1 n) (k0_off1_inb n))) (k0_pay29 (lcRow (arg5.view.read (Elt F) f5) (k0_off2 n) (k0_off2_inb n))) s (k0_t2_loop n).trips).2.1) hs))
    have e9 := (readAt_whole arg9 fL2).trans (hL8.trans (congrArg (fun s => (run2 (arg3.view.read (Elt F) f3) (arg4.view.read (Elt F) f4) (arg5.view.read (Elt F) f5) n (k0_pay25 k0_pay1 (rows (arg2.view.read (Elt F) f2) (k0_off1 n) (k0_off1_inb n))) (k0_pay29 (lcRow (arg5.view.read (Elt F) f5) (k0_off2 n) (k0_off2_inb n))) s (k0_t2_loop n).trips).2.2) hs))
    isplitl [H2]; · iexact H2
    isplitl [H3]; · iexact H3
    isplitl [H4]; · iexact H4
    isplitl [H5]; · iexact H5
    isplitl [H6]
    · iexists _; isplitl [H6]; · iexact H6
      ipureintro
      rw [View.read_writes_cons_put (h := rfl), out1_succ]
      refine congr (congrArg (fun X => VecWindow.put (s := S1x4096x128) X (k0_off1 n) S1x512x128.size) h6) ?_
      refine congr (congrArg k0_pay4 ?_) ?_
      · unfold fin1 stepD
        rw [← e7, ← e8, ← e9]
        exact View.readCov_full arg9.view _ _ _ _
      · unfold fin1 stepD
        rw [← e7, ← e8, ← e9]
        exact View.readCov_full arg8.view _ _ _ _
    isplitl [H7]; · iexists _; iexact H7
    isplitl [H8]; · iexists _; iexact H8
    iexists _; iexact H9

set_option warn.classDefReducibility false in
/-- The invariant of the second head's loop over query tiles: the output block as far as it is written. -/
@[sl_loop] def loopInv_k0_t4 (v1 v2 : IVec S512x512 32) (X6 : Vec F S1x4096x128 .bf16) :
    LoopInvTy_k0_t4 (F := F) Unit ℕ (UR sig nD τ) ℕ Variants.none c none Set.univ i arg2 harg2 arg3 harg3 arg4 harg4 arg5 harg5 arg6 harg6 arg7 harg7 arg8 harg8 arg9 harg9 v1 v2 where
  inv n _ := iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (∃ f, (arg6.view.loc (c : Thread nD τ) ↦[arg6.view.set]{fullShare} f) ∗ ⌜arg6.view.read (Elt F) f
          = out4 v1 v2 (arg2.view.read (Elt F) f2) (arg3.view.read (Elt F) f3) (arg4.view.read (Elt F) f4) (arg5.view.read (Elt F) f5) X6 n⌝)
      ∗ (∃ f, (arg7.view.loc (c : Thread nD τ) ↦[arg7.view.set]{fullShare} f)) ∗ (∃ f, (arg8.view.loc (c : Thread nD τ) ↦[arg8.view.set]{fullShare} f))
      ∗ (∃ f, (arg9.view.loc (c : Thread nD τ) ↦[arg9.view.set]{fullShare} f)))
  step n _ := by
    unfold k0_t4_body
    iintro ⟨H2, H3, H4, H5, ⟨%f6, H6, %h6⟩, ⟨%f7, H7⟩, ⟨%f8, H8⟩, ⟨%f9, H9⟩⟩
    sl_exec
    sl_step
    have hs := st1_eq (F := F) arg7 arg8 arg9
    have e7 := (readAt_whole arg7 fL0).trans (hL4.trans (congrArg (fun s => (run5 (arg3.view.read (Elt F) f3) (arg4.view.read (Elt F) f4) (arg5.view.read (Elt F) f5) n (k0_pay58 k0_pay5 (rows (arg2.view.read (Elt F) f2) (k0_off7 n) (k0_off7_inb n))) (k0_pay62 (lcRow (arg5.view.read (Elt F) f5) (k0_off8 n) (k0_off8_inb n))) s (k0_t5_loop n).trips).1) hs))
    have e8 := (readAt_whole arg8 fL1).trans (hL6.trans (congrArg (fun s => (run5 (arg3.view.read (Elt F) f3) (arg4.view.read (Elt F) f4) (arg5.view.read (Elt F) f5) n (k0_pay58 k0_pay5 (rows (arg2.view.read (Elt F) f2) (k0_off7 n) (k0_off7_inb n))) (k0_pay62 (lcRow (arg5.view.read (Elt F) f5) (k0_off8 n) (k0_off8_inb n))) s (k0_t5_loop n).trips).2.1) hs))
    have e9 := (readAt_whole arg9 fL2).trans (hL8.trans (congrArg (fun s => (run5 (arg3.view.read (Elt F) f3) (arg4.view.read (Elt F) f4) (arg5.view.read (Elt F) f5) n (k0_pay58 k0_pay5 (rows (arg2.view.read (Elt F) f2) (k0_off7 n) (k0_off7_inb n))) (k0_pay62 (lcRow (arg5.view.read (Elt F) f5) (k0_off8 n) (k0_off8_inb n))) s (k0_t5_loop n).trips).2.2) hs))
    isplitl [H2]; · iexact H2
    isplitl [H3]; · iexact H3
    isplitl [H4]; · iexact H4
    isplitl [H5]; · iexact H5
    isplitl [H6]
    · iexists _; isplitl [H6]; · iexact H6
      ipureintro
      rw [View.read_writes_cons_put (h := rfl), out4_succ]
      refine congr (congrArg (fun X => VecWindow.put (s := S1x4096x128) X (k0_off7 n) S1x512x128.size) h6) ?_
      refine congr (congr (congrArg k0_pay8 ?_) ?_) (congrArg (fun X => rows X (k0_off7 n) (k0_off7_inb n)) h6)
      · unfold fin4 stepE
        rw [← e7, ← e8, ← e9]
        exact View.readCov_full arg9.view _ _ _ _
      · unfold fin4 stepE
        rw [← e7, ← e8, ← e9]
        exact View.readCov_full arg8.view _ _ _ _
    isplitl [H7]; · iexists _; iexact H7
    isplitl [H8]; · iexists _; iexact H8
    iexists _; iexact H9

end
end Cert.Proof.KernelIdeal
end
-- ==== Proof.Body.lean ====
/-
  The kernel's body at one grid point: from the four staged input blocks to the output block, whatever the
  output buffer held before.
-/
module

public import proofs.«01_k».proof.Proof.Outer
public import Idealize.ShloMosaic.Lib.Pipeline.FrameBody

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem t1_trips : k0_t1_loop.trips = 8 := by decide +kernel
theorem t4_trips : k0_t4_loop.trips = 8 := by decide +kernel

/-- The place of a row of the block within its tile, and the tile's number. -/
def loc (y : S1x4096x128.Idx) : S1x512x128.Idx := fun a => ⟨(y a).val % S1x512x128.size a, Nat.mod_lt _ ((by decide : ∀ a : Fin 3, 0 < S1x512x128.size a) a)⟩
theorem tl_lt (y : S1x4096x128.Idx) : (y 1).val / 512 < 8 := Nat.div_lt_of_lt_mul (y 1).isLt
def tl1 (y : S1x4096x128.Idx) : Fin k0_t1_loop.trips := ⟨(y 1).val / 512, (tl_lt y).trans_eq t1_trips.symm⟩
def tl4 (y : S1x4096x128.Idx) : Fin k0_t4_loop.trips := ⟨(y 1).val / 512, (tl_lt y).trans_eq t4_trips.symm⟩

/-- One tile written at the rows of its number: read at a row. -/
theorem put_tile {X : Vec F S1x4096x128 .bf16} {off : Fin 3 → ℕ} {n : ℕ} (ho : off = ![0, 512 * n, 0]) (w : Vec F S1x512x128 .bf16) (y : S1x4096x128.Idx) :
    VecWindow.put (s := S1x4096x128) X off S1x512x128.size w y = if (y 1).val / 512 = n then w (loc y) else X y := by
  subst ho
  have h0 : (y 0).val < 1 := (y 0).isLt
  have h1 : (y 1).val < 4096 := (y 1).isLt
  have h2 : (y 2).val < 128 := (y 2).isLt
  have hs0 : S1x512x128.size 0 = 1 := rfl
  have hs1 : S1x512x128.size 1 = 512 := rfl
  have hs2 : S1x512x128.size 2 = 128 := rfl
  unfold VecWindow.put
  by_cases hn : (y 1).val / 512 = n
  · have h : ∀ a, (![0, 512 * n, 0] : Fin 3 → ℕ) a ≤ (y a).val ∧ (y a).val < (![0, 512 * n, 0] : Fin 3 → ℕ) a + S1x512x128.size a := by
      refine Fin.forall_fin_succ.2 ⟨?_, Fin.forall_fin_succ.2 ⟨?_, Fin.forall_fin_succ.2 ⟨?_, fun a => a.elim0⟩⟩⟩
      · show 0 ≤ (y 0).val ∧ (y 0).val < 0 + 1; omega
      · show 512 * n ≤ (y 1).val ∧ (y 1).val < 512 * n + 512; omega
      · show 0 ≤ (y 2).val ∧ (y 2).val < 0 + 128; omega
    rw [if_pos hn, dif_pos h]
    refine congrArg w (funext fun a => Fin.ext ?_)
    revert a
    refine Fin.forall_fin_succ.2 ⟨?_, Fin.forall_fin_succ.2 ⟨?_, Fin.forall_fin_succ.2 ⟨?_, fun a => a.elim0⟩⟩⟩
    · show (y 0).val - 0 = (y 0).val % 1; omega
    · show (y 1).val - 512 * n = (y 1).val % 512; omega
    · show (y 2).val - 0 = (y 2).val % 128; omega
  · rw [if_neg hn, dif_neg]
    intro h
    have := h 1
    have e : (![0, 512 * n, 0] : Fin 3 → ℕ) 1 = 512 * n := rfl
    rw [e] at this
    omega

variable (v1 v2 : IVec S512x512 32) (X2 X3 X4 : Vec F S1x4096x128 .bf16) (X5 : Vec F S1x2x8x1x512 .f32)

/-- The first head's block at a row already done. -/
theorem out1_at (X6 : Vec F S1x4096x128 .bf16) (y : S1x4096x128.Idx) (n : ℕ) (hn : n ≤ k0_t1_loop.trips) (hy : (y 1).val / 512 < n) :
    out1 v1 v2 X2 X3 X4 X5 X6 n y = k0_pay4 (fin1 v1 v2 X2 X3 X4 X5 (tl1 y)).2.2 (fin1 v1 v2 X2 X3 X4 X5 (tl1 y)).2.1 (loc y) := by
  induction n with
  | zero => omega
  | succ n ih =>
    rw [out1_succ v1 v2 X2 X3 X4 X5 X6 ⟨n, hn⟩, put_tile (k0_off1_eq ⟨n, hn⟩)]
    by_cases h : (y 1).val / 512 = n
    · rw [if_pos h, show tl1 y = ⟨n, hn⟩ from Fin.ext h]
    · rw [if_neg h]; exact ih (by omega) (by omega)

/-- The second head's block at a row not yet done, and at one already done. -/
theorem out4_ge (X6 : Vec F S1x4096x128 .bf16) (y : S1x4096x128.Idx) (n : ℕ) (hn : n ≤ k0_t4_loop.trips) (hy : n ≤ (y 1).val / 512) :
    out4 v1 v2 X2 X3 X4 X5 X6 n y = X6 y := by
  induction n with
  | zero => rfl
  | succ n ih =>
    rw [out4_succ v1 v2 X2 X3 X4 X5 X6 ⟨n, hn⟩, put_tile (k0_off7_eq ⟨n, hn⟩), if_neg (show ¬ (y 1).val / 512 = n by omega)]
    exact ih (by omega) (by omega)

theorem rows_out4 (X6 : Vec F S1x4096x128 .bf16) (k : Fin k0_t4_loop.trips) :
    rows (out4 v1 v2 X2 X3 X4 X5 X6 k.val) (k0_off7 k) (k0_off7_inb k) = rows X6 (k0_off7 k) (k0_off7_inb k) := by
  funext z
  refine out4_ge v1 v2 X2 X3 X4 X5 X6 _ k.val k.isLt.le ?_
  have e : (((Rect.unit (s := S1x4096x128) (k0_off7 k) S1x512x128.size (k0_off7_inb k)).idx z) 1).val = 512 * k.val + 1 * (z 1).val := by
    show (k0_off7 k) 1 + 1 * (z 1).val = _
    rw [k0_off7_eq]; rfl
  rw [e]; omega

theorem out4_at (X6 : Vec F S1x4096x128 .bf16) (y : S1x4096x128.Idx) (n : ℕ) (hn : n ≤ k0_t4_loop.trips) (hy : (y 1).val / 512 < n) :
    out4 v1 v2 X2 X3 X4 X5 X6 n y = k0_pay8 (fin4 v1 v2 X2 X3 X4 X5 (tl4 y)).2.2 (fin4 v1 v2 X2 X3 X4 X5 (tl4 y)).2.1
      (rows X6 (k0_off7 (tl4 y)) (k0_off7_inb (tl4 y))) (loc y) := by
  induction n with
  | zero => omega
  | succ n ih =>
    rw [out4_succ v1 v2 X2 X3 X4 X5 X6 ⟨n, hn⟩, put_tile (k0_off7_eq ⟨n, hn⟩)]
    by_cases h : (y 1).val / 512 = n
    · rw [if_pos h, show tl4 y = ⟨n, hn⟩ from Fin.ext h, rows_out4 v1 v2 X2 X3 X4 X5 X6 ⟨n, hn⟩]
    · rw [if_neg h]; exact ih (by omega) (by omega)

/-- The body's output block. -/
def blk : Vec F S1x4096x128 .bf16 := fun y =>
  k0_pay8 (fin4 v1 v2 X2 X3 X4 X5 (tl4 y)).2.2 (fin4 v1 v2 X2 X3 X4 X5 (tl4 y)).2.1
    (k0_pay4 (fin1 v1 v2 X2 X3 X4 X5 (tl1 y)).2.2 (fin1 v1 v2 X2 X3 X4 X5 (tl1 y)).2.1) (loc y)

/-- Both loops over query tiles leave it, whatever was there. -/
theorem out_blk (X6 : Vec F S1x4096x128 .bf16) :
    out4 v1 v2 X2 X3 X4 X5 (out1 v1 v2 X2 X3 X4 X5 X6 k0_t1_loop.trips) k0_t4_loop.trips = blk v1 v2 X2 X3 X4 X5 := by
  funext y
  rw [out4_at v1 v2 X2 X3 X4 X5 _ y _ le_rfl ((tl_lt y).trans_eq t4_trips.symm)]
  unfold blk
  refine congrArg (fun T => k0_pay8 _ _ T (loc y)) ?_
  funext z
  have e : (((Rect.unit (s := S1x4096x128) (k0_off7 (tl4 y)) S1x512x128.size (k0_off7_inb (tl4 y))).idx z) 1).val = 512 * ((y 1).val / 512) + 1 * (z 1).val := by
    show (k0_off7 (tl4 y)) 1 + 1 * (z 1).val = _
    rw [k0_off7_eq]; rfl
  have e0 : (((Rect.unit (s := S1x4096x128) (k0_off7 (tl4 y)) S1x512x128.size (k0_off7_inb (tl4 y))).idx z) 0).val = 0 + 1 * (z 0).val := by
    show (k0_off7 (tl4 y)) 0 + 1 * (z 0).val = _
    rw [k0_off7_eq]; rfl
  have e2 : (((Rect.unit (s := S1x4096x128) (k0_off7 (tl4 y)) S1x512x128.size (k0_off7_inb (tl4 y))).idx z) 2).val = 0 + 1 * (z 2).val := by
    show (k0_off7 (tl4 y)) 2 + 1 * (z 2).val = _
    rw [k0_off7_eq]; rfl
  have h0 : (z 0).val < 1 := (z 0).isLt
  have h1 : (z 1).val < 512 := (z 1).isLt
  have h2 : (z 2).val < 128 := (z 2).isLt
  have hy := tl_lt y
  show out1 v1 v2 X2 X3 X4 X5 X6 _ ((Rect.unit (s := S1x4096x128) (k0_off7 (tl4 y)) S1x512x128.size (k0_off7_inb (tl4 y))).idx z) = _
  rw [out1_at v1 v2 X2 X3 X4 X5 X6 _ _ le_rfl (by rw [e, t1_trips]; omega)]
  rw [show tl1 ((Rect.unit (s := S1x4096x128) (k0_off7 (tl4 y)) S1x512x128.size (k0_off7_inb (tl4 y))).idx z) = tl1 y from
    Fin.ext (by show _ / 512 = _ / 512; rw [e]; omega)]
  refine congrArg _ (funext fun a => Fin.ext ?_)
  revert a
  refine Fin.forall_fin_succ.2 ⟨?_, Fin.forall_fin_succ.2 ⟨?_, Fin.forall_fin_succ.2 ⟨?_, fun a => a.elim0⟩⟩⟩
  · exact (congrArg (· % 1) e0).trans (by show _ % _ = (z 0).val; omega)
  · exact (congrArg (· % 512) e).trans (by show _ % _ = (z 1).val; omega)
  · exact (congrArg (· % 128) e2).trans (by show _ % _ = (z 2).val; omega)

/-- The tile's row and lane numbers. -/
abbrev rowI : IVec S512x512 32 := iota .tc S512x512 32 [0] iota_S512x512_d0_w32
abbrev colI : IVec S512x512 32 := iota .tc S512x512 32 [1] iota_S512x512_d1_w32

set_option maxHeartbeats 1000000 in
/-- The body at a grid point, beside anything else held. -/
theorem sound_kernel (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x2x8x1x512 .f32) (harg5 : arg5.IsWhole) (arg6 : Memref sig .tc .vmem S1x4096x128 .bf16) (harg6 : arg6.IsWhole)
    (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (X2 X3 X4 : Vec F S1x4096x128 .bf16) (X5 : Vec F S1x2x8x1x512 .f32) (R : sProp 𝕄) :
    (iprop(R ∗ owns (c : Thread nD τ) arg2 fullShare X2 ∗ owns (c : Thread nD τ) arg3 fullShare X3 ∗ owns (c : Thread nD τ) arg4 fullShare X4 ∗ owns (c : Thread nD τ) arg5 fullShare X5 ∗ (∃ X6, owns (c : Thread nD τ) arg6 fullShare X6)
        ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) : sProp 𝕄)
      ⊢ wp frame (wpE (defs₀ (F := F)) Variants.none c none) Set.univ (cc0_fox i arg2 harg2 arg3 harg3 arg4 harg4 arg5 harg5 arg6 harg6 arg7 harg7 arg8 harg8 arg9 harg9)
        fun _ => iprop(R ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (blk rowI colI X2 X3 X4 X5)
        ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) := by
  simp only [cc0_fox_eq_skeleton]
  unfold cc0_fox_skel owns
  iintro ⟨HR, ⟨%f2, %h2, H2⟩, ⟨%f3, %h3, H3⟩, ⟨%f4, %h4, H4⟩, ⟨%f5, %h5, H5⟩, ⟨%X6, %f6, %h6, H6⟩, ⟨%f7, H7⟩, ⟨%f8, H8⟩, ⟨%f9, H9⟩⟩
  subst h2 h3 h4 h5 h6
  sl_exec
  sl_step
  have h14 : arg6.view.read (Elt F) fL4 = blk rowI colI (arg2.view.read (Elt F) f2) (arg3.view.read (Elt F) f3) (arg4.view.read (Elt F) f4) (arg5.view.read (Elt F) f5) := by
    refine hL14.trans ?_
    refine Eq.trans ?_ (out_blk _ _ _ _ _ _ (arg6.view.read (Elt F) f6))
    exact congrArg (fun X => out4 _ _ _ _ _ _ X _) hL5
  isplitl [HR]; · iexact HR
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; exact h14
  isplitl [H7]; · iexists _; iexact H7
  isplitl [H8]; · iexists _; iexact H8
  iexists _; iexact H9

end Cert.Proof.KernelIdeal
end
end
-- ==== Proof.Run.lean ====
/-
  The run of the program: the pipeline over its grid, every point's body by the body's theorem.
-/
module

public import proofs.«01_k».proof.Proof.Body
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block the body leaves at a grid point. -/
def outB (c : Dev nD) (t : Fin cfg0.N) : Vec F S1x4096x128 .bf16 :=
  blk rowI colI (iblk m c 0 t) (iblk m c 1 t) (iblk m c 2 t) (iblk m c 3 t)

/-- The pipeline's proof data: input windows keep their blocks, the output window gets the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c t
  Φ _ := Pipeline.ΦA spec0 c
  q := Pipeline.shareOf spec0
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB m c t := by dsimp only [dats]

set_option maxHeartbeats 1000000 in
/-- The library's body obligation, by the body's own theorem. -/
theorem body_obligation (c : Dev nD) : BodyObligationLoose (dats m 0 c) (defs₀ (F := F)) Variants.none () Set.univ := fun t => by
  rw [bigSep_W0, bigSep_W0]
  rw [show (defs₀ (F := F)) .tc cfg0.body (cfg0.bodyArgs t (cfg0.slots t)) = bodyAt0 t from by unfold defs₀; rw [Defs.onTc_tc]]
  rw [show (dats m 0 c).Φ t.castSucc = Pipeline.ΦA spec0 c from rfl, show (dats m 0 c).Φ t.succ = Pipeline.ΦA spec0 c from rfl]
  unfold Pipeline.ΦA
  rw [scopedRest0_eq]
  simp only [before0_0_of m (dats m 0 c) (A_eq m c 0) (after0_0 m c) t, before0_1_of m (dats m 0 c) (A_eq m c 1) (after0_1 m c) t,
    before0_2_of m (dats m 0 c) (A_eq m c 2) (after0_2 m c) t, before0_3_of m (dats m 0 c) (A_eq m c 3) (after0_3 m c) t]
  rw [after0_0, after0_1, after0_2, after0_3, after0_4]
  have hk := (sound_kernel c (grid0.coords t) (stage0_0 (cfg0.slots t 0)) (hstage0_0 _) (stage0_1 (cfg0.slots t 1)) (hstage0_1 _) (stage0_2 (cfg0.slots t 2)) (hstage0_2 _)
    (stage0_3 (cfg0.slots t 3)) (hstage0_3 _) (stage0_4 (cfg0.slots t 4)) (hstage0_4 _) (Memref.whole cc0_scratch0) (Memref.isWhole_whole _) (Memref.whole cc0_scratch1) (Memref.isWhole_whole _)
    (Memref.whole cc0_scratch2) (Memref.isWhole_whole _) (iblk m c 0 t) (iblk m c 1 t) (iblk m c 2 t) (iblk m c 3 t) (iprop((∃ r, prngReg c r) ∗ (dats m 0 c).owesAt () t.castSucc)))
  rw [show (Memref.whole cc0_scratch0 : Memref sig .tc .vmem S512x128 .f32).view.set = Finset.univ from View.set_whole _,
    show (Memref.whole cc0_scratch1 : Memref sig .tc .vmem S512x128 .f32).view.set = Finset.univ from View.set_whole _,
    show (Memref.whole cc0_scratch2 : Memref sig .tc .vmem S512x128 .f32).view.set = Finset.univ from View.set_whole _] at hk
  rw [show (dats m 0 c).owesAt () t.succ = (dats m 0 c).owesAt () t.castSucc from rfl]
  refine BIBase.Entails.trans ?_ (BIBase.Entails.trans hk (wp_mono _ _ _ fun _ => ?_))
  · iintro ⟨⟨⟨S0, S1, S2⟩, Hp⟩, Ho, ⟨%d0, H0⟩, ⟨%d1, H1⟩, ⟨%d2, H2⟩, ⟨%d3, H3⟩, ⟨%d4, H4⟩⟩
    isplitl [Hp Ho]; · isplitl [Hp]; · iexact Hp
                       iexact Ho
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    iexact S2
  · iintro ⟨⟨Hp, Ho⟩, H0, H1, H2, H3, H4, S0, S1, S2⟩
    isplitl [Hp S0 S1 S2]
    · isplitl [S0 S1 S2]
      · isplitl [S0]; · iexact S0
        isplitl [S1]; · iexact S1
        iexact S2
      iexact Hp
    isplitl [Ho]; · iexact Ho
    isplitl [H0]; · iexact H0
    isplitl [H1]; · iexact H1
    isplitl [H2]; · iexact H2
    isplitl [H3]; · iexact H3
    iexact H4

set_option backward.isDefEq.respectTransparency.types false in
/-- The program's run: every array at what the proof data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ Variants.none m ρ main
    (fun c => body_obligation m c) (fun _ _ _ => rfl) (fun _ _ => rfl) (V m) (hmain m Variants.none) (fun c w => A_eq m c w) (fun _ _ => rfl)
    (Q' := fun r => Pipeline.FramePost cfgs (dats m) 0 (V m) r ∧ r.2.sem = fun _ => 0) (hQ' := fun _ h => h)

/-- The quiescent frame: arguments unchanged, counters at zero. -/
theorem quiescent_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c)⟩, h.2⟩) (run_main m ρ)

/-- The run, without the counters. -/
theorem run_post : θ_run defs (onTc (τ := τ) (main (F := F))) (s₀ m ρ) (Pipeline.FramePost cfgs (dats m) 0 (V m)) :=
  (θ_run defs _ _).mono (fun _ h => h.1) (run_main m ρ)

end Cert.Proof.KernelIdeal
end
end
-- ==== Proof.Online.lean ====
/-
  The running softmax over the extended reals: a maximum, a sum of exponentials and a weighted sum, taken
  tile by tile, are those over all the tiles so far.
-/
module

public import Idealize.ShloMosaic.PureOps.Ideal

@[expose] public section

noncomputable section

namespace Cert.Proof.Online

open Idealize.ShloMosaic

/-- The exponential of a difference from something at least as great lies between 0 and 1. -/
theorem exp_sub_real {s M : EReal} (h : s ≤ M) : ∃ x : ℝ, 0 ≤ x ∧ x ≤ 1 ∧ Ideal.exp (s - M) = (x : EReal) := by
  induction s with
  | bot => exact ⟨0, le_rfl, zero_le_one, by rw [EReal.bot_sub]; rfl⟩
  | top =>
    rw [top_le_iff] at h; subst h
    exact ⟨0, le_rfl, zero_le_one, by rw [EReal.sub_top]; rfl⟩
  | coe a =>
    induction M with
    | bot => exact absurd h (by simp)
    | top => exact ⟨0, le_rfl, zero_le_one, by rw [EReal.sub_top]; rfl⟩
    | coe b =>
      refine ⟨Real.exp (a - b), (Real.exp_pos _).le, Real.exp_le_one_iff.2 (sub_nonpos.2 (EReal.coe_le_coe_iff.1 h)), ?_⟩
      rw [← EReal.coe_sub]; rfl

theorem exp_nonneg {s M : EReal} (h : s ≤ M) : 0 ≤ Ideal.exp (s - M) := by
  obtain ⟨x, h0, -, e⟩ := exp_sub_real h
  rw [e]; exact EReal.coe_nonneg.2 h0

theorem exp_ne_top {s M : EReal} (h : s ≤ M) : Ideal.exp (s - M) ≠ ⊤ := by
  obtain ⟨x, -, -, e⟩ := exp_sub_real h
  rw [e]; exact EReal.coe_ne_top x

/-- Rescaling: from one maximum to a greater one. -/
theorem exp_rescale {s M N : EReal} (h : s ≤ M) (h' : M ≤ N) : Ideal.exp (M - N) * Ideal.exp (s - M) = Ideal.exp (s - N) := by
  induction N with
  | top => rw [EReal.sub_top, EReal.sub_top]; exact zero_mul _
  | bot =>
    rw [le_bot_iff] at h'; subst h'
    rw [le_bot_iff] at h; subst h
    rw [EReal.bot_sub]; exact zero_mul _
  | coe c =>
    induction M with
    | top => exact absurd h' (by simp)
    | bot =>
      rw [le_bot_iff] at h; subst h
      rw [EReal.bot_sub, EReal.bot_sub]; exact zero_mul _
    | coe b =>
      induction s with
      | top => exact absurd h (by simp)
      | bot => rw [EReal.bot_sub, EReal.bot_sub]; exact mul_zero _
      | coe a =>
        rw [← EReal.coe_sub, ← EReal.coe_sub, ← EReal.coe_sub]
        show ((Real.exp (b - c) : ℝ) : EReal) * ((Real.exp (a - b) : ℝ) : EReal) = ((Real.exp (a - c) : ℝ) : EReal)
        rw [← EReal.coe_mul, ← Real.exp_add]
        congr 2; ring

/-- A factor that is a real at least 0 goes into a sum of extended reals. -/
theorem mul_sum_of_real {ι : Type} (S : Finset ι) (f : ι → EReal) {x : EReal} (h0 : 0 ≤ x) (ht : x ≠ ⊤) :
    x * ∑ i ∈ S, f i = ∑ i ∈ S, x * f i := by
  classical
  induction S using Finset.induction_on with
  | empty => rw [Finset.sum_empty, Finset.sum_empty, mul_zero]
  | insert a S ha ih => rw [Finset.sum_insert ha, Finset.sum_insert ha, EReal.left_distrib_of_nonneg_of_ne_top h0 ht, ih]

variable (σ : ℕ → Fin 512 → EReal) (v : ℕ → Fin 512 → EReal)

/-- The maximum over the first `n` tiles; the sum of exponentials; the weighted sum. -/
def Mx (n : ℕ) : EReal := (Finset.range n).sup fun j => Finset.univ.sup (σ j)
def Lx (n : ℕ) : EReal := ∑ j ∈ Finset.range n, ∑ c, Ideal.exp (σ j c - Mx σ n)
def Ax (n : ℕ) : EReal := ∑ j ∈ Finset.range n, ∑ c, Ideal.exp (σ j c - Mx σ n) * v j c

theorem Mx_zero : Mx σ 0 = ⊥ := rfl
theorem Lx_zero : Lx σ 0 = 0 := rfl
theorem Ax_zero : Ax σ v 0 = 0 := rfl

theorem Mx_succ (n : ℕ) : Mx σ (n + 1) = max (Mx σ n) (Finset.univ.sup (σ n)) := by
  unfold Mx; rw [Finset.range_add_one, Finset.sup_insert, max_comm]

theorem Mx_le (n : ℕ) : Mx σ n ≤ Mx σ (n + 1) := by rw [Mx_succ]; exact le_max_left _ _

theorem le_Mx {n j : ℕ} (h : j < n) (c : Fin 512) : σ j c ≤ Mx σ n :=
  (Finset.le_sup (f := σ j) (Finset.mem_univ c)).trans (Finset.le_sup (f := fun j => Finset.univ.sup (σ j)) (Finset.mem_range.2 h))

theorem Lx_succ (n : ℕ) : Ideal.exp (Mx σ n - Mx σ (n + 1)) * Lx σ n + ∑ c, Ideal.exp (σ n c - Mx σ (n + 1)) = Lx σ (n + 1) := by
  have h0 := exp_nonneg (Mx_le σ n)
  have ht := exp_ne_top (Mx_le σ n)
  rw [Lx, Lx, Finset.sum_range_succ, mul_sum_of_real _ _ h0 ht]
  refine congrArg (· + _) (Finset.sum_congr rfl fun j hj => ?_)
  rw [mul_sum_of_real _ _ h0 ht]
  exact Finset.sum_congr rfl fun c _ => exp_rescale (le_Mx σ (Finset.mem_range.1 hj) c) (Mx_le σ n)

theorem Ax_succ (n : ℕ) : Ideal.exp (Mx σ n - Mx σ (n + 1)) * Ax σ v n + ∑ c, Ideal.exp (σ n c - Mx σ (n + 1)) * v n c = Ax σ v (n + 1) := by
  have h0 := exp_nonneg (Mx_le σ n)
  have ht := exp_ne_top (Mx_le σ n)
  rw [Ax, Ax, Finset.sum_range_succ, mul_sum_of_real _ _ h0 ht]
  refine congrArg (· + _) (Finset.sum_congr rfl fun j hj => ?_)
  rw [mul_sum_of_real _ _ h0 ht]
  refine Finset.sum_congr rfl fun c _ => ?_
  rw [← mul_assoc, exp_rescale (le_Mx σ (Finset.mem_range.1 hj) c) (Mx_le σ n)]

/-- Tiles of nothing but `⊥` change nothing. -/
theorem tail_bot {n k : ℕ} (h : ∀ j, n ≤ j → j < n + k → ∀ c, σ j c = ⊥) : Mx σ (n + k) = Mx σ n ∧ Lx σ (n + k) = Lx σ n ∧ Ax σ v (n + k) = Ax σ v n := by
  have hM : ∀ i, i ≤ k → Mx σ (n + i) = Mx σ n := fun i => by
    induction i with
    | zero => exact fun _ => rfl
    | succ i ih =>
      intro hi
      rw [show n + (i + 1) = n + i + 1 from rfl, Mx_succ, ih (by omega), show Finset.univ.sup (σ (n + i)) = ⊥ from
        (Finset.sup_congr rfl fun c _ => h _ (by omega) (by omega) c).trans (Finset.sup_bot _)]
      exact max_bot_right _
  have e := hM k le_rfl
  refine ⟨e, ?_, ?_⟩
  · rw [Lx, Lx, e, Finset.sum_range_add]
    refine (congrArg (_ + ·) (Finset.sum_eq_zero fun j hj => Finset.sum_eq_zero fun c _ => ?_)).trans (add_zero _)
    rw [h _ (Nat.le_add_right _ _) (Nat.add_lt_add_left (Finset.mem_range.1 hj) n), EReal.bot_sub]; rfl
  · rw [Ax, Ax, e, Finset.sum_range_add]
    refine (congrArg (_ + ·) (Finset.sum_eq_zero fun j hj => Finset.sum_eq_zero fun c _ => ?_)).trans (add_zero _)
    rw [h _ (Nat.le_add_right _ _) (Nat.add_lt_add_left (Finset.mem_range.1 hj) n), EReal.bot_sub]; exact zero_mul _

end Cert.Proof.Online
end
end
-- ==== Proof.Tile.lean ====
/-
  One tile of the kernel's attention read at a row and a lane: the running softmax taken one step further.
-/
module

public import proofs.«01_k».proof.Proof.Outer
public import proofs.«01_k».proof.Proof.Online
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe
open Cert.Proof.Online

/-- The start of a maximum: the pattern of minus infinity. -/
theorem ofBits_bot : Ideal.ofBits .f32 4286578688#32 = ⊥ := by
  rfl

/-- The running arrays at a row and a lane: the softmax over the first `n` tiles of the scores `σ` of the row and
    the values `v` of the lane. -/
def Good (σ : Fin 512 → ℕ → Fin 512 → EReal) (v : Fin 128 → ℕ → Fin 512 → EReal) (n : ℕ) (s : St Ideal) : Prop :=
  ∀ (r : Fin 512) (x : Fin 128), s.1 (ix2 r x) = Mx (σ r) n ∧ s.2.1 (ix2 r x) = Lx (σ r) n ∧ s.2.2 (ix2 r x) = Ax (σ r) (v x) n

/-- The greatest entry of a row, as the kernel folds it. -/
theorem fold_sup (f : Fin 512 → EReal) : Finset.fold max (⊥ : EReal) f Finset.univ = Finset.univ.sup f := rfl

variable {v1 v2 : IVec S512x512 32} {v15 : FVec Ideal S512x128 .bf16} {v31 : FVec Ideal S1x1 .f32} {K V : FVec Ideal S1x512x128 .bf16} {L : FVec Ideal S1x1x1x1x512 .f32}
variable {σ : Fin 512 → ℕ → Fin 512 → EReal} {v : Fin 128 → ℕ → Fin 512 → EReal} {n : ℕ} {s : St Ideal}

theorem pay10_good (hs : Good σ v n s) (hS : ∀ r c, k0_pay9 v15 v31 K L (ix2 r c) = σ r n c) (r : Fin 512) (x : Fin 128) :
    k0_pay10 v15 v31 K L s.1 (ix2 r x) = Mx (σ r) (n + 1) := by
  pointwise [k0_pay10]
  rw [(hs r x).1, ofBits_bot, fold_sup, Mx_succ]
  exact congrArg (max _) (Finset.sup_congr rfl fun c _ => hS r c)

theorem pay12_good (hs : Good σ v n s) (hS : ∀ r c, k0_pay9 v15 v31 K L (ix2 r c) = σ r n c) (r c : Fin 512) :
    k0_pay12 v15 v31 K L s.1 (ix2 r c) = Ideal.exp (σ r n c - Mx (σ r) (n + 1)) := by
  pointwise [k0_pay12]
  simp only [pay10_good hs hS, hS, dite_eq_ite, ite_self]

/-- One tile of the first or second head's inner loop takes the softmax one tile further. -/
theorem step2_good (hs : Good σ v n s) (hS : ∀ r c, k0_pay9 v15 v31 K L (ix2 r c) = σ r n c) (hV : ∀ x c, V (ix3 0 c x) = v x n c) :
    Good σ v (n + 1) (step2 v15 v31 K L V s) := by
  intro r x
  refine ⟨?_, ?_, ?_⟩
  · show k0_pay31 (k0_pay10 v15 v31 K L s.1) (ix2 r x) = _
    pointwise [k0_pay31]
    exact pay10_good hs hS r x
  · show k0_pay13 v15 v31 K L s.1 s.2.1 (ix2 r x) = _
    pointwise [k0_pay13, k0_pay11]
    rw [(hs r x).1, (hs r x).2.1, pay10_good hs hS, ← Lx_succ]
    exact congrArg (_ + ·) (Finset.sum_congr rfl fun c _ => pay12_good hs hS r c)
  · show k0_pay30 (k0_pay14 v15 v31 K L s.1 s.2.2) (k0_pay15 v15 v31 K L s.1) (k0_pay16 V) (ix2 r x) = _
    pointwise [k0_pay30, k0_pay14, k0_pay15, k0_pay16, k0_pay11]
    rw [(hs r x).1, (hs r x).2.2, pay10_good hs hS, ← Ax_succ]
    refine Ideal.add_congr rfl (Finset.sum_congr rfl fun c _ => ?_)
    rw [pay12_good hs hS r c, hV]

theorem pay35_good (hs : Good σ v n s) (hS : ∀ r c, k0_pay34 v1 v2 v15 v31 K L (ix2 r c) = σ r n c) (r : Fin 512) (x : Fin 128) :
    k0_pay35 v1 v2 v15 v31 K L s.1 (ix2 r x) = Mx (σ r) (n + 1) := by
  pointwise [k0_pay35]
  rw [(hs r x).1, ofBits_bot, fold_sup, Mx_succ]
  exact congrArg (max _) (Finset.sup_congr rfl fun c _ => hS r c)

theorem pay37_good (hs : Good σ v n s) (hS : ∀ r c, k0_pay34 v1 v2 v15 v31 K L (ix2 r c) = σ r n c) (r c : Fin 512) :
    k0_pay37 v1 v2 v15 v31 K L s.1 (ix2 r c) = Ideal.exp (σ r n c - Mx (σ r) (n + 1)) := by
  pointwise [k0_pay37]
  simp only [pay35_good hs hS, hS, dite_eq_ite, ite_self]

/-- The diagonal tile takes the softmax one tile further. -/
theorem stepD_good (hs : Good σ v n s) (hS : ∀ r c, k0_pay34 v1 v2 v15 v31 K L (ix2 r c) = σ r n c) (hV : ∀ x c, V (ix3 0 c x) = v x n c) :
    Good σ v (n + 1) (stepD v1 v2 v15 v31 K L V s) := by
  intro r x
  refine ⟨?_, ?_, ?_⟩
  · show k0_pay3 (k0_pay35 v1 v2 v15 v31 K L s.1) (ix2 r x) = _
    pointwise [k0_pay3]
    exact pay35_good hs hS r x
  · show k0_pay38 v1 v2 v15 v31 K L s.1 s.2.1 (ix2 r x) = _
    pointwise [k0_pay38, k0_pay36]
    rw [(hs r x).1, (hs r x).2.1, pay35_good hs hS, ← Lx_succ]
    exact congrArg (_ + ·) (Finset.sum_congr rfl fun c _ => pay37_good hs hS r c)
  · show k0_pay2 (k0_pay39 v1 v2 v15 v31 K L s.1 s.2.2) (k0_pay40 v1 v2 v15 v31 K L s.1) (k0_pay41 V) _ (ix2 r x) = _
    pointwise [k0_pay2, k0_pay39, k0_pay40, k0_pay41, k0_pay36]
    rw [(hs r x).1, (hs r x).2.2, pay35_good hs hS, ← Ax_succ]
    refine Ideal.add_congr rfl (Finset.sum_congr rfl fun c _ => ?_)
    rw [pay37_good hs hS r c, hV]

/-- The second head's diagonal tile is the first head's. -/
theorem stepE_eq : stepE v1 v2 v15 v31 K L V s = stepD v1 v2 v15 v31 K L V s := rfl

/-- The start is the softmax over no tile. -/
theorem st0_good : Good σ v 0 st0 := by
  intro r x
  refine ⟨?_, ?_, ?_⟩
  · show k0_pay26 (ix2 r x) = _
    pointwise [k0_pay26]
    exact ofBits_bot
  · show k0_pay27 (ix2 r x) = _
    pointwise [k0_pay27]
    rfl
  · show k0_pay28 (ix2 r x) = _
    pointwise [k0_pay28]
    rfl

theorem st1_eq_st0 : (st1 : St Ideal) = st0 := rfl

/-- The score of row `r` against key `c` of a tile. -/
theorem pay9_at (r c : Fin 512) : k0_pay9 v15 v31 K L (ix2 r c) = (∑ x : Fin 128, v15 (ix2 r x) * K (ix3 0 c x)) + (v31 (ix2 0 0) - L (ix5 0 0 0 0 c)) := by
  pointwise [k0_pay9]

/-- The masked score of the diagonal tile. -/
theorem pay34_at (r c : Fin 512) : k0_pay34 (iota .tc S512x512 32 [0] iota_S512x512_d0_w32) (iota .tc S512x512 32 [1] iota_S512x512_d1_w32) v15 v31 K L (ix2 r c)
    = if c.val ≤ r.val then (∑ x : Fin 128, v15 (ix2 r x) * K (ix3 0 c x)) + (v31 (ix2 0 0) - L (ix5 0 0 0 0 c)) else ⊥ := by
  pointwise [k0_pay34]
  rw [ofBits_bot]
  word_cmp

/-- The query rows with the lanes of the other head set to 0. -/
theorem pay25_at (Q : FVec Ideal S1x512x128 .bf16) (r : Fin 512) (x : Fin 128) : k0_pay25 k0_pay1 Q (ix2 r x) = if x.val < 64 then Q (ix3 0 r x) else 0 := by
  pointwise [k0_pay25, k0_pay1]
  word_cmp

theorem pay58_at (Q : FVec Ideal S1x512x128 .bf16) (r : Fin 512) (x : Fin 128) : k0_pay58 k0_pay5 Q (ix2 r x) = if x.val < 64 then 0 else Q (ix3 0 r x) := by
  pointwise [k0_pay58, k0_pay5]
  word_cmp
  by_cases h : x.val < 64
  · rw [if_pos h, if_neg (by omega)]
  · rw [if_neg h, if_pos (by omega)]

theorem pay29_at : k0_pay29 L (ix2 0 0) = L (ix5 0 0 0 0 0) := by
  pointwise [k0_pay29]

theorem pay62_at : k0_pay62 L (ix2 0 0) = L (ix5 0 0 0 0 0) := by
  pointwise [k0_pay62]

theorem pay4_at (a l : FVec Ideal S512x128 .f32) (r : Fin 512) (x : Fin 128) : k0_pay4 (F := Ideal) a l (ix3 0 r x) = Ideal.div (a (ix2 r x)) (l (ix2 r x)) := by
  pointwise [k0_pay4]

theorem pay8_at (a l : FVec Ideal S512x128 .f32) (o : FVec Ideal S1x512x128 .bf16) (r : Fin 512) (x : Fin 128) :
    k0_pay8 a l o (ix3 0 r x) = if x.val < 64 then o (ix3 0 r x) else Ideal.div (a (ix2 r x)) (l (ix2 r x)) := by
  pointwise [k0_pay8, k0_pay5]
  word_cmp
  by_cases h : x.val < 64
  · rw [if_pos h, if_neg (by omega)]
  · rw [if_neg h, if_pos (by omega)]

end Cert.Proof.KernelIdeal
end
end
-- ==== Proof.Softmax.lean ====
/-
  The softmax quotient over a whole row: numerator over denominator against the weighted sum of quotients, under a
  shift of the scores by a real.
-/
module

public import proofs.«01_k».proof.Proof.Online
public import Idealize.ShloMosaic.Lib.Pointwise

@[expose] public section

noncomputable section

namespace Cert.Proof.Online

open Idealize.ShloMosaic

/-- A maximum along the last axis, as a fold over it. -/
theorem max_last {n0 n1 n2 n3 : ℕ} {u : Shape} (v : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (a : Fin n0) (b : Fin n1) (d : Fin n2) :
    Host.reduce FloatOps.maximumf v c h hu (ix3 a b d) = Finset.fold max (c (Shape.Idx.first hu)) (fun k => v (ix4 a b d k)) Finset.univ := by
  show Host.reduce (max : EReal → EReal → EReal) v c h hu (ix3 a b d) = _
  rw [Host.reduce_eq_fold]
  exact h.fold_fiber_r4_a3 (ix3 a b d) (max : EReal → EReal → EReal) _ v

/-- A fold of `max` from minus infinity. -/
theorem fold_bot {N : ℕ} (f : Fin N → EReal) : Finset.fold max (⊥ : EReal) f Finset.univ = Finset.univ.sup f := rfl

/-- The pattern of minus infinity. -/
theorem pattern_bot : Ideal.ofBits .f32 4286578688#32 = ⊥ := by rfl

/-- The softmax of a row, its sums over the whole row. -/
def soft {N : ℕ} (σ v : Fin N → EReal) : EReal :=
  Ideal.div (∑ s, Ideal.exp (σ s - Finset.univ.sup σ) * v s) (∑ s, Ideal.exp (σ s - Finset.univ.sup σ))

/-- A row cut into eight tiles of 512. -/
theorem tiles_Mx (σ : Fin 4096 → EReal) : Mx (fun j c => σ (Fin.ofNat 4096 (512 * j + c.val))) 8 = Finset.univ.sup σ := by
  refine le_antisymm (Finset.sup_le fun j _ => Finset.sup_le fun c _ => Finset.le_sup (f := σ) (Finset.mem_univ _)) (Finset.sup_le fun s _ => ?_)
  have h := le_Mx (fun j c => σ (Fin.ofNat 4096 (512 * j + c.val))) (n := 8) (j := s.val / 512) (by omega) ⟨s.val % 512, by omega⟩
  refine le_trans (le_of_eq (congrArg σ (Fin.ext ?_))) h
  show s.val = (512 * (s.val / 512) + s.val % 512) % 4096
  omega

theorem tiles_sum (f : Fin 4096 → EReal) : ∑ j ∈ Finset.range 8, ∑ c : Fin 512, f (Fin.ofNat 4096 (512 * j + c.val)) = ∑ s, f s := by
  rw [Finset.sum_range]
  refine Eq.trans ?_ (Fin.sum_univ_tiles 8 512 rfl f).symm
  refine Finset.sum_congr rfl fun j _ => Finset.sum_congr rfl fun c _ => congrArg f (Fin.ext ?_)
  show (512 * j.val + c.val) % 4096 = j.val * 512 + c.val
  omega

theorem tiles_soft (σ v : Fin 4096 → EReal) :
    Ideal.div (Ax (fun j c => σ (Fin.ofNat 4096 (512 * j + c.val))) (fun j c => v (Fin.ofNat 4096 (512 * j + c.val))) 8) (Lx (fun j c => σ (Fin.ofNat 4096 (512 * j + c.val))) 8)
      = soft σ v := by
  unfold soft Ax Lx
  rw [tiles_Mx, tiles_sum (fun s => Ideal.exp (σ s - Finset.univ.sup σ) * v s), tiles_sum (fun s => Ideal.exp (σ s - Finset.univ.sup σ))]

section
variable {N : ℕ} (σ ρ v : Fin N → EReal) (δ : ℝ) (t0 : Fin N)

/-- The greatest of scores that are real or minus infinity, one of them real, is real. -/
theorem sup_real (hρ : ∀ s, ρ s = ⊥ ∨ ∃ x : ℝ, ρ s = x) (ht : ∃ x : ℝ, ρ t0 = x) : ∃ (s1 : Fin N) (x : ℝ), ρ s1 = x ∧ Finset.univ.sup ρ = x := by
  obtain ⟨s1, -, h1⟩ := Finset.exists_mem_eq_sup Finset.univ ⟨t0, Finset.mem_univ t0⟩ ρ
  obtain ⟨y, hy⟩ := ht
  rcases hρ s1 with h | ⟨x, hx⟩
  · have : ρ t0 ≤ ⊥ := (Finset.le_sup (Finset.mem_univ t0)).trans_eq (h1.trans h)
    rw [hy, le_bot_iff] at this
    exact absurd this (EReal.coe_ne_bot y)
  · exact ⟨s1, x, hx, h1.trans hx⟩

/-- Shifting every score by a real changes no difference from the greatest. -/
theorem sub_sup_shift (hρ : ∀ s, ρ s = ⊥ ∨ ∃ x : ℝ, ρ s = x) (ht : ∃ x : ℝ, ρ t0 = x) (hσ : ∀ s, σ s = ρ s + (δ : EReal)) (s : Fin N) :
    σ s - Finset.univ.sup σ = ρ s - Finset.univ.sup ρ := by
  obtain ⟨s1, x, h1, hM⟩ := sup_real ρ t0 hρ ht
  have hS : Finset.univ.sup σ = ((x + δ : ℝ) : EReal) := by
    refine le_antisymm (Finset.sup_le fun s _ => ?_) ?_
    · rw [hσ, EReal.coe_add, ← hM]
      exact add_le_add (Finset.le_sup (Finset.mem_univ s)) le_rfl
    · rw [EReal.coe_add, ← h1, ← hσ]
      exact Finset.le_sup (Finset.mem_univ s1)
  rw [hS, hM, hσ]
  rcases hρ s with h | ⟨y, hy⟩
  · rw [h, EReal.bot_add, EReal.bot_sub, EReal.bot_sub]
  · rw [hy, ← EReal.coe_add, ← EReal.coe_sub, ← EReal.coe_sub]
    congr 1; ring

/-- The sum of the exponentials is a real above 0. -/
theorem den_real (hρ : ∀ s, ρ s = ⊥ ∨ ∃ x : ℝ, ρ s = x) (ht : ∃ x : ℝ, ρ t0 = x) : ∃ d : ℝ, 0 < d ∧ ∑ s, Ideal.exp (ρ s - Finset.univ.sup ρ) = (d : EReal) := by
  obtain ⟨s1, x, h1, hM⟩ := sup_real ρ t0 hρ ht
  choose p p0 p1 hp using fun s => exp_sub_real (Finset.le_sup (f := ρ) (Finset.mem_univ s))
  have hs1 : p s1 = 1 := by
    have h := hp s1
    rw [hM, h1, ← EReal.coe_sub, sub_self] at h
    have h' : ((Real.exp 0 : ℝ) : EReal) = (p s1 : EReal) := h
    rw [Real.exp_zero] at h'
    exact (EReal.coe_injective h').symm
  refine ⟨∑ s, p s, ?_, ?_⟩
  · exact lt_of_lt_of_le (hs1 ▸ zero_lt_one) (Finset.single_le_sum (fun s _ => p0 s) (Finset.mem_univ s1))
  · rw [Finset.sum_congr rfl fun s _ => hp s]
    exact (map_sum (⟨⟨fun x : ℝ => (x : EReal), rfl⟩, EReal.coe_add⟩ : ℝ →+ EReal) p Finset.univ).symm

/-- The quotient of the sums of shifted scores is the weighted sum of the quotients. -/
theorem soft_eq (hρ : ∀ s, ρ s = ⊥ ∨ ∃ x : ℝ, ρ s = x) (ht : ∃ x : ℝ, ρ t0 = x) (hσ : ∀ s, σ s = ρ s + (δ : EReal)) :
    soft σ v = ∑ s, v s * Ideal.div (Ideal.exp (ρ s - Finset.univ.sup ρ)) (∑ s, Ideal.exp (ρ s - Finset.univ.sup ρ)) := by
  unfold soft
  simp only [sub_sup_shift σ ρ δ t0 hρ ht hσ]
  obtain ⟨d, hd, e⟩ := den_real ρ t0 hρ ht
  have hne : ((d : ℝ) : EReal) ≠ 0 := fun h => hd.ne' (EReal.coe_eq_zero.1 h)
  rw [e]
  simp only [Ideal.div, if_neg hne]
  rw [← EReal.coe_inv, mul_comm, mul_sum_of_real _ _ (EReal.coe_nonneg.2 (inv_nonneg.2 hd.le)) (EReal.coe_ne_top _)]
  refine Finset.sum_congr rfl fun s _ => ?_
  rw [mul_comm (v s), mul_comm _ (v s), mul_comm _ (v s * _), mul_comm (v s), mul_assoc, mul_comm (v s), ← mul_assoc]
end

end Cert.Proof.Online
end
end
-- ==== Proof.Block.lean ====
/-
  The block the body leaves, read at a row and a lane: the softmax of the row's scores over the whole row.
-/
module

public import proofs.«01_k».proof.Proof.Body
public import proofs.«01_k».proof.Proof.Tile
public import proofs.«01_k».proof.Proof.Softmax

@[expose] public section

set_option maxRecDepth 16384

noncomputable section

namespace Cert.Proof.KernelIdeal

open Cert.KernelIdeal Cert.KernelIdeal.Gen
open Idealize.ShloMosaic Idealize.ShloMosaic.TcCoe
open Cert.Proof.Online

/-- A tile of rows read at a row of the tile. -/
theorem rows_at (X : FVec Ideal S1x4096x128 .bf16) {off : Fin 3 → ℕ} (h) {n : ℕ} (ho : off = ![0, 512 * n, 0]) (hn : n < 8) (r : Fin 512) (x : Fin 128) :
    rows (F := Ideal) X off h (ix3 0 r x) = X (ix3 0 ⟨512 * n + r.val, by omega⟩ x) := by
  subst ho
  pointwise [rows]

/-- The decay row of a tile read at a key. -/
theorem lcRow_at (X : FVec Ideal S1x2x8x1x512 .f32) {off : Fin 5 → ℕ} (h) {a : Fin 2} {n : ℕ} (ho : off = ![0, a.val, n, 0, 0]) (hn : n < 8) (c : Fin 512) :
    lcRow (F := Ideal) X off h (ix5 0 0 0 0 c) = X (ix5 0 a ⟨n, hn⟩ 0 c) := by
  subst ho
  pointwise [lcRow]

variable (X2 X3 X4 : FVec Ideal S1x4096x128 .bf16) (X5 : FVec Ideal S1x2x8x1x512 .f32)

/-- The kernel's score of query `t` against key `s` in head `a` of the block. -/
def ks (a : Fin 2) (t s : Fin 4096) : EReal :=
  if s.val ≤ t.val then (∑ x : Fin 128, (if x.val / 64 = a.val then X2 (ix3 0 t x) else 0) * X3 (ix3 0 s x))
    + (X5 (ix5 0 a ⟨t.val / 512, by omega⟩ 0 0) - X5 (ix5 0 a ⟨s.val / 512, by omega⟩ 0 ⟨s.val % 512, by omega⟩)) else ⊥

/-- The scores of query tile `k`, tile by tile of keys; and the values. -/
def σk (a : Fin 2) (k : Fin 8) (r : Fin 512) : ℕ → Fin 512 → EReal := fun j c => ks X2 X3 X5 a ⟨512 * k.val + r.val, by omega⟩ (Fin.ofNat 4096 (512 * j + c.val))
def vk (x : Fin 128) : ℕ → Fin 512 → EReal := fun j c => X4 (ix3 0 (Fin.ofNat 4096 (512 * j + c.val)) x)

theorem ofNat_tile {n : ℕ} (hn : n < 8) (c : Fin 512) : Fin.ofNat 4096 (512 * n + c.val) = ⟨512 * n + c.val, by omega⟩ :=
  Fin.ext (Nat.mod_eq_of_lt (by omega))

section
variable {X2 X3 X4 X5}
variable {a : Fin 2} {k : Fin 8} {n : ℕ} (hn : n < 8) {v15 : FVec Ideal S512x128 .bf16} {v31 : FVec Ideal S1x1 .f32} {K V : FVec Ideal S1x512x128 .bf16} {L : FVec Ideal S1x1x1x1x512 .f32}
  (hq : ∀ r x, v15 (ix2 r x) = if x.val / 64 = a.val then X2 (ix3 0 ⟨512 * k.val + r.val, by omega⟩ x) else 0)
  (hl : v31 (ix2 0 0) = X5 (ix5 0 a k 0 0))
  (hK : ∀ c x, K (ix3 0 c x) = X3 (ix3 0 ⟨512 * n + c.val, by omega⟩ x))
  (hL : ∀ c, L (ix5 0 0 0 0 c) = X5 (ix5 0 a ⟨n, hn⟩ 0 c))

include hq hl hK hL in
/-- The tile's score before the mask. -/
theorem raw_score (r c : Fin 512) : (∑ x : Fin 128, v15 (ix2 r x) * K (ix3 0 c x)) + (v31 (ix2 0 0) - L (ix5 0 0 0 0 c))
    = (∑ x : Fin 128, (if x.val / 64 = a.val then X2 (ix3 0 ⟨512 * k.val + r.val, by omega⟩ x) else 0) * X3 (ix3 0 ⟨512 * n + c.val, by omega⟩ x))
      + (X5 (ix5 0 a ⟨(512 * k.val + r.val) / 512, by omega⟩ 0 0) - X5 (ix5 0 a ⟨(512 * n + c.val) / 512, by omega⟩ 0 ⟨(512 * n + c.val) % 512, by omega⟩)) := by
  rw [hl, hL]
  have e1 : (⟨(512 * k.val + r.val) / 512, by omega⟩ : Fin 8) = k := Fin.ext (by show _ / 512 = _; omega)
  have e2 : (⟨(512 * n + c.val) / 512, by omega⟩ : Fin 8) = ⟨n, hn⟩ := Fin.ext (by show (512 * n + c.val) / 512 = n; omega)
  have e3 : (⟨(512 * n + c.val) % 512, by omega⟩ : Fin 512) = c := Fin.ext (by show _ % 512 = _; omega)
  rw [e1, e2, e3]
  refine Ideal.add_congr (Finset.sum_congr rfl fun x _ => ?_) rfl
  rw [hq, hK]

include hq hl hK hL in
theorem inner_score (hnk : n < k.val) (r c : Fin 512) : k0_pay9 v15 v31 K L (ix2 r c) = σk X2 X3 X5 a k r n c := by
  refine (pay9_at r c).trans ((raw_score hn hq hl hK hL r c).trans ?_)
  unfold σk ks
  rw [ofNat_tile hn, if_pos (by show 512 * n + c.val ≤ 512 * k.val + r.val; omega)]

include hq hl hK hL in
theorem diag_score (hnk : n = k.val) (r c : Fin 512) : k0_pay34 rowI colI v15 v31 K L (ix2 r c) = σk X2 X3 X5 a k r n c := by
  refine (pay34_at r c).trans ?_
  unfold σk ks
  rw [ofNat_tile hn]
  by_cases h : c.val ≤ r.val
  · rw [if_pos h, if_pos (by show 512 * n + c.val ≤ 512 * k.val + r.val; omega)]
    exact raw_score hn hq hl hK hL r c
  · rw [if_neg h, if_neg (by show ¬ 512 * n + c.val ≤ 512 * k.val + r.val; omega)]
end

/-- Past the diagonal every score is minus infinity: the softmax over the tiles done is that over all eight. -/
theorem all_tiles (a : Fin 2) (k : Fin 8) (r : Fin 512) (x : Fin 128) :
    Ideal.div (Ax (σk X2 X3 X5 a k r) (vk X4 x) (k.val + 1)) (Lx (σk X2 X3 X5 a k r) (k.val + 1))
      = soft (ks X2 X3 X5 a ⟨512 * k.val + r.val, by omega⟩) fun s => X4 (ix3 0 s x) := by
  rw [← tiles_soft]
  have hbot : ∀ j, k.val + 1 ≤ j → j < k.val + 1 + (8 - (k.val + 1)) → ∀ c, σk X2 X3 X5 a k r j c = ⊥ := by
    intro j h1 h2 c
    unfold σk ks
    rw [ofNat_tile (by omega), if_neg (by show ¬ 512 * j + c.val ≤ 512 * k.val + r.val; omega)]
  obtain ⟨-, hL, hA⟩ := tail_bot (σk X2 X3 X5 a k r) (vk X4 x) hbot
  rw [show k.val + 1 + (8 - (k.val + 1)) = 8 from by omega] at hL hA
  rw [← hL, ← hA]
  rfl

theorem trips2 : ∀ k, (k0_t2_loop k).trips = k.val := by decide +kernel
theorem trips5 : ∀ k, (k0_t5_loop k).trips = k.val := by decide +kernel

/-- The lane of the first head, of the second. -/
theorem lane0 (Q : FVec Ideal S1x512x128 .bf16) (r : Fin 512) (x : Fin 128) : k0_pay25 k0_pay1 Q (ix2 r x) = if x.val / 64 = (0 : Fin 2).val then Q (ix3 0 r x) else 0 := by
  rw [pay25_at]
  exact if_congr (by show x.val < 64 ↔ x.val / 64 = 0; omega) rfl rfl

theorem lane1 (Q : FVec Ideal S1x512x128 .bf16) (r : Fin 512) (x : Fin 128) : k0_pay58 k0_pay5 Q (ix2 r x) = if x.val / 64 = (1 : Fin 2).val then Q (ix3 0 r x) else 0 := by
  rw [pay58_at]
  by_cases h : x.val < 64
  · rw [if_pos h, if_neg (by show ¬ x.val / 64 = 1; omega)]
  · rw [if_neg h, if_pos (by show x.val / 64 = 1; omega)]

/-- The running arrays of the first head after the tiles before the diagonal. -/
theorem run2_good (k : Fin k0_t1_loop.trips) (hk : k.val < 8) (n : ℕ) (hn : n ≤ k.val) :
    Good (σk X2 X3 X5 0 ⟨k.val, hk⟩) (vk X4) n
      (run2 (F := Ideal) X3 X4 X5 k (k0_pay25 k0_pay1 (rows (F := Ideal) X2 (k0_off1 k) (k0_off1_inb k))) (k0_pay29 (lcRow (F := Ideal) X5 (k0_off2 k) (k0_off2_inb k))) st0 n) := by
  induction n with
  | zero => exact st0_good
  | succ n ih =>
    have hn8 : n < 8 := by omega
    rw [run2_succ (F := Ideal) X3 X4 X5 k _ _ _ ⟨n, by rw [trips2]; omega⟩]
    refine step2_good (ih (by omega)) (inner_score hn8 (fun r x => ?_) ?_ (fun c x => ?_) (fun c => ?_) (by show n < k.val; omega)) (fun x c => ?_)
    · rw [lane0, rows_at X2 _ (k0_off1_eq k) hk]
    · rw [pay29_at, lcRow_at (a := 0) X5 _ (k0_off2_eq k) hk]
    · exact rows_at X3 _ (k0_off3_eq k _) hn8 c x
    · exact lcRow_at (a := 0) X5 _ (k0_off4_eq k _) hn8 c
    · unfold vk
      rw [ofNat_tile hn8]
      exact rows_at X4 _ (k0_off3_eq k _) hn8 c x

/-- The running arrays of the first head after the diagonal tile. -/
theorem fin1_good (k : Fin k0_t1_loop.trips) (hk : k.val < 8) : Good (σk X2 X3 X5 0 ⟨k.val, hk⟩) (vk X4) (k.val + 1) (fin1 (F := Ideal) rowI colI X2 X3 X4 X5 k) := by
  unfold fin1
  rw [trips2]
  refine stepD_good (run2_good X2 X3 X4 X5 k hk _ le_rfl) (diag_score hk (fun r x => ?_) ?_ (fun c x => ?_) (fun c => ?_) rfl) (fun x c => ?_)
  · rw [lane0, rows_at X2 _ (k0_off1_eq k) hk]
  · rw [pay29_at, lcRow_at (a := 0) X5 _ (k0_off2_eq k) hk]
  · exact rows_at X3 _ (k0_off1_eq k) hk c x
  · exact lcRow_at (a := 0) X5 _ (k0_off2_eq k) hk c
  · unfold vk
    rw [ofNat_tile hk]
    exact rows_at X4 _ (k0_off1_eq k) hk c x

/-- The same for the second head. -/
theorem run5_good (k : Fin k0_t4_loop.trips) (hk : k.val < 8) (n : ℕ) (hn : n ≤ k.val) :
    Good (σk X2 X3 X5 1 ⟨k.val, hk⟩) (vk X4) n
      (run5 (F := Ideal) X3 X4 X5 k (k0_pay58 k0_pay5 (rows (F := Ideal) X2 (k0_off7 k) (k0_off7_inb k))) (k0_pay62 (lcRow (F := Ideal) X5 (k0_off8 k) (k0_off8_inb k))) st1 n) := by
  induction n with
  | zero => exact st0_good
  | succ n ih =>
    have hn8 : n < 8 := by omega
    rw [run5_succ (F := Ideal) X3 X4 X5 k _ _ _ ⟨n, by rw [trips5]; omega⟩]
    refine step2_good (ih (by omega)) (inner_score hn8 (fun r x => ?_) ?_ (fun c x => ?_) (fun c => ?_) (by show n < k.val; omega)) (fun x c => ?_)
    · rw [lane1, rows_at X2 _ (k0_off7_eq k) hk]
    · rw [pay62_at, lcRow_at (a := 1) X5 _ (k0_off8_eq k) hk]
    · exact rows_at X3 _ (k0_off9_eq k _) hn8 c x
    · exact lcRow_at (a := 1) X5 _ (k0_off10_eq k _) hn8 c
    · unfold vk
      rw [ofNat_tile hn8]
      exact rows_at X4 _ (k0_off9_eq k _) hn8 c x

theorem fin4_good (k : Fin k0_t4_loop.trips) (hk : k.val < 8) : Good (σk X2 X3 X5 1 ⟨k.val, hk⟩) (vk X4) (k.val + 1) (fin4 (F := Ideal) rowI colI X2 X3 X4 X5 k) := by
  unfold fin4
  rw [trips5]
  refine stepD_good (run5_good X2 X3 X4 X5 k hk _ le_rfl) (diag_score hk (fun r x => ?_) ?_ (fun c x => ?_) (fun c => ?_) rfl) (fun x c => ?_)
  · rw [lane1, rows_at X2 _ (k0_off7_eq k) hk]
  · rw [pay62_at, lcRow_at (a := 1) X5 _ (k0_off8_eq k) hk]
  · exact rows_at X3 _ (k0_off7_eq k) hk c x
  · exact lcRow_at (a := 1) X5 _ (k0_off8_eq k) hk c
  · unfold vk
    rw [ofNat_tile hk]
    exact rows_at X4 _ (k0_off7_eq k) hk c x

/-- The block at row `t` and lane `x`: the head is the half of the lanes `x` lies in. -/
theorem blk_at (t : Fin 4096) (x : Fin 128) : blk (F := Ideal) rowI colI X2 X3 X4 X5 (ix3 0 t x)
    = soft (ks X2 X3 X5 ⟨x.val / 64, by omega⟩ t) fun s => X4 (ix3 0 s x) := by
  have hl : loc (ix3 0 t x) = ix3 0 (⟨t.val % 512, by omega⟩ : Fin 512) x := by
    funext a
    revert a
    refine Fin.forall_fin_succ.2 ⟨?_, Fin.forall_fin_succ.2 ⟨rfl, Fin.forall_fin_succ.2 ⟨?_, fun a => a.elim0⟩⟩⟩
    · exact Fin.ext rfl
    · exact Fin.ext (Nat.mod_eq_of_lt x.isLt)
  have h8 : t.val / 512 < 8 := by omega
  have ht : (⟨512 * (t.val / 512) + t.val % 512, by omega⟩ : Fin 4096) = t := Fin.ext (by show 512 * (t.val / 512) + t.val % 512 = t.val; omega)
  unfold blk
  rw [hl, pay8_at, pay4_at]
  by_cases h : x.val < 64
  · obtain ⟨-, hL, hA⟩ := fin1_good X2 X3 X4 X5 (tl1 (ix3 0 t x)) h8 ⟨t.val % 512, by omega⟩ x
    rw [if_pos h, hL, hA]
    refine (all_tiles X2 X3 X4 X5 0 ⟨t.val / 512, h8⟩ ⟨t.val % 512, by omega⟩ x).trans ?_
    rw [ht, show (⟨x.val / 64, by omega⟩ : Fin 2) = 0 from Fin.ext (by show x.val / 64 = 0; omega)]
  · obtain ⟨-, hL, hA⟩ := fin4_good X2 X3 X4 X5 (tl4 (ix3 0 t x)) h8 ⟨t.val % 512, by omega⟩ x
    rw [if_neg h, hL, hA]
    refine (all_tiles X2 X3 X4 X5 1 ⟨t.val / 512, h8⟩ ⟨t.val % 512, by omega⟩ x).trans ?_
    rw [ht, show (⟨x.val / 64, by omega⟩ : Fin 2) = 1 from Fin.ext (by show x.val / 64 = 1; omega)]

end Cert.Proof.KernelIdeal
end
end
-- ==== Proof.Value.lean ====
/-
  The kernel's result array as a function of its arguments.
-/
module

public import proofs.«01_k».proof.Proof.Run
public import proofs.«01_k».proof.Proof.Block
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)
open Cert.Proof.Online

variable (m : (ℓ : Loc nD τ sig) → Buf (Elt Ideal) ℓ)

/-- The windows' places: batch `t / 8`, pair of heads `t % 8`. -/
theorem idx : ∀ t : Fin cfg0.N, win0_0.index t = ![t.val / 8, 0, t.val % 8] ∧ win0_1.index t = ![t.val / 8, 0, 8 + t.val % 8]
    ∧ win0_2.index t = ![t.val / 8, 0, 16 + t.val % 8] ∧ win0_3.index t = ![t.val / 8, t.val % 8, 0, 0, 0] ∧ win0_4.index t = ![t.val / 8, 0, t.val % 8] :=
  (by decide +kernel : ∀ t : Fin grid0.N, _)

theorem lt64 : ∀ t : Fin cfg0.N, t.val < 64 := (by decide +kernel : ∀ t : Fin grid0.N, t.val < 64)

/-- The score in head `h` of batch `b`, over the whole arguments. -/
def ksc (X : FVec Ideal S8x4096x4096 .bf16) (C : FVec Ideal S8x16x4096 .f32) (b : Fin 8) (p : Fin 8) (a : Fin 2) (t s : Fin 4096) : EReal :=
  if s.val ≤ t.val then (∑ x : Fin 128, (if x.val / 64 = a.val then X (ix3 b t ⟨128 * p.val + x.val, by omega⟩) else 0) * X (ix3 b s ⟨1024 + 128 * p.val + x.val, by omega⟩))
    + (C (ix3 b ⟨2 * p.val + a.val, by omega⟩ ⟨512 * (t.val / 512), by omega⟩) - C (ix3 b ⟨2 * p.val + a.val, by omega⟩ s)) else ⊥

/-- The result, a function of the arguments. -/
def KV (X : FVec Ideal S8x4096x4096 .bf16) (C : FVec Ideal S8x16x4096 .f32) : FVec Ideal S8x4096x1024 .bf16 := fun i =>
  soft (ksc X C (i 0) ⟨(i 2).val / 128, Nat.div_lt_of_lt_mul (i 2).isLt⟩ ⟨(i 2).val / 64 % 2, Nat.mod_lt _ (by decide)⟩ (i 1))
    fun s => X (ix3 (i 0) s ⟨2048 + (i 2).val, Nat.lt_of_lt_of_le (Nat.add_lt_add_left (i 2).isLt 2048) (by decide)⟩)

theorem blk0 (c : Dev nD) (t : Fin cfg0.N) (s : Fin 4096) (x : Fin 128) : (iblk m c 0 t : FVec Ideal S1x4096x128 .bf16) (ix3 0 s x)
    = (m ((c.tc : Thread nD τ).loc main_arg0) : FVec Ideal S8x4096x4096 .bf16) (ix3 ⟨t.val / 8, by have := lt64 t; omega⟩ s ⟨128 * (t.val % 8) + x.val, by omega⟩) := by
  blk_ext [iblk, V, idx t]

theorem blk1 (c : Dev nD) (t : Fin cfg0.N) (s : Fin 4096) (x : Fin 128) : (iblk m c 1 t : FVec Ideal S1x4096x128 .bf16) (ix3 0 s x)
    = (m ((c.tc : Thread nD τ).loc main_arg0) : FVec Ideal S8x4096x4096 .bf16) (ix3 ⟨t.val / 8, by have := lt64 t; omega⟩ s ⟨1024 + 128 * (t.val % 8) + x.val, by omega⟩) := by
  blk_ext [iblk, V, idx t]

theorem blk2 (c : Dev nD) (t : Fin cfg0.N) (s : Fin 4096) (x : Fin 128) : (iblk m c 2 t : FVec Ideal S1x4096x128 .bf16) (ix3 0 s x)
    = (m ((c.tc : Thread nD τ).loc main_arg0) : FVec Ideal S8x4096x4096 .bf16) (ix3 ⟨t.val / 8, by have := lt64 t; omega⟩ s ⟨2048 + 128 * (t.val % 8) + x.val, by omega⟩) := by
  blk_ext [iblk, V, idx t]

theorem blk3 (c : Dev nD) (t : Fin cfg0.N) (a : Fin 2) (k : Fin 8) (s : Fin 512) : (iblk m c 3 t : FVec Ideal S1x2x8x1x512 .f32) (ix5 0 a k 0 s)
    = (m ((c.tc : Thread nD τ).loc main_arg1) : FVec Ideal S8x16x4096 .f32) (ix3 ⟨t.val / 8, by have := lt64 t; omega⟩ ⟨2 * (t.val % 8) + a.val, by omega⟩ ⟨512 * k.val + s.val, by omega⟩) := by
  blk_simp [iblk]
  entry_read
  pointwise []
  blk_ext [idx t]

/-- The body's block at a place is the result there. -/
theorem point (c : Dev nD) (t : Fin cfg0.N) (y : S1x4096x128.Idx) : outB m c t y
    = KV (m ((c.tc : Thread nD τ).loc main_arg0)) (m ((c.tc : Thread nD τ).loc main_arg1)) (ix3 ⟨t.val / 8, by have := lt64 t; omega⟩ (y 1 : Fin 4096) ⟨128 * (t.val % 8) + (y 2).val, by have : (y 2).val < 128 := (y 2).isLt; omega⟩) := by
  idx_vars y
  unfold outB
  rw [show y0 = 0 from Subsingleton.elim _ _]
  refine (blk_at (iblk m c 0 t) (iblk m c 1 t) (iblk m c 2 t) (iblk m c 3 t) y1 y2).trans ?_
  unfold KV
  have hp : (128 * (t.val % 8) + y2.val) / 128 = t.val % 8 := by omega
  have ha : (128 * (t.val % 8) + y2.val) / 64 % 2 = y2.val / 64 := by omega
  refine congrArg₂ soft (funext fun s => ?_) (funext fun s => (blk2 m c t s y2).trans ?_)
  · show ks _ _ _ _ _ _ = ksc _ _ ⟨t.val / 8, _⟩ ⟨(128 * (t.val % 8) + y2.val) / 128, _⟩ ⟨(128 * (t.val % 8) + y2.val) / 64 % 2, _⟩ y1 s
    rw [show (⟨(128 * (t.val % 8) + y2.val) / 128, by omega⟩ : Fin 8) = ⟨t.val % 8, by omega⟩ from Fin.ext hp,
      show (⟨(128 * (t.val % 8) + y2.val) / 64 % 2, by omega⟩ : Fin 2) = ⟨y2.val / 64, by omega⟩ from Fin.ext ha]
    unfold ks ksc
    refine if_congr Iff.rfl (Ideal.add_congr (Finset.sum_congr rfl fun x _ => ?_) ?_) rfl
    · rw [blk0, blk1]
    · rw [blk3, blk3]
      refine congrArg₂ (· - ·) rfl (congrArg _ ?_)
      rw [show (⟨512 * (s.val / 512) + s.val % 512, by omega⟩ : Fin 4096) = s from Fin.ext (by show 512 * (s.val / 512) + s.val % 512 = s.val; omega)]
  · exact congrArg _ (congrArg (ix3 _ s) (Fin.ext (Nat.add_assoc 2048 _ _)))

/-- The result array after the run. -/
theorem final (c : Dev nD) : (dats m 0 c).arrAt 4 (cfgs 0).N = KV (m ((c.tc : Thread nD τ).loc main_arg0)) (m ((c.tc : Thread nD τ).loc main_arg1)) := by
  refine (dats m 0 c).arrAt_eq_of_covers 4 _ (by decide +kernel) fun t _ y => ?_
  blk_simp
  rw [after0_4]
  refine (point m c t y).trans ?_
  blk_ext [idx t]

end Cert.Proof.KernelIdeal
end
end
-- ==== Proof.Ref.lean ====
/-
  The reference attention, its term taken apart and read at an index.
-/
module

public import proofs.«01_k».proof.Proof.Gen.ReferenceIdeal
public import proofs.«01_k».proof.Proof.Softmax
public import Idealize.ShloMosaic.Lib.Pointwise
public import Idealize.ShloMosaic.Lib.WordCmp

@[expose] public section

set_option maxRecDepth 16384

noncomputable section

namespace Cert.Proof.ReferenceIdeal

open Cert.ReferenceIdeal Cert.ReferenceIdeal.Gen
open Idealize.ShloMosaic Idealize.ShloMosaic.TcCoe
open Cert.Proof.Online

variable (X : FVec Ideal S8x4096x4096 .bf16) (C : FVec Ideal S8x16x4096 .f32)

/-- The scores: query times key, and the decay between them. -/
def score : FVec Ideal S8x16x4096x4096 .f32 :=
  subf (addf (Host.dotGeneral dot_S8x4096x16x64_S8x4096x16x64_S8x16x4096x4096_3_3_1_1_02_02 none
      (extf .f32 (shapeCast S8x4096x16x64 (extractStridedSlice S8x4096x1024 ![0, 0, 0] X slices_S8x4096x4096_S8x4096x1024_0_0_0) shapeCasts_S8x4096x1024_S8x4096x16x64) bitsLt_bf16_f32)
      (extf .f32 (shapeCast S8x4096x16x64 (extractStridedSlice S8x4096x1024 ![0, 0, 1024] X slices_S8x4096x4096_S8x4096x1024_0_0_1024) shapeCasts_S8x4096x1024_S8x4096x16x64) bitsLt_bf16_f32))
    (broadcastInDim S8x16x4096x4096 ![0, 1, 2, 3] bcast_S8x16x4096x1_S8x16x4096x4096_0_1_2_3 (broadcastInDim S8x16x4096x1 ![0, 1, 2] bcast_S8x16x4096_S8x16x4096x1_0_1_2 C)))
    (broadcastInDim S8x16x4096x4096 ![0, 1, 2, 3] bcast_S8x16x1x4096_S8x16x4096x4096_0_1_2_3 (broadcastInDim S8x16x1x4096 ![0, 1, 3] bcast_S8x16x4096_S8x16x1x4096_0_1_3 C))

/-- The mask: a key at or before the query. -/
def mask : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked scores. -/
def masked : FVec Ideal S8x16x4096x4096 .f32 :=
  select (broadcastInDim S8x16x4096x4096 ![2, 3] bcast_S4096x4096_S8x16x4096x4096_2_3 mask) (score X C)
    (broadcastInDim S8x16x4096x4096 ![] bcast_S_S8x16x4096x4096 (constant S_ .f32 0xFF800000#32))

/-- The greatest score of a row. -/
def top : FVec Ideal S8x16x4096 .f32 :=
  maximumf (broadcastInDim S8x16x4096 ![] bcast_S_S8x16x4096 (constant S_ .f32 0xFF800000#32))
    (Host.reduce FloatOps.maximumf (masked X C) (constant S_ .f32 0xFF800000#32) reducesTo_S8x16x4096x4096_S8x16x4096_d3 h_S_)

/-- The exponentials of the scores less the greatest. -/
def expo : FVec Ideal S8x16x4096x4096 .f32 :=
  Host.exp (subf (masked X C) (broadcastInDim S8x16x4096x4096 ![0, 1, 2, 3] bcast_S8x16x4096x1_S8x16x4096x4096_0_1_2_3 (broadcastInDim S8x16x4096x1 ![0, 1, 2] bcast_S8x16x4096_S8x16x4096x1_0_1_2 (top X C))))

/-- Their sums along a row. -/
def den : FVec Ideal S8x16x4096 .f32 :=
  Host.reduceAdd (expo X C) (constant S_ .f32 0x00000000#32) reducesTo_S8x16x4096x4096_S8x16x4096_d3 h_S_

/-- The reference's result. -/
def REF : FVec Ideal S8x4096x1024 .bf16 :=
  truncf .bf16 (shapeCast S8x4096x1024 (transpose S8x4096x16x64 [0, 3, 1, 2]
    (Host.dotGeneral dot_S8x4096x16x64_S8x16x4096x4096_S8x16x64x4096_1_3_3_2_02_01 none
      (extf .f32 (shapeCast S8x4096x16x64 (extractStridedSlice S8x4096x1024 ![0, 0, 2048] X slices_S8x4096x4096_S8x4096x1024_0_0_2048) shapeCasts_S8x4096x1024_S8x4096x16x64) bitsLt_bf16_f32)
      (Host.divf (expo X C) (broadcastInDim S8x16x4096x4096 ![0, 1, 2, 3] bcast_S8x16x4096x1_S8x16x4096x4096_0_1_2_3 (broadcastInDim S8x16x4096x1 ![0, 1, 2] bcast_S8x16x4096_S8x16x4096x1_0_1_2 (den X C)))))
    transposes_S8x16x64x4096_S8x4096x16x64_0_3_1_2) shapeCasts_S8x4096x16x64_S8x4096x1024) bitsLt_bf16_f32

variable (b : Fin 8) (h : Fin 16) (t s : Fin 4096)

/-- The score of a query against a key: minus infinity past the query. -/
def rs : EReal :=
  if s.val ≤ t.val then (∑ x : Fin 64, X (ix3 b t ⟨h.val * 64 + x.val, by omega⟩) * X (ix3 b s ⟨1024 + (h.val * 64 + x.val), by omega⟩)) + C (ix3 b h t) - C (ix3 b h s) else ⊥

theorem masked_at : masked X C (ix4 b h t s) = rs X C b h t s := by
  unfold rs
  pointwise [masked, mask, score]
  rw [pattern_bot]
  word_cmp

theorem top_at : top X C (ix3 b h t) = Finset.univ.sup (rs X C b h t) := by
  unfold top
  rw [show ∀ u w : FVec Ideal S8x16x4096 .f32, maximumf u w (ix3 b h t) = max (u (ix3 b h t)) (w (ix3 b h t)) from fun _ _ => rfl]
  rw [max_last (n0 := 8) (n1 := 16) (n2 := 4096) (n3 := 4096)]
  pointwise []
  rw [pattern_bot, fold_bot, max_bot_left]
  exact Finset.sup_congr rfl fun s _ => masked_at X C b h t s

theorem expo_at : expo X C (ix4 b h t s) = Ideal.exp (rs X C b h t s - Finset.univ.sup (rs X C b h t)) := by
  pointwise [expo]
  rw [masked_at, top_at]

theorem den_at : den X C (ix3 b h t) = ∑ s, Ideal.exp (rs X C b h t s - Finset.univ.sup (rs X C b h t)) := by
  pointwise [den]
  exact Finset.sum_congr rfl fun s _ => expo_at X C b h t s

/-- The result at a batch, a position and a lane. -/
theorem REF_at (x : Fin 1024) : REF X C (ix3 b t x)
    = ∑ s : Fin 4096, X (ix3 b s ⟨2048 + x.val, by omega⟩) * Ideal.div (Ideal.exp (rs X C b ⟨x.val / 64, by omega⟩ t s - Finset.univ.sup (rs X C b ⟨x.val / 64, by omega⟩ t)))
      (∑ s, Ideal.exp (rs X C b ⟨x.val / 64, by omega⟩ t s - Finset.univ.sup (rs X C b ⟨x.val / 64, by omega⟩ t))) := by
  pointwise [REF]
  refine Finset.sum_congr rfl fun s _ => ?_
  rw [expo_at, den_at]

end Cert.Proof.ReferenceIdeal
end
end
-- ==== Proof.Equal.lean ====
/-
  The kernel's function of the arguments is the reference's, where the queries, the keys and the decays are finite.
-/
module

public import proofs.«01_k».proof.Defs
public import proofs.«01_k».proof.Proof.Value
public import proofs.«01_k».proof.Proof.Ref

@[expose] public section

set_option maxRecDepth 16384

noncomputable section

namespace Cert.Proof

open Idealize.ShloMosaic Idealize.ShloMosaic.TcCoe
open Cert.Proof.Online Cert.Proof.KernelIdeal Cert.Proof.ReferenceIdeal

/-- The shape facts of the precondition. -/
theorem preFacts : Cert.Pre_finite_scores.Facts := by constructor <;> decide

section
open Cert.KernelIdeal

variable {X : FVec Ideal S8x4096x4096 .bf16} {C : FVec Ideal S8x16x4096 .f32}

/-- An extended real whose absolute value compares below plus infinity is real. -/
theorem real_of_abs {φ : FTy} (x : Idealize.ShloMosaic.Ideal φ) (w : Idealize.ShloMosaic.Ideal φ) (hw : w = (⊤ : EReal)) (h : FloatOps.cmpf .olt (FloatOps.hostAbsf x) w = 1#1) : ∃ r : ℝ, x = (r : EReal) := by
  have h1 : BitVec.ofBool (decide (max (x : EReal) (-x) < (w : EReal))) = 1#1 := h
  have h2 : max (x : EReal) (-x) < (w : EReal) := by
    by_contra hn
    rw [decide_eq_false hn] at h1
    exact absurd h1 (by decide)
  rw [hw] at h2
  obtain ⟨ha, hb⟩ := max_lt_iff.1 h2
  refine ⟨(show EReal from x).toReal, (EReal.coe_toReal ha.ne fun e => ?_).symm⟩
  have e' : (x : EReal) = ⊥ := e
  rw [e', EReal.neg_bot] at hb
  exact lt_irrefl _ hb

theorem pre_X (h : (@Cert.Pre_finite_scores.fn preFacts Idealize.ShloMosaic.Ideal _ X C).1 = fun _ => 1#1) (b : Fin 8) (t : Fin 4096) (x : Fin 2048) : ∃ r : ℝ, X (ix3 b t ⟨x.val, by omega⟩) = r := by
  have h' := congrFun h (ix3 b t x)
  pointwise [Cert.Pre_finite_scores.fn] at h'
  exact real_of_abs _ _ rfl h'

theorem pre_C (h : (@Cert.Pre_finite_scores.fn preFacts Idealize.ShloMosaic.Ideal _ X C).2 = fun _ => 1#1) (b : Fin 8) (a : Fin 16) (t : Fin 4096) : ∃ r : ℝ, C (ix3 b a t) = r := by
  have h' := congrFun h (ix3 b a t)
  pointwise [Cert.Pre_finite_scores.fn] at h'
  exact real_of_abs _ _ rfl h'

variable (hX : ∀ b t (x : Fin 2048), ∃ r : ℝ, X (ix3 b t ⟨x.val, by omega⟩) = r) (hC : ∀ b a t, ∃ r : ℝ, C (ix3 b a t) = r)

/-- The 64-lane dot product of a head. -/
def dot (X : FVec Ideal S8x4096x4096 .bf16) (b : Fin 8) (h : Fin 16) (t s : Fin 4096) : EReal :=
  ∑ x : Fin 64, X (ix3 b t ⟨h.val * 64 + x.val, by omega⟩) * X (ix3 b s ⟨1024 + (h.val * 64 + x.val), by omega⟩)

include hX in
theorem dot_real (b : Fin 8) (h : Fin 16) (t s : Fin 4096) : ∃ r : ℝ, dot X b h t s = r := by
  choose f hf using hX
  refine ⟨∑ x : Fin 64, f b t ⟨h.val * 64 + x.val, by omega⟩ * f b s ⟨1024 + (h.val * 64 + x.val), by omega⟩, ?_⟩
  refine Eq.trans (Finset.sum_congr rfl fun x _ => ?_) (map_sum (⟨⟨fun x : ℝ => (x : EReal), rfl⟩, EReal.coe_add⟩ : ℝ →+ EReal) _ Finset.univ).symm
  show _ = ((_ * _ : ℝ) : EReal)
  rw [EReal.coe_mul, ← hf, ← hf]

/-- The 128-lane product with the other head's lanes set to 0 is the 64-lane one. -/
theorem dot_lanes (b p : Fin 8) (a : Fin 2) (t s : Fin 4096) :
    ∑ x : Fin 128, (if x.val / 64 = a.val then X (ix3 b t ⟨128 * p.val + x.val, by omega⟩) else 0) * X (ix3 b s ⟨1024 + 128 * p.val + x.val, by omega⟩)
      = dot X b ⟨2 * p.val + a.val, by omega⟩ t s := by
  rw [Fin.sum_univ_tiles 2 64 rfl]
  refine (Finset.sum_eq_single a (fun j _ hj => Finset.sum_eq_zero fun x _ => ?_) (fun h => absurd (Finset.mem_univ a) h)).trans ?_
  · rw [if_neg (fun e => hj (Fin.ext (by rw [← e]; show j.val = (j.val * 64 + x.val) / 64; omega))), zero_mul]
  · refine Finset.sum_congr rfl fun x _ => ?_
    rw [if_pos (by show (a.val * 64 + x.val) / 64 = a.val; omega)]
    refine Ideal.mul_congr (congrArg X (congrArg (ix3 b t) (Fin.ext ?_))) (congrArg X (congrArg (ix3 b s) (Fin.ext ?_)))
    · show 128 * p.val + (a.val * 64 + x.val) = (2 * p.val + a.val) * 64 + x.val; omega
    · show 1024 + 128 * p.val + (a.val * 64 + x.val) = 1024 + ((2 * p.val + a.val) * 64 + x.val); omega

include hX hC in
theorem rs_real (b : Fin 8) (h : Fin 16) (t s : Fin 4096) (hs : s.val ≤ t.val) : ∃ r : ℝ, rs X C b h t s = r := by
  obtain ⟨d, hd⟩ := dot_real hX b h t s
  obtain ⟨u, hu⟩ := hC b h t
  obtain ⟨w, hw⟩ := hC b h s
  refine ⟨d + u - w, ?_⟩
  unfold rs
  rw [if_pos hs, EReal.coe_sub, EReal.coe_add, ← hd, ← hu, ← hw]
  rfl

include hX hC in
/-- The kernel's scores of a row are the reference's, shifted by a real. -/
theorem shift (b p : Fin 8) (a : Fin 2) (t : Fin 4096) : ∃ δ : ℝ, ∀ s, ksc X C b p a t s = rs X C b ⟨2 * p.val + a.val, by omega⟩ t s + (δ : EReal) := by
  obtain ⟨u, hu⟩ := hC b ⟨2 * p.val + a.val, by omega⟩ t
  obtain ⟨q, hq⟩ := hC b ⟨2 * p.val + a.val, by omega⟩ ⟨512 * (t.val / 512), by omega⟩
  refine ⟨q - u, fun s => ?_⟩
  obtain ⟨w, hw⟩ := hC b ⟨2 * p.val + a.val, by omega⟩ s
  obtain ⟨d, hd⟩ := dot_real hX b ⟨2 * p.val + a.val, by omega⟩ t s
  unfold ksc rs
  by_cases h : s.val ≤ t.val
  · rw [if_pos h, if_pos h, dot_lanes]
    show _ = dot X b ⟨2 * p.val + a.val, by omega⟩ t s + _ - _ + _
    rw [hd, hu, hq, hw, ← EReal.coe_sub, ← EReal.coe_add, ← EReal.coe_add, ← EReal.coe_sub, ← EReal.coe_add]
    congr 1; ring
  · rw [if_neg h, if_neg h, EReal.bot_add]

include hX hC in
/-- The two functions are the same. -/
theorem KV_eq_REF : KV X C = REF X C := by
  funext i
  idx_vars i
  refine Eq.trans ?_ (REF_at X C i0 i1 i2).symm
  obtain ⟨δ, hδ⟩ := shift hX hC i0 ⟨i2.val / 128, by omega⟩ ⟨i2.val / 64 % 2, by omega⟩ i1
  have e : (⟨2 * (i2.val / 128) + i2.val / 64 % 2, by omega⟩ : Fin 16) = ⟨i2.val / 64, by omega⟩ := Fin.ext (by show 2 * (i2.val / 128) + i2.val / 64 % 2 = i2.val / 64; omega)
  rw [e] at hδ
  exact soft_eq _ _ (fun s => X (ix3 i0 s ⟨2048 + i2.val, by omega⟩)) δ i1
    (fun s => (le_or_gt s.val i1.val).elim (fun h => Or.inr (rs_real hX hC _ _ _ _ h)) (fun h => Or.inl (if_neg (by omega))))
    (rs_real hX hC _ _ _ _ le_rfl) hδ
end

end Cert.Proof
end
end
-- ==== Proof.FinalValue.lean ====
/-
  The last call: the gated output projection, the residual and the final norm. The kernel's array is the reference's term.
-/
module

public import proofs.«01_k».proof.Proof.Gen.KernelFinalIdeal.Frame
public import proofs.«01_k».proof.Proof.Gen.ReferenceFinalIdeal
public import Idealize.ShloMosaic.Lib.Pipeline.ValueKit

@[expose] public section

set_option maxRecDepth 16384

noncomputable section

namespace Cert.Proof.ReferenceFinal

open Cert.ReferenceFinalIdeal Cert.ReferenceFinalIdeal.Gen
open Idealize.ShloMosaic Idealize.ShloMosaic.TcCoe

variable (X : FVec Ideal S8x4096x1024 .f32) (O : FVec Ideal S8x4096x1024 .bf16) (Z : FVec Ideal S8x4096x4096 .bf16) (W : FVec Ideal S1024x1024 .bf16) (G : FVec Ideal S1x1024 .f32)

/-- The residual stream after the layer. -/
def x2 : FVec Ideal S8x4096x1024 .f32 :=
  addf X (Host.dotGeneral dot_S8x4096x1024_S1024x1024_S8x4096x1024_2_0_01_1_n_n none (mulf (extf .f32 O bitsLt_bf16_f32) (mulf (extf .f32 (extractStridedSlice S8x4096x1024 ![0, 0, 3072] Z slices_S8x4096x4096_S8x4096x1024_0_0_3072) bitsLt_bf16_f32) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extf .f32 (extractStridedSlice S8x4096x1024 ![0, 0, 3072] Z slices_S8x4096x4096_S8x4096x1024_0_0_3072) bitsLt_bf16_f32))))))) (extf .f32 W bitsLt_bf16_f32))

/-- The reference's result. -/
def REF : FVec Ideal S8x4096x1024 .f32 :=
  mulf (mulf (x2 X O Z W) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (x2 X O Z W) (x2 X O Z W)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![1, 2] bcast_S1x1024_S1x1x1024_1_2 G))

end Cert.Proof.ReferenceFinal

namespace Cert.Proof.KernelFinal

open Cert.KernelFinalIdeal Cert.KernelFinalIdeal.Gen
open Idealize.ShloMosaic Idealize.ShloMosaic.TcCoe Idealize.SL.Sem
open Idealize.ShloMosaic.Pipeline (Dat)
open Cert.Proof.ReferenceFinal

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, t.val % 8, 3] ∧ win0_3.index t = ![0, 0] ∧ win0_4.index t = ![0, 0] ∧ win0_5.index t = ![t.val / 8, t.val % 8, 0] :=
  (by decide +kernel : ∀ t : Fin grid0.N, _)

set_option maxHeartbeats 1000000 in
theorem point (c : Dev nD) (t : Fin cfg0.N) (y) :
    k0_pay1 (k0_pay2 (F := Ideal) (iblk m c 1 t) (iblk m c 2 t) (iblk m c 0 t) (iblk m c 3 t) (iblk m c 4 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hz : ∀ a : EReal, 0 - a = -a := fun a => by rw [sub_eq_add_neg, zero_add]
  pointwise [k0_pay1, k0_pay2, REF, x2]
  simp only [hz]
  blk_point [iblk, V, idx t]

/-- The array the launch leaves is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Proof.KernelFinal
end
end
-- ==== Proof.MidValue.lean ====
/-
  The middle call: the gated output projection of both heads of mixing, the residual, the norm and the two
  projections of the next layer. Each array the kernel leaves is the reference's term.
-/
module

public import proofs.«01_k».proof.Proof.Gen.KernelMidIdeal.Frame
public import proofs.«01_k».proof.Proof.Gen.ReferenceMidIdeal
public import Idealize.ShloMosaic.Lib.Pipeline.ValueKit

@[expose] public section

set_option maxRecDepth 16384

noncomputable section

namespace Cert.Proof.ReferenceMid

open Cert.ReferenceMidIdeal Cert.ReferenceMidIdeal.Gen
open Idealize.ShloMosaic Idealize.ShloMosaic.TcCoe

variable (X : FVec Ideal S8x4096x1024 .f32) (OM OS : FVec Ideal S8x4096x512 .bf16) (GT : FVec Ideal S8x4096x1024 .bf16) (WO : FVec Ideal S1024x1024 .bf16) (G : FVec Ideal S1x1024 .f32) (WI : FVec Ideal S1024x4096 .bf16) (WF : FVec Ideal S1024x128 .bf16)

/-- The residual stream after the layer. -/
def x1 : FVec Ideal S8x4096x1024 .f32 :=
  addf X (Host.dotGeneral dot_S8x4096x1024_S1024x1024_S8x4096x1024_2_0_01_1_n_n none (mulf (extf .f32 (concatenate S8x4096x1024 2 [⟨S8x4096x512, OM⟩, ⟨S8x4096x512, OS⟩] concatenates_S8x4096x512_S8x4096x512_S8x4096x1024_d2) bitsLt_bf16_f32) (mulf (extf .f32 GT bitsLt_bf16_f32) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extf .f32 GT bitsLt_bf16_f32))))))) (extf .f32 WO bitsLt_bf16_f32))

/-- Its norm, scaled by the gain. -/
def nm : FVec Ideal S8x4096x1024 .f32 :=
  mulf (mulf (x1 X OM OS GT WO) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (x1 X OM OS GT WO) (x1 X OM OS GT WO)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![1, 2] bcast_S1x1024_S1x1x1024_1_2 G))

/-- The wide projection of the norm. -/
def zR : FVec Ideal S8x4096x4096 .bf16 :=
  truncf .bf16 (Host.dotGeneral dot_S8x4096x1024_S1024x4096_S8x4096x4096_2_0_01_1_n_n none (nm X OM OS GT WO G) (extf .f32 WI bitsLt_bf16_f32)) bitsLt_bf16_f32

/-- The narrow projection of the norm. -/
def fR : FVec Ideal S8x4096x128 .f32 :=
  Host.dotGeneral dot_S8x4096x1024_S1024x128_S8x4096x128_2_0_01_1_n_n none (nm X OM OS GT WO G) (extf .f32 WF bitsLt_bf16_f32)

end Cert.Proof.ReferenceMid

namespace Cert.Proof.KernelMid

open Cert.KernelMidIdeal Cert.KernelMidIdeal.Gen
open Idealize.ShloMosaic Idealize.ShloMosaic.TcCoe Idealize.SL.Sem
open Idealize.ShloMosaic.Pipeline (Dat)
open Cert.Proof.ReferenceMid

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![0, 0] ∧ win0_5.index t = ![0, 0]
    ∧ win0_6.index t = ![0, 0] ∧ win0_7.index t = ![0, 0]
    ∧ win0_8.index t = ![t.val / 8, t.val % 8, 0] ∧ win0_9.index t = ![t.val / 8, t.val % 8, 0] ∧ win0_10.index t = ![t.val / 8, t.val % 8, 0] :=
  (by decide +kernel : ∀ t : Fin grid0.N, _)

/-- The residual stream at a row of a point's block. -/
theorem x1_pt (c : Dev nD) (t : Fin cfg0.N) (i : S512x1024.Idx) (j : S8x4096x1024.Idx)
    (hj0 : (j 0 : ℕ) = t.val / 8) (hj1 : (j 1 : ℕ) = t.val % 8 * 512 + i 0) (hj2 : (j 2 : ℕ) = i 1) :
    k0_pay9 (F := Ideal) (iblk m c 0 t) (iblk m c 1 t) (iblk m c 2 t) (iblk m c 3 t) (iblk m c 4 t) (iblk m c 5 t) (iblk m c 6 t) (iblk m c 7 t) i = x1 (m ((c : Thread nD τ).loc main_arg0)) (m ((c : Thread nD τ).loc main_arg1)) (m ((c : Thread nD τ).loc main_arg2)) (m ((c : Thread nD τ).loc main_arg3)) (m ((c : Thread nD τ).loc main_arg4)) j := by
  have hz : ∀ a : EReal, 0 - a = -a := fun a => by rw [sub_eq_add_neg, zero_add]
  pointwise [k0_pay9, k0_pay3, x1]
  simp only [hz]
  blk_point [iblk, V, idx t]

/-- Its norm there. -/
theorem nm_pt (c : Dev nD) (t : Fin cfg0.N) (r : Fin 512) (x : Fin 1024) (b : Fin 8) (s : Fin 4096)
    (hj0 : (b : ℕ) = t.val / 8) (hj1 : (s : ℕ) = t.val % 8 * 512 + r) :
    k0_pay10 (F := Ideal) (iblk m c 0 t) (iblk m c 1 t) (iblk m c 2 t) (iblk m c 3 t) (iblk m c 4 t) (iblk m c 5 t) (iblk m c 6 t) (iblk m c 7 t) (ix2 r x) = nm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s x) := by
  have h : ∀ y : Fin 1024, k0_pay9 (F := Ideal) (iblk m c 0 t) (iblk m c 1 t) (iblk m c 2 t) (iblk m c 3 t) (iblk m c 4 t) (iblk m c 5 t) (iblk m c 6 t) (iblk m c 7 t) (ix2 r y) = x1 (m ((c : Thread nD τ).loc main_arg0)) (m ((c : Thread nD τ).loc main_arg1)) (m ((c : Thread nD τ).loc main_arg2)) (m ((c : Thread nD τ).loc main_arg3)) (m ((c : Thread nD τ).loc main_arg4)) (ix3 b s y) :=
    fun y => x1_pt m c t _ _ hj0 hj1 rfl
  pointwise [k0_pay10, k0_pay5, nm]
  simp only [h]
  blk_point [iblk, V, idx t]

/-- The first array: the residual stream. -/
theorem final8 (c : Dev nD) : (dats m 0 c).arrAt 8 (cfgs 0).N = x1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  refine Eq.trans (b := k0_pay9 (F := Ideal) (iblk m c 0 t) (iblk m c 1 t) (iblk m c 2 t) (iblk m c 3 t) (iblk m c 4 t) (iblk m c 5 t) (iblk m c 6 t) (iblk m c 7 t) (ix2 (y 1) (y 2))) ?_ (x1_pt m c t _ _ ?_ ?_ ?_)
  · unfold out0_8
    canon_tiles x h
    pointwise [k0_pay4, k0_pay9]
    blk_ext
  all_goals (blk_simp [idx t] <;> try omega)

/-- One piece of the second array, of any thousand columns of the wide matrix. -/
theorem z_core (c : Dev nD) (t : Fin cfg0.N) (C : FVec Ideal S1024x1024 .bf16) (p : ℕ) (hp : p ≤ 3072)
    (hC : ∀ a b : Fin 1024, C (ix2 a b) = (show FVec Ideal S1024x4096 .bf16 from m ((c : Thread nD τ).loc main_arg6)) (ix2 a ⟨p + b.val, by omega⟩))
    (r : Fin 512) (x : Fin 1024) (b : Fin 8) (s : Fin 4096) (d : Fin 4096)
    (hj0 : (b : ℕ) = t.val / 8) (hj1 : (s : ℕ) = t.val % 8 * 512 + r) (hj2 : (d : ℕ) = p + x) :
    k0_pay1 (F := Ideal) (k0_pay10 (iblk m c 0 t) (iblk m c 1 t) (iblk m c 2 t) (iblk m c 3 t) (iblk m c 4 t) (iblk m c 5 t) (iblk m c 6 t) (iblk m c 7 t)) C (ix3 0 r x) = zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s d) := by
  pointwise [k0_pay1, zR]
  refine Finset.sum_congr rfl fun k _ => ?_
  rw [nm_pt m c t r k b s hj0 hj1, hC, show d = ⟨p + x.val, by omega⟩ from Fin.ext hj2]

/-- One piece, at indices given by their coordinates. -/
theorem z_pt (c : Dev nD) (t : Fin cfg0.N) (C : FVec Ideal S1024x1024 .bf16) (p : ℕ) (hp : p ≤ 3072)
    (hC : ∀ a b : Fin 1024, C (ix2 a b) = (show FVec Ideal S1024x4096 .bf16 from m ((c : Thread nD τ).loc main_arg6)) (ix2 a ⟨p + b.val, by omega⟩))
    (x : S1x512x1024.Idx) (j : S8x4096x4096.Idx)
    (hj0 : (j 0 : ℕ) = t.val / 8) (hj1 : (j 1 : ℕ) = t.val % 8 * 512 + x 1) (hj2 : (j 2 : ℕ) = p + x 2) :
    k0_pay1 (F := Ideal) (k0_pay10 (iblk m c 0 t) (iblk m c 1 t) (iblk m c 2 t) (iblk m c 3 t) (iblk m c 4 t) (iblk m c 5 t) (iblk m c 6 t) (iblk m c 7 t)) C x = zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  idx_vars x
  idx_vars j
  rw [show x0 = 0 from Subsingleton.elim _ _]
  exact z_core m c t C p hp hC _ _ _ _ _ hj0 hj1 hj2

/-- The second array at a point: its four pieces. -/
theorem point9 (c : Dev nD) (t : Fin cfg0.N) (y) : out0_9 (F := Ideal) (iblk m c 0 t) (iblk m c 1 t) (iblk m c 2 t) (iblk m c 3 t) (iblk m c 4 t) (iblk m c 5 t) (iblk m c 6 t) (iblk m c 7 t) y = zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  unfold out0_9
  canon_tiles x h
  case piece0 =>
    refine z_pt m c t (View.ld (iblk m c 6 t) r0_11) 3072 (by omega) (fun a b => by blk_point [iblk, V, idx t]) x _ ?_ ?_ ?_ <;> (blk_simp [idx t] <;> try omega)
  case piece1 =>
    refine z_pt m c t (View.ld (iblk m c 6 t) r0_9) 2048 (by omega) (fun a b => by blk_point [iblk, V, idx t]) x _ ?_ ?_ ?_ <;> (blk_simp [idx t] <;> try omega)
  case piece2 =>
    refine z_pt m c t (View.ld (iblk m c 6 t) r0_7) 1024 (by omega) (fun a b => by blk_point [iblk, V, idx t]) x _ ?_ ?_ ?_ <;> (blk_simp [idx t] <;> try omega)
  case piece3 =>
    refine z_pt m c t (View.ld (iblk m c 6 t) r0_5) 0 (by omega) (fun a b => by blk_point [iblk, V, idx t]) x _ ?_ ?_ ?_ <;> (blk_simp [idx t] <;> try omega)

/-- The second array. -/
theorem final9 (c : Dev nD) : (dats m 0 c).arrAt 9 (cfgs 0).N = zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  exact point9 m c t y

/-- The third array. -/
theorem f_core (c : Dev nD) (t : Fin cfg0.N) (r : Fin 512) (x : Fin 128) (b : Fin 8) (s : Fin 4096)
    (hj0 : (b : ℕ) = t.val / 8) (hj1 : (s : ℕ) = t.val % 8 * 512 + r) :
    k0_pay2 (F := Ideal) (k0_pay10 (iblk m c 0 t) (iblk m c 1 t) (iblk m c 2 t) (iblk m c 3 t) (iblk m c 4 t) (iblk m c 5 t) (iblk m c 6 t) (iblk m c 7 t)) (iblk m c 7 t) (ix3 0 r x) = fR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (ix3 b s x) := by
  pointwise [k0_pay2, fR]
  simp only [nm_pt m c t r _ b s hj0 hj1]
  blk_point [iblk, V, idx t]

/-- The narrow projection, at indices given by their coordinates. -/
theorem f_pt (c : Dev nD) (t : Fin cfg0.N) (x : S1x512x128.Idx) (j : S8x4096x128.Idx)
    (hj0 : (j 0 : ℕ) = t.val / 8) (hj1 : (j 1 : ℕ) = t.val % 8 * 512 + x 1) (hj2 : (j 2 : ℕ) = x 2) :
    k0_pay2 (F := Ideal) (k0_pay10 (iblk m c 0 t) (iblk m c 1 t) (iblk m c 2 t) (iblk m c 3 t) (iblk m c 4 t) (iblk m c 5 t) (iblk m c 6 t) (iblk m c 7 t)) (iblk m c 7 t) x = fR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) j := by
  idx_vars x
  idx_vars j
  rw [show x0 = 0 from Subsingleton.elim _ _, show j2 = x2 from Fin.ext hj2]
  exact f_core m c t _ _ _ _ hj0 hj1

theorem final10 (c : Dev nD) : (dats m 0 c).arrAt 10 (cfgs 0).N = fR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_covers 10 _ (by decide +kernel) fun t _ y => ?_
  blk_simp
  rw [after0_10]
  frame_out
  refine f_pt m c t _ _ ?_ ?_ ?_ <;> (blk_simp [idx t] <;> try omega)

end Cert.Proof.KernelMid
end
end
-- ==== Proof.MidEqual.lean ====
/-
  The middle call: kernel and reference agree.
-/
module

public import proofs.«01_k».proof.Defs
public import proofs.«01_k».proof.Proof.MidValue
public import Idealize.ShloMosaic.Lib.Claim

@[expose] public section

set_option maxRecDepth 16384

noncomputable section

namespace Cert.Proof

open Idealize.ShloMosaic Idealize.ShloMosaic.TcCoe Idealize.SL.Sem

set_option maxHeartbeats 1000000 in
/-- The middle call: kernel and reference agree in all three arrays. -/
theorem middle : Cert.algebraic_KernelMidIdeal_ReferenceMidIdeal (hKernelMidIdeal := Cert.KernelMidIdeal.Gen.facts) (hReferenceMidIdeal := Cert.ReferenceMidIdeal.Gen.facts) := by
  pair_intro
  · run_from Cert.KernelMidIdeal.Gen.run_main m g
  · hlo_run
    · have h1 := (hagree c).2.1
      have h2 := (hagree c).2.2.1
      rw [Cert.Proof.KernelMid.final8 m c]
      simp only [Idealize.ShloMosaic.StableHlo.TRef.toBuf, Idealize.ShloMosaic.StableHlo.TRef.ofBuf, cast_eq]
      rw [h1, h2]
      unfold Cert.Proof.ReferenceMid.x1
      rfl
    · have h1 := (hagree c).2.1
      have h2 := (hagree c).2.2.1
      rw [Cert.Proof.KernelMid.final9 m c]
      simp only [Idealize.ShloMosaic.StableHlo.TRef.toBuf, Idealize.ShloMosaic.StableHlo.TRef.ofBuf, cast_eq]
      rw [h1, h2]
      unfold Cert.Proof.ReferenceMid.zR Cert.Proof.ReferenceMid.nm Cert.Proof.ReferenceMid.x1
      rfl
    · have h1 := (hagree c).2.1
      have h2 := (hagree c).2.2.1
      rw [Cert.Proof.KernelMid.final10 m c]
      simp only [Idealize.ShloMosaic.StableHlo.TRef.toBuf, Idealize.ShloMosaic.StableHlo.TRef.ofBuf, cast_eq]
      rw [h1, h2]
      unfold Cert.Proof.ReferenceMid.fR Cert.Proof.ReferenceMid.nm Cert.Proof.ReferenceMid.x1
      rfl

end Cert.Proof
end
end
-- ==== Proof.MInner.lean ====
/-
  The inner loops of the latent attention: one tile of keys and values after another, each taking the running
  maximum, the running sum and the running accumulator one step further.
-/
module

public import proofs.«01_k».proof.Proof.Gen.KernelMlaIdeal.Frame
public import proofs.«01_k».proof.Proof.Gen.KernelMlaIdeal.Loops
public import Idealize.ShloMosaic.Lib.VecWindow

@[expose] public section

noncomputable section

namespace Cert.Proof.KernelMlaIdeal

open Cert.KernelMlaIdeal Cert.KernelMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three running arrays: maximum, sum, accumulator. -/
abbrev St (F : FTy → Type) [FloatOps F] : Type := FVec F S512x128 .f32 × FVec F S512x128 .f32 × FVec F S512x128 .f32

/-- A tile of 512 rows of the values' block; and of the queries' or keys', at one head's lanes. -/
abbrev rows (X : Vec F S1x4096x128 .bf16) (off : Fin 3 → ℕ) (h : ∀ a, off a + S1x512x128.size a ≤ S1x4096x128.size a) : Vec F S1x512x128 .bf16 :=
  View.ld X (Rect.unit (s := S1x4096x128) off S1x512x128.size h)
abbrev wide (X : Vec F S1x4096x256 .bf16) (off : Fin 3 → ℕ) (h : ∀ a, off a + S1x512x128.size a ≤ S1x4096x256.size a) : Vec F S1x512x128 .bf16 :=
  View.ld X (Rect.unit (s := S1x4096x256) off S1x512x128.size h)

/-- One tile of an inner loop. -/
def step2 (q : FVec F S512x128 .bf16) (K V : Vec F S1x512x128 .bf16) (s : St F) : St F :=
  (k0_pay19 (k0_pay4 q K s.1), k0_pay7 q K s.1 s.2.1, k0_pay8 q K s.1 s.2.2 V)

/-- The running arrays after `n` tiles of the first head's inner loop. -/
def run2 (X3 : Vec F S1x4096x256 .bf16) (X4 : Vec F S1x4096x128 .bf16) (i : Fin k0_t1_loop.trips) (q : FVec F S512x128 .bf16) (s : St F) : ℕ → St F
  | 0 => s
  | n + 1 => if h : n < (k0_t2_loop i).trips then
      step2 q (wide X3 (k0_off2 i ⟨n, h⟩) (k0_off2_inb i ⟨n, h⟩)) (rows X4 (k0_off3 i ⟨n, h⟩) (k0_off3_inb i ⟨n, h⟩)) (run2 X3 X4 i q s n)
    else run2 X3 X4 i q s n

theorem run2_succ (X3 : Vec F S1x4096x256 .bf16) (X4 : Vec F S1x4096x128 .bf16) (i : Fin k0_t1_loop.trips) (q : FVec F S512x128 .bf16) (s : St F)
    (n : Fin (k0_t2_loop i).trips) : run2 X3 X4 i q s (n.val + 1)
      = step2 q (wide X3 (k0_off2 i n) (k0_off2_inb i n)) (rows X4 (k0_off3 i n) (k0_off3_inb i n)) (run2 X3 X4 i q s n.val) := by
  rw [run2, dif_pos n.isLt]

/-- The running arrays after `n` tiles of the second head's inner loop. -/
def run5 (X3 : Vec F S1x4096x256 .bf16) (X4 : Vec F S1x4096x128 .bf16) (i : Fin k0_t4_loop.trips) (q : FVec F S512x128 .bf16) (s : St F) : ℕ → St F
  | 0 => s
  | n + 1 => if h : n < (k0_t5_loop i).trips then
      step2 q (wide X3 (k0_off8 i ⟨n, h⟩) (k0_off8_inb i ⟨n, h⟩)) (rows X4 (k0_off9 i ⟨n, h⟩) (k0_off9_inb i ⟨n, h⟩)) (run5 X3 X4 i q s n)
    else run5 X3 X4 i q s n

theorem run5_succ (X3 : Vec F S1x4096x256 .bf16) (X4 : Vec F S1x4096x128 .bf16) (i : Fin k0_t4_loop.trips) (q : FVec F S512x128 .bf16) (s : St F)
    (n : Fin (k0_t5_loop i).trips) : run5 X3 X4 i q s (n.val + 1)
      = step2 q (wide X3 (k0_off8 i n) (k0_off8_inb i n)) (rows X4 (k0_off9 i n) (k0_off9_inb i n)) (run5 X3 X4 i q s n.val) := by
  rw [run5, dif_pos n.isLt]

/-- A scratch buffer read whole, and written whole. -/
theorem readAt_whole (M : Memref sig .tc .vmem S512x128 .f32) (f : BufTy.Contents (Elt F) M.view.ty) :
    M.view.readAt (Elt F) (Rect.unit (s := S512x128) ![0, 0] S512x128.size inb_S512x128_S512x128_0_0).toLoadRect f = M.view.read (Elt F) f :=
  View.readAt_full _ _ _
theorem read_writes_whole (M : Memref sig .tc .vmem S512x128 .f32) (f : BufTy.Contents (Elt F) M.view.ty) (w : FVec F S512x128 .f32)
    (L : List (View.Piece (Elt F) S512x128 .f32)) :
    M.view.read (Elt F) (M.view.writes (Elt F) f (⟨Rect.unit (s := S512x128) ![0, 0] S512x128.size inb_S512x128_S512x128_0_0, w⟩ :: L)) = w :=
  View.read_writes_full _ _ _ _ _

section
variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S512x128 .f32) (harg8 : arg8.IsWhole)
  (f3 : BufTy.Contents (Elt F) arg3.view.ty) (f4 : BufTy.Contents (Elt F) arg4.view.ty)

/-- The three scratch buffers holding the running arrays `s`. -/
abbrev scr (s : St F) : sProp 𝕄 :=
  iprop((∃ f, (arg6.view.loc (c : Thread nD τ) ↦[arg6.view.set]{fullShare} f) ∗ ⌜arg6.view.read (Elt F) f = s.1⌝)
    ∗ (∃ f, (arg7.view.loc (c : Thread nD τ) ↦[arg7.view.set]{fullShare} f) ∗ ⌜arg7.view.read (Elt F) f = s.2.1⌝)
    ∗ (∃ f, (arg8.view.loc (c : Thread nD τ) ↦[arg8.view.set]{fullShare} f) ∗ ⌜arg8.view.read (Elt F) f = s.2.2⌝))

set_option warn.classDefReducibility false in
/-- The invariant of the first head's inner loop: the inputs as they are, the scratch at the running arrays. -/
@[sl_loop] def loopInv_k0_t2 (v1 v2 : IVec S512x512 32) (c0 c1 : BitVec 32) (k : Fin k0_t1_loop.trips) (v10 : Vec F S1x512x128 .bf16)
    (m0 l0 a0 : FVec F S512x128 .f32) :
    LoopInvTy_k0_t2 (F := F) Unit ℕ (UR sig nD τ) ℕ Variants.none c none Set.univ i arg2 harg2 arg3 harg3 arg4 harg4 arg5 harg5 arg6 harg6 arg7 harg7 arg8 harg8 v1 v2 c0 c1 k v10 where
  inv n _ := iprop((arg3.view.loc (c : Thread nD τ) ↦[arg3.view.set]{fullShare} f3) ∗ (arg4.view.loc (c : Thread nD τ) ↦[arg4.view.set]{fullShare} f4)
      ∗ scr c arg6 arg7 arg8 (run2 (arg3.view.read (Elt F) f3) (arg4.view.read (Elt F) f4) k (k0_pay15 v10) (m0, l0, a0) n))
  step n _ := by
    unfold k0_t2_body
    iintro ⟨H3, H4, ⟨%f6, H6, %h6⟩, ⟨%f7, H7, %h7⟩, ⟨%f8, H8, %h8⟩⟩
    sl_exec
    sl_step
    have e6 := (readAt_whole arg6 f6).trans h6
    have e7 := (readAt_whole arg7 f7).trans h7
    have e8 := (readAt_whole arg8 f8).trans h8
    have er := run2_succ (arg3.view.read (Elt F) f3) (arg4.view.read (Elt F) f4) k (k0_pay15 v10) (m0, l0, a0) n
    isplitl [H3]; · iexact H3
    isplitl [H4]; · iexact H4
    isplitl [H6]
    · iexists _; isplitl [H6]; · iexact H6
      ipureintro; rw [read_writes_whole, er]; unfold step2; rw [← e6]; rfl
    isplitl [H7]
    · iexists _; isplitl [H7]; · iexact H7
      ipureintro; rw [read_writes_whole, er]; unfold step2; rw [← e6, ← e7]; rfl
    · iexists _; isplitl [H8]; · iexact H8
      ipureintro; rw [read_writes_whole, er]; unfold step2; rw [← e6, ← e8]; rfl

set_option warn.classDefReducibility false in
/-- The first head's second loop runs no trip. -/
@[sl_loop] def loopInv_k0_t3 (v1 v2 : IVec S512x512 32) (c0 c1 : BitVec 32) (k : Fin k0_t1_loop.trips) (v10 : Vec F S1x512x128 .bf16) (v28 : BitVec 32) :
    LoopInvTy_k0_t3 (F := F) Unit ℕ (UR sig nD τ) ℕ Variants.none c none Set.univ i arg2 harg2 arg3 harg3 arg4 harg4 arg5 harg5 arg6 harg6 arg7 harg7 arg8 harg8 v1 v2 c0 c1 k v10 v28 where
  inv _ _ := iprop(emp)
  step n _ := absurd n.isLt (Nat.not_lt.2 (Nat.le_trans (k0_t3_abs k).2.1 (Nat.zero_le _)))

set_option warn.classDefReducibility false in
/-- The invariant of the second head's inner loop: the inputs as they are, the scratch at the running arrays. -/
@[sl_loop] def loopInv_k0_t5 (v1 v2 : IVec S512x512 32) (c0 c1 : BitVec 32) (k : Fin k0_t4_loop.trips) (v10 : Vec F S1x512x128 .bf16)
    (m0 l0 a0 : FVec F S512x128 .f32) :
    LoopInvTy_k0_t5 (F := F) Unit ℕ (UR sig nD τ) ℕ Variants.none c none Set.univ i arg2 harg2 arg3 harg3 arg4 harg4 arg5 harg5 arg6 harg6 arg7 harg7 arg8 harg8 v1 v2 c0 c1 k v10 where
  inv n _ := iprop((arg3.view.loc (c : Thread nD τ) ↦[arg3.view.set]{fullShare} f3) ∗ (arg4.view.loc (c : Thread nD τ) ↦[arg4.view.set]{fullShare} f4)
      ∗ scr c arg6 arg7 arg8 (run5 (arg3.view.read (Elt F) f3) (arg4.view.read (Elt F) f4) k (k0_pay41 v10) (m0, l0, a0) n))
  step n _ := by
    unfold k0_t5_body
    iintro ⟨H3, H4, ⟨%f6, H6, %h6⟩, ⟨%f7, H7, %h7⟩, ⟨%f8, H8, %h8⟩⟩
    sl_exec
    sl_step
    have e6 := (readAt_whole arg6 f6).trans h6
    have e7 := (readAt_whole arg7 f7).trans h7
    have e8 := (readAt_whole arg8 f8).trans h8
    have er := run5_succ (arg3.view.read (Elt F) f3) (arg4.view.read (Elt F) f4) k (k0_pay41 v10) (m0, l0, a0) n
    isplitl [H3]; · iexact H3
    isplitl [H4]; · iexact H4
    isplitl [H6]
    · iexists _; isplitl [H6]; · iexact H6
      ipureintro; rw [read_writes_whole, er]; unfold step2; rw [← e6]; rfl
    isplitl [H7]
    · iexists _; isplitl [H7]; · iexact H7
      ipureintro; rw [read_writes_whole, er]; unfold step2; rw [← e6, ← e7]; rfl
    · iexists _; isplitl [H8]; · iexact H8
      ipureintro; rw [read_writes_whole, er]; unfold step2; rw [← e6, ← e8]; rfl

set_option warn.classDefReducibility false in
/-- The second head's second loop runs no trip. -/
@[sl_loop] def loopInv_k0_t6 (v1 v2 : IVec S512x512 32) (c0 c1 : BitVec 32) (k : Fin k0_t4_loop.trips) (v10 : Vec F S1x512x128 .bf16) (v28 : BitVec 32) :
    LoopInvTy_k0_t6 (F := F) Unit ℕ (UR sig nD τ) ℕ Variants.none c none Set.univ i arg2 harg2 arg3 harg3 arg4 harg4 arg5 harg5 arg6 harg6 arg7 harg7 arg8 harg8 v1 v2 c0 c1 k v10 v28 where
  inv _ _ := iprop(emp)
  step n _ := absurd n.isLt (Nat.not_lt.2 (Nat.le_trans (k0_t6_abs k).2.1 (Nat.zero_le _)))

end
end Cert.Proof.KernelMlaIdeal
end
-- ==== Proof.MOuter.lean ====
/-
  The latent attention's loops over query tiles: each tile starts the running arrays afresh, runs the inner loop,
  takes the diagonal tile and stores the quotient into its rows of the output block.
-/
module

public import proofs.«01_k».proof.Proof.MInner

@[expose] public section

noncomputable section

namespace Cert.Proof.KernelMlaIdeal

open Cert.KernelMlaIdeal Cert.KernelMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The diagonal tile of the first head, its masked scores `S`. -/
def stepD (S : FVec F S512x512 .f32) (V : Vec F S1x512x128 .bf16) (s : St F) : St F :=
  (k0_pay27 S s.1, k0_pay25 S s.1 s.2.1, k0_pay26 S s.1 s.2.2 V)

/-- What a tile of queries starts from, first head. -/
def st0 : St F := (k0_pay16, k0_pay17, k0_pay18)

/-- The three scratch buffers just reset hold the start, first head. -/
theorem st0_eq (arg6 arg7 arg8 : Memref sig .tc .vmem S512x128 .f32) :
    ((arg6.view.read (Elt F) (arg6.view.writes (Elt F) arg6.view.junk [⟨Rect.unit (s := S512x128) ![0, 0] S512x128.size inb_S512x128_S512x128_0_0, (k0_pay16 (F := F))⟩]),
      arg7.view.read (Elt F) (arg7.view.writes (Elt F) arg7.view.junk [⟨Rect.unit (s := S512x128) ![0, 0] S512x128.size inb_S512x128_S512x128_0_0, (k0_pay17 (F := F))⟩]),
      arg8.view.read (Elt F) (arg8.view.writes (Elt F) arg8.view.junk [⟨Rect.unit (s := S512x128) ![0, 0] S512x128.size inb_S512x128_S512x128_0_0, (k0_pay18 (F := F))⟩])) : St F) = st0 :=
  Prod.ext (read_writes_whole _ _ _ _) (Prod.ext (read_writes_whole _ _ _ _) (read_writes_whole _ _ _ _))

/-- The diagonal tile of the second head, its masked scores `S`. -/
def stepE (S : FVec F S512x512 .f32) (V : Vec F S1x512x128 .bf16) (s : St F) : St F :=
  (k0_pay53 S s.1, k0_pay51 S s.1 s.2.1, k0_pay52 S s.1 s.2.2 V)

/-- What a tile of queries starts from, second head. -/
def st1 : St F := (k0_pay42, k0_pay43, k0_pay44)

/-- The three scratch buffers just reset hold the start, second head. -/
theorem st1_eq (arg6 arg7 arg8 : Memref sig .tc .vmem S512x128 .f32) :
    ((arg6.view.read (Elt F) (arg6.view.writes (Elt F) arg6.view.junk [⟨Rect.unit (s := S512x128) ![0, 0] S512x128.size inb_S512x128_S512x128_0_0, (k0_pay42 (F := F))⟩]),
      arg7.view.read (Elt F) (arg7.view.writes (Elt F) arg7.view.junk [⟨Rect.unit (s := S512x128) ![0, 0] S512x128.size inb_S512x128_S512x128_0_0, (k0_pay43 (F := F))⟩]),
      arg8.view.read (Elt F) (arg8.view.writes (Elt F) arg8.view.junk [⟨Rect.unit (s := S512x128) ![0, 0] S512x128.size inb_S512x128_S512x128_0_0, (k0_pay44 (F := F))⟩])) : St F) = st1 :=
  Prod.ext (read_writes_whole _ _ _ _) (Prod.ext (read_writes_whole _ _ _ _) (read_writes_whole _ _ _ _))

/-- The running arrays of query tile `k` of the first head after its last tile of keys. -/
def fin1 (v1 v2 : IVec S512x512 32) (X2 X3 : Vec F S1x4096x256 .bf16) (X4 : Vec F S1x4096x128 .bf16) (k : Fin k0_t1_loop.trips) : St F :=
  stepD (k0_pay21 v1 v2 (wide X2 (k0_off1 k) (k0_off1_inb k)) (wide X3 (k0_off1 k) (k0_off1_inb k))) (rows X4 (k0_off6 k) (k0_off6_inb k))
    (run2 X3 X4 k (k0_pay15 (wide X2 (k0_off1 k) (k0_off1_inb k))) st0 (k0_t2_loop k).trips)

/-- The output block after the first `n` query tiles of the first head. -/
def out1 (v1 v2 : IVec S512x512 32) (X2 X3 : Vec F S1x4096x256 .bf16) (X4 X6 : Vec F S1x4096x128 .bf16) : ℕ → Vec F S1x4096x128 .bf16
  | 0 => X6
  | n + 1 => if h : n < k0_t1_loop.trips then
      VecWindow.put (s := S1x4096x128) (out1 v1 v2 X2 X3 X4 X6 n) (k0_off6 ⟨n, h⟩) S1x512x128.size
        (k0_pay1 (k0_pay28 (fin1 v1 v2 X2 X3 X4 ⟨n, h⟩).2.2 (fin1 v1 v2 X2 X3 X4 ⟨n, h⟩).2.1))
    else out1 v1 v2 X2 X3 X4 X6 n

theorem out1_succ (v1 v2 : IVec S512x512 32) (X2 X3 : Vec F S1x4096x256 .bf16) (X4 X6 : Vec F S1x4096x128 .bf16) (k : Fin k0_t1_loop.trips) :
    out1 v1 v2 X2 X3 X4 X6 (k.val + 1) = VecWindow.put (s := S1x4096x128) (out1 v1 v2 X2 X3 X4 X6 k.val) (k0_off6 k) S1x512x128.size
        (k0_pay1 (k0_pay28 (fin1 v1 v2 X2 X3 X4 k).2.2 (fin1 v1 v2 X2 X3 X4 k).2.1)) := by
  rw [out1, dif_pos k.isLt]

/-- The running arrays of query tile `k` of the second head after its last tile of keys. -/
def fin4 (v1 v2 : IVec S512x512 32) (X2 X3 : Vec F S1x4096x256 .bf16) (X4 : Vec F S1x4096x128 .bf16) (k : Fin k0_t4_loop.trips) : St F :=
  stepE (k0_pay47 v1 v2 (wide X2 (k0_off7 k) (k0_off7_inb k)) (wide X3 (k0_off7 k) (k0_off7_inb k))) (rows X4 (k0_off12 k) (k0_off12_inb k))
    (run5 X3 X4 k (k0_pay41 (wide X2 (k0_off7 k) (k0_off7_inb k))) st1 (k0_t5_loop k).trips)

/-- The output block after the first `n` query tiles of the second head. -/
def out4 (v1 v2 : IVec S512x512 32) (X2 X3 : Vec F S1x4096x256 .bf16) (X4 X6 : Vec F S1x4096x128 .bf16) : ℕ → Vec F S1x4096x128 .bf16
  | 0 => X6
  | n + 1 => if h : n < k0_t4_loop.trips then
      VecWindow.put (s := S1x4096x128) (out4 v1 v2 X2 X3 X4 X6 n) (k0_off12 ⟨n, h⟩) S1x512x128.size
        (k0_pay2 (k0_pay54 (fin4 v1 v2 X2 X3 X4 ⟨n, h⟩).2.2 (fin4 v1 v2 X2 X3 X4 ⟨n, h⟩).2.1) (rows (out4 v1 v2 X2 X3 X4 X6 n) (k0_off12 ⟨n, h⟩) (k0_off12_inb ⟨n, h⟩)))
    else out4 v1 v2 X2 X3 X4 X6 n

theorem out4_succ (v1 v2 : IVec S512x512 32) (X2 X3 : Vec F S1x4096x256 .bf16) (X4 X6 : Vec F S1x4096x128 .bf16) (k : Fin k0_t4_loop.trips) :
    out4 v1 v2 X2 X3 X4 X6 (k.val + 1) = VecWindow.put (s := S1x4096x128) (out4 v1 v2 X2 X3 X4 X6 k.val) (k0_off12 k) S1x512x128.size
        (k0_pay2 (k0_pay54 (fin4 v1 v2 X2 X3 X4 k).2.2 (fin4 v1 v2 X2 X3 X4 k).2.1) (rows (out4 v1 v2 X2 X3 X4 X6 k.val) (k0_off12 k) (k0_off12_inb k))) := by
  rw [out4, dif_pos k.isLt]

section
variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S512x128 .f32) (harg8 : arg8.IsWhole)
  (f2 : BufTy.Contents (Elt F) arg2.view.ty) (f3 : BufTy.Contents (Elt F) arg3.view.ty) (f4 : BufTy.Contents (Elt F) arg4.view.ty)

set_option warn.classDefReducibility false in
/-- The invariant of the first head's loop over query tiles: the output block as far as it is written. -/
@[sl_loop] def loopInv_k0_t1 (v1 v2 : IVec S512x512 32) (X6 : Vec F S1x4096x128 .bf16) :
    LoopInvTy_k0_t1 (F := F) Unit ℕ (UR sig nD τ) ℕ Variants.none c none Set.univ i arg2 harg2 arg3 harg3 arg4 harg4 arg5 harg5 arg6 harg6 arg7 harg7 arg8 harg8 v1 v2 where
  inv n _ := iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4)
      ∗ (∃ f, (arg5.view.loc (c : Thread nD τ) ↦[arg5.view.set]{fullShare} f) ∗ ⌜arg5.view.read (Elt F) f
          = out1 v1 v2 (arg2.view.read (Elt F) f2) (arg3.view.read (Elt F) f3) (arg4.view.read (Elt F) f4) X6 n⌝)
      ∗ (∃ f, (arg6.view.loc (c : Thread nD τ) ↦[arg6.view.set]{fullShare} f)) ∗ (∃ f, (arg7.view.loc (c : Thread nD τ) ↦[arg7.view.set]{fullShare} f))
      ∗ (∃ f, (arg8.view.loc (c : Thread nD τ) ↦[arg8.view.set]{fullShare} f)))
  step n _ := by
    unfold k0_t1_body
    iintro ⟨H2, H3, H4, ⟨%f5, H5, %h5⟩, ⟨%f6, H6⟩, ⟨%f7, H7⟩, ⟨%f8, H8⟩⟩
    sl_exec
    sl_step
    have hs := st0_eq (F := F) arg6 arg7 arg8
    have e6 := (readAt_whole arg6 fL0).trans (hL3.trans (congrArg (fun s => (run2 (arg3.view.read (Elt F) f3) (arg4.view.read (Elt F) f4) n (k0_pay15 (wide (arg2.view.read (Elt F) f2) (k0_off1 n) (k0_off1_inb n))) s (k0_t2_loop n).trips).1) hs))
    have e7 := (readAt_whole arg7 fL1).trans (hL5.trans (congrArg (fun s => (run2 (arg3.view.read (Elt F) f3) (arg4.view.read (Elt F) f4) n (k0_pay15 (wide (arg2.view.read (Elt F) f2) (k0_off1 n) (k0_off1_inb n))) s (k0_t2_loop n).trips).2.1) hs))
    have e8 := (readAt_whole arg8 fL2).trans (hL7.trans (congrArg (fun s => (run2 (arg3.view.read (Elt F) f3) (arg4.view.read (Elt F) f4) n (k0_pay15 (wide (arg2.view.read (Elt F) f2) (k0_off1 n) (k0_off1_inb n))) s (k0_t2_loop n).trips).2.2) hs))
    isplitl [H2]; · iexact H2
    isplitl [H3]; · iexact H3
    isplitl [H4]; · iexact H4
    isplitl [H5]
    · iexists _; isplitl [H5]; · iexact H5
      ipureintro
      rw [View.read_writes_cons_put (h := rfl), out1_succ]
      refine congr (congrArg (fun X => VecWindow.put (s := S1x4096x128) X (k0_off6 n) S1x512x128.size) h5) ?_
      refine congrArg k0_pay1 (congr (congrArg k0_pay28 ?_) ?_)
      · unfold fin1 stepD
        rw [← e6, ← e8]
        exact View.readCov_full arg8.view _ _ _ _
      · unfold fin1 stepD
        rw [← e6, ← e7]
        exact View.readCov_full arg7.view _ _ _ _
    isplitl [H6]; · iexists _; iexact H6
    isplitl [H7]; · iexists _; iexact H7
    iexists _; iexact H8

set_option warn.classDefReducibility false in
/-- The invariant of the second head's loop over query tiles: the output block as far as it is written. -/
@[sl_loop] def loopInv_k0_t4 (v1 v2 : IVec S512x512 32) (X6 : Vec F S1x4096x128 .bf16) :
    LoopInvTy_k0_t4 (F := F) Unit ℕ (UR sig nD τ) ℕ Variants.none c none Set.univ i arg2 harg2 arg3 harg3 arg4 harg4 arg5 harg5 arg6 harg6 arg7 harg7 arg8 harg8 v1 v2 where
  inv n _ := iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4)
      ∗ (∃ f, (arg5.view.loc (c : Thread nD τ) ↦[arg5.view.set]{fullShare} f) ∗ ⌜arg5.view.read (Elt F) f
          = out4 v1 v2 (arg2.view.read (Elt F) f2) (arg3.view.read (Elt F) f3) (arg4.view.read (Elt F) f4) X6 n⌝)
      ∗ (∃ f, (arg6.view.loc (c : Thread nD τ) ↦[arg6.view.set]{fullShare} f)) ∗ (∃ f, (arg7.view.loc (c : Thread nD τ) ↦[arg7.view.set]{fullShare} f))
      ∗ (∃ f, (arg8.view.loc (c : Thread nD τ) ↦[arg8.view.set]{fullShare} f)))
  step n _ := by
    unfold k0_t4_body
    iintro ⟨H2, H3, H4, ⟨%f5, H5, %h5⟩, ⟨%f6, H6⟩, ⟨%f7, H7⟩, ⟨%f8, H8⟩⟩
    sl_exec
    sl_step
    have hs := st1_eq (F := F) arg6 arg7 arg8
    have e6 := (readAt_whole arg6 fL0).trans (hL3.trans (congrArg (fun s => (run5 (arg3.view.read (Elt F) f3) (arg4.view.read (Elt F) f4) n (k0_pay41 (wide (arg2.view.read (Elt F) f2) (k0_off7 n) (k0_off7_inb n))) s (k0_t5_loop n).trips).1) hs))
    have e7 := (readAt_whole arg7 fL1).trans (hL5.trans (congrArg (fun s => (run5 (arg3.view.read (Elt F) f3) (arg4.view.read (Elt F) f4) n (k0_pay41 (wide (arg2.view.read (Elt F) f2) (k0_off7 n) (k0_off7_inb n))) s (k0_t5_loop n).trips).2.1) hs))
    have e8 := (readAt_whole arg8 fL2).trans (hL7.trans (congrArg (fun s => (run5 (arg3.view.read (Elt F) f3) (arg4.view.read (Elt F) f4) n (k0_pay41 (wide (arg2.view.read (Elt F) f2) (k0_off7 n) (k0_off7_inb n))) s (k0_t5_loop n).trips).2.2) hs))
    isplitl [H2]; · iexact H2
    isplitl [H3]; · iexact H3
    isplitl [H4]; · iexact H4
    isplitl [H5]
    · iexists _; isplitl [H5]; · iexact H5
      ipureintro
      rw [View.read_writes_cons_put (h := rfl), out4_succ]
      refine congr (congrArg (fun X => VecWindow.put (s := S1x4096x128) X (k0_off12 n) S1x512x128.size) h5) ?_
      refine congr (congrArg k0_pay2 (congr (congrArg k0_pay54 ?_) ?_)) (congrArg (fun X => rows X (k0_off12 n) (k0_off12_inb n)) h5)
      · unfold fin4 stepE
        rw [← e6, ← e8]
        exact View.readCov_full arg8.view _ _ _ _
      · unfold fin4 stepE
        rw [← e6, ← e7]
        exact View.readCov_full arg7.view _ _ _ _
    isplitl [H6]; · iexists _; iexact H6
    isplitl [H7]; · iexists _; iexact H7
    iexists _; iexact H8

end
end Cert.Proof.KernelMlaIdeal
end
-- ==== Proof.MBody.lean ====
/-
  The latent attention's body at one grid point: from the three staged input blocks to the output block, whatever the
  output buffer held before.
-/
module

public import proofs.«01_k».proof.Proof.MOuter
public import Idealize.ShloMosaic.Lib.Pipeline.FrameBody

@[expose] public section

noncomputable section

namespace Cert.Proof.KernelMlaIdeal

open Cert.KernelMlaIdeal Cert.KernelMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem t1_trips : k0_t1_loop.trips = 8 := by decide +kernel
theorem t4_trips : k0_t4_loop.trips = 8 := by decide +kernel

/-- The place of a row of the block within its tile, and the tile's number. -/
def loc (y : S1x4096x128.Idx) : S1x512x128.Idx := fun a => ⟨(y a).val % S1x512x128.size a, Nat.mod_lt _ ((by decide : ∀ a : Fin 3, 0 < S1x512x128.size a) a)⟩
theorem tl_lt (y : S1x4096x128.Idx) : (y 1).val / 512 < 8 := Nat.div_lt_of_lt_mul (y 1).isLt
def tl1 (y : S1x4096x128.Idx) : Fin k0_t1_loop.trips := ⟨(y 1).val / 512, (tl_lt y).trans_eq t1_trips.symm⟩
def tl4 (y : S1x4096x128.Idx) : Fin k0_t4_loop.trips := ⟨(y 1).val / 512, (tl_lt y).trans_eq t4_trips.symm⟩

/-- One tile written at the rows of its number: read at a row. -/
theorem put_tile {X : Vec F S1x4096x128 .bf16} {off : Fin 3 → ℕ} {n : ℕ} (ho : off = ![0, 512 * n, 0]) (w : Vec F S1x512x128 .bf16) (y : S1x4096x128.Idx) :
    VecWindow.put (s := S1x4096x128) X off S1x512x128.size w y = if (y 1).val / 512 = n then w (loc y) else X y := by
  subst ho
  have h0 : (y 0).val < 1 := (y 0).isLt
  have h1 : (y 1).val < 4096 := (y 1).isLt
  have h2 : (y 2).val < 128 := (y 2).isLt
  have hs0 : S1x512x128.size 0 = 1 := rfl
  have hs1 : S1x512x128.size 1 = 512 := rfl
  have hs2 : S1x512x128.size 2 = 128 := rfl
  unfold VecWindow.put
  by_cases hn : (y 1).val / 512 = n
  · have h : ∀ a, (![0, 512 * n, 0] : Fin 3 → ℕ) a ≤ (y a).val ∧ (y a).val < (![0, 512 * n, 0] : Fin 3 → ℕ) a + S1x512x128.size a := by
      refine Fin.forall_fin_succ.2 ⟨?_, Fin.forall_fin_succ.2 ⟨?_, Fin.forall_fin_succ.2 ⟨?_, fun a => a.elim0⟩⟩⟩
      · show 0 ≤ (y 0).val ∧ (y 0).val < 0 + 1; omega
      · show 512 * n ≤ (y 1).val ∧ (y 1).val < 512 * n + 512; omega
      · show 0 ≤ (y 2).val ∧ (y 2).val < 0 + 128; omega
    rw [if_pos hn, dif_pos h]
    refine congrArg w (funext fun a => Fin.ext ?_)
    revert a
    refine Fin.forall_fin_succ.2 ⟨?_, Fin.forall_fin_succ.2 ⟨?_, Fin.forall_fin_succ.2 ⟨?_, fun a => a.elim0⟩⟩⟩
    · show (y 0).val - 0 = (y 0).val % 1; omega
    · show (y 1).val - 512 * n = (y 1).val % 512; omega
    · show (y 2).val - 0 = (y 2).val % 128; omega
  · rw [if_neg hn, dif_neg]
    intro h
    have := h 1
    have e : (![0, 512 * n, 0] : Fin 3 → ℕ) 1 = 512 * n := rfl
    rw [e] at this
    omega

variable (v1 v2 : IVec S512x512 32) (X2 X3 : Vec F S1x4096x256 .bf16) (X4 : Vec F S1x4096x128 .bf16)

/-- The first head's block at a row already done. -/
theorem out1_at (X6 : Vec F S1x4096x128 .bf16) (y : S1x4096x128.Idx) (n : ℕ) (hn : n ≤ k0_t1_loop.trips) (hy : (y 1).val / 512 < n) :
    out1 v1 v2 X2 X3 X4 X6 n y = k0_pay1 (k0_pay28 (fin1 v1 v2 X2 X3 X4 (tl1 y)).2.2 (fin1 v1 v2 X2 X3 X4 (tl1 y)).2.1) (loc y) := by
  induction n with
  | zero => omega
  | succ n ih =>
    rw [out1_succ v1 v2 X2 X3 X4 X6 ⟨n, hn⟩, put_tile (k0_off6_eq ⟨n, hn⟩)]
    by_cases h : (y 1).val / 512 = n
    · rw [if_pos h, show tl1 y = ⟨n, hn⟩ from Fin.ext h]
    · rw [if_neg h]; exact ih (by omega) (by omega)

/-- The second head's block at a row not yet done, and at one already done. -/
theorem out4_ge (X6 : Vec F S1x4096x128 .bf16) (y : S1x4096x128.Idx) (n : ℕ) (hn : n ≤ k0_t4_loop.trips) (hy : n ≤ (y 1).val / 512) :
    out4 v1 v2 X2 X3 X4 X6 n y = X6 y := by
  induction n with
  | zero => rfl
  | succ n ih =>
    rw [out4_succ v1 v2 X2 X3 X4 X6 ⟨n, hn⟩, put_tile (k0_off12_eq ⟨n, hn⟩), if_neg (show ¬ (y 1).val / 512 = n by omega)]
    exact ih (by omega) (by omega)

theorem rows_out4 (X6 : Vec F S1x4096x128 .bf16) (k : Fin k0_t4_loop.trips) :
    rows (out4 v1 v2 X2 X3 X4 X6 k.val) (k0_off12 k) (k0_off12_inb k) = rows X6 (k0_off12 k) (k0_off12_inb k) := by
  funext z
  refine out4_ge v1 v2 X2 X3 X4 X6 _ k.val k.isLt.le ?_
  have e : (((Rect.unit (s := S1x4096x128) (k0_off12 k) S1x512x128.size (k0_off12_inb k)).idx z) 1).val = 512 * k.val + 1 * (z 1).val := by
    show (k0_off12 k) 1 + 1 * (z 1).val = _
    rw [k0_off12_eq]; rfl
  rw [e]; omega

theorem out4_at (X6 : Vec F S1x4096x128 .bf16) (y : S1x4096x128.Idx) (n : ℕ) (hn : n ≤ k0_t4_loop.trips) (hy : (y 1).val / 512 < n) :
    out4 v1 v2 X2 X3 X4 X6 n y = k0_pay2 (k0_pay54 (fin4 v1 v2 X2 X3 X4 (tl4 y)).2.2 (fin4 v1 v2 X2 X3 X4 (tl4 y)).2.1)
      (rows X6 (k0_off12 (tl4 y)) (k0_off12_inb (tl4 y))) (loc y) := by
  induction n with
  | zero => omega
  | succ n ih =>
    rw [out4_succ v1 v2 X2 X3 X4 X6 ⟨n, hn⟩, put_tile (k0_off12_eq ⟨n, hn⟩)]
    by_cases h : (y 1).val / 512 = n
    · rw [if_pos h, show tl4 y = ⟨n, hn⟩ from Fin.ext h, rows_out4 v1 v2 X2 X3 X4 X6 ⟨n, hn⟩]
    · rw [if_neg h]; exact ih (by omega) (by omega)

/-- The body's output block. -/
def blk : Vec F S1x4096x128 .bf16 := fun y =>
  k0_pay2 (k0_pay54 (fin4 v1 v2 X2 X3 X4 (tl4 y)).2.2 (fin4 v1 v2 X2 X3 X4 (tl4 y)).2.1)
    (k0_pay1 (k0_pay28 (fin1 v1 v2 X2 X3 X4 (tl1 y)).2.2 (fin1 v1 v2 X2 X3 X4 (tl1 y)).2.1)) (loc y)

/-- Both loops over query tiles leave it, whatever was there. -/
theorem out_blk (X6 : Vec F S1x4096x128 .bf16) :
    out4 v1 v2 X2 X3 X4 (out1 v1 v2 X2 X3 X4 X6 k0_t1_loop.trips) k0_t4_loop.trips = blk v1 v2 X2 X3 X4 := by
  funext y
  rw [out4_at v1 v2 X2 X3 X4 _ y _ le_rfl ((tl_lt y).trans_eq t4_trips.symm)]
  unfold blk
  refine congrArg (fun T => k0_pay2 _ T (loc y)) ?_
  funext z
  have e : (((Rect.unit (s := S1x4096x128) (k0_off12 (tl4 y)) S1x512x128.size (k0_off12_inb (tl4 y))).idx z) 1).val = 512 * ((y 1).val / 512) + 1 * (z 1).val := by
    show (k0_off12 (tl4 y)) 1 + 1 * (z 1).val = _
    rw [k0_off12_eq]; rfl
  have e0 : (((Rect.unit (s := S1x4096x128) (k0_off12 (tl4 y)) S1x512x128.size (k0_off12_inb (tl4 y))).idx z) 0).val = 0 + 1 * (z 0).val := by
    show (k0_off12 (tl4 y)) 0 + 1 * (z 0).val = _
    rw [k0_off12_eq]; rfl
  have e2 : (((Rect.unit (s := S1x4096x128) (k0_off12 (tl4 y)) S1x512x128.size (k0_off12_inb (tl4 y))).idx z) 2).val = 0 + 1 * (z 2).val := by
    show (k0_off12 (tl4 y)) 2 + 1 * (z 2).val = _
    rw [k0_off12_eq]; rfl
  have h0 : (z 0).val < 1 := (z 0).isLt
  have h1 : (z 1).val < 512 := (z 1).isLt
  have h2 : (z 2).val < 128 := (z 2).isLt
  have hy := tl_lt y
  show out1 v1 v2 X2 X3 X4 X6 _ ((Rect.unit (s := S1x4096x128) (k0_off12 (tl4 y)) S1x512x128.size (k0_off12_inb (tl4 y))).idx z) = _
  rw [out1_at v1 v2 X2 X3 X4 X6 _ _ le_rfl (by rw [e, t1_trips]; omega)]
  rw [show tl1 ((Rect.unit (s := S1x4096x128) (k0_off12 (tl4 y)) S1x512x128.size (k0_off12_inb (tl4 y))).idx z) = tl1 y from
    Fin.ext (by show _ / 512 = _ / 512; rw [e]; omega)]
  refine congrArg _ (funext fun a => Fin.ext ?_)
  revert a
  refine Fin.forall_fin_succ.2 ⟨?_, Fin.forall_fin_succ.2 ⟨?_, Fin.forall_fin_succ.2 ⟨?_, fun a => a.elim0⟩⟩⟩
  · exact (congrArg (· % 1) e0).trans (by show _ % _ = (z 0).val; omega)
  · exact (congrArg (· % 512) e).trans (by show _ % _ = (z 1).val; omega)
  · exact (congrArg (· % 128) e2).trans (by show _ % _ = (z 2).val; omega)

/-- The tile's row and lane numbers. -/
abbrev rowI : IVec S512x512 32 := iota .tc S512x512 32 [0] iota_S512x512_d0_w32
abbrev colI : IVec S512x512 32 := iota .tc S512x512 32 [1] iota_S512x512_d1_w32

set_option maxHeartbeats 1000000 in
/-- The body at a grid point, beside anything else held. -/
theorem sound_kernel (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x128 .bf16) (harg4 : arg4.IsWhole) (arg5 : Memref sig .tc .vmem S1x4096x128 .bf16) (harg5 : arg5.IsWhole)
    (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole)
    (X2 X3 : Vec F S1x4096x256 .bf16) (X4 : Vec F S1x4096x128 .bf16) (R : sProp 𝕄) :
    (iprop(R ∗ owns (c : Thread nD τ) arg2 fullShare X2 ∗ owns (c : Thread nD τ) arg3 fullShare X3 ∗ owns (c : Thread nD τ) arg4 fullShare X4 ∗ (∃ X6, owns (c : Thread nD τ) arg5 fullShare X6)
        ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f))) : sProp 𝕄)
      ⊢ wp frame (wpE (defs₀ (F := F)) Variants.none c none) Set.univ (cc0_mla i arg2 harg2 arg3 harg3 arg4 harg4 arg5 harg5 arg6 harg6 arg7 harg7 arg8 harg8)
        fun _ => iprop(R ∗ owns (c : Thread nD τ) arg2 fullShare X2 ∗ owns (c : Thread nD τ) arg3 fullShare X3 ∗ owns (c : Thread nD τ) arg4 fullShare X4 ∗ owns (c : Thread nD τ) arg5 fullShare (blk rowI colI X2 X3 X4)
        ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f))) := by
  simp only [cc0_mla_eq_skeleton]
  unfold cc0_mla_skel owns
  iintro ⟨HR, ⟨%f2, %h2, H2⟩, ⟨%f3, %h3, H3⟩, ⟨%f4, %h4, H4⟩, ⟨%X6, %f5, %h5, H5⟩, ⟨%f6, H6⟩, ⟨%f7, H7⟩, ⟨%f8, H8⟩⟩
  subst h2 h3 h4 h5
  sl_exec
  sl_step
  have h14 : arg5.view.read (Elt F) fL4 = blk rowI colI (arg2.view.read (Elt F) f2) (arg3.view.read (Elt F) f3) (arg4.view.read (Elt F) f4) := by
    refine hL12.trans ?_
    refine Eq.trans ?_ (out_blk _ _ _ _ _ (arg5.view.read (Elt F) f5))
    exact congrArg (fun X => out4 _ _ _ _ _ X _) hL4
  isplitl [HR]; · iexact HR
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; exact h14
  isplitl [H6]; · iexists _; iexact H6
  isplitl [H7]; · iexists _; iexact H7
  iexists _; iexact H8

end Cert.Proof.KernelMlaIdeal
end
end
-- ==== Proof.MRun.lean ====
/-
  The run of the latent attention: the pipeline over its grid, every point's body by the body's theorem.
-/
module

public import proofs.«01_k».proof.Proof.MBody
public import Idealize.ShloMosaic.Lib.Claim

@[expose] public section

noncomputable section

namespace Cert.Proof.KernelMlaIdeal

open Cert.KernelMlaIdeal Cert.KernelMlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block the body leaves at a grid point. -/
def outB (c : Dev nD) (t : Fin cfg0.N) : Vec F S1x4096x128 .bf16 :=
  blk rowI colI (iblk m c 0 t) (iblk m c 1 t) (iblk m c 2 t)

/-- The pipeline's proof data: input windows keep their blocks, the output window gets the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t := by dsimp only [dats]

set_option maxHeartbeats 1000000 in
/-- The library's body obligation, by the body's own theorem. -/
theorem body_obligation (c : Dev nD) : BodyObligationLoose (dats m 0 c) (defs₀ (F := F)) Variants.none () Set.univ := fun t => by
  rw [bigSep_W0, bigSep_W0]
  rw [show (defs₀ (F := F)) .tc cfg0.body (cfg0.bodyArgs t (cfg0.slots t)) = bodyAt0 t from by unfold defs₀; rw [Defs.onTc_tc]]
  rw [show (dats m 0 c).Φ t.castSucc = Pipeline.ΦA spec0 c from rfl, show (dats m 0 c).Φ t.succ = Pipeline.ΦA spec0 c from rfl]
  unfold Pipeline.ΦA
  rw [scopedRest0_eq]
  simp only [before0_0_of m (dats m 0 c) (A_eq m c 0) (after0_0 m c) t, before0_1_of m (dats m 0 c) (A_eq m c 1) (after0_1 m c) t,
    before0_2_of m (dats m 0 c) (A_eq m c 2) (after0_2 m c) t]
  rw [after0_0, after0_1, after0_2, after0_3]
  have hk := (sound_kernel c (grid0.coords t) (stage0_0 (cfg0.slots t 0)) (hstage0_0 _) (stage0_1 (cfg0.slots t 1)) (hstage0_1 _) (stage0_2 (cfg0.slots t 2)) (hstage0_2 _)
    (stage0_3 (cfg0.slots t 3)) (hstage0_3 _) (Memref.whole cc0_scratch0) (Memref.isWhole_whole _) (Memref.whole cc0_scratch1) (Memref.isWhole_whole _)
    (Memref.whole cc0_scratch2) (Memref.isWhole_whole _) (iblk m c 0 t) (iblk m c 1 t) (iblk m c 2 t) (iprop((∃ r, prngReg c r) ∗ (dats m 0 c).owesAt () t.castSucc)))
  rw [show (Memref.whole cc0_scratch0 : Memref sig .tc .vmem S512x128 .f32).view.set = Finset.univ from View.set_whole _,
    show (Memref.whole cc0_scratch1 : Memref sig .tc .vmem S512x128 .f32).view.set = Finset.univ from View.set_whole _,
    show (Memref.whole cc0_scratch2 : Memref sig .tc .vmem S512x128 .f32).view.set = Finset.univ from View.set_whole _] at hk
  rw [show (dats m 0 c).owesAt () t.succ = (dats m 0 c).owesAt () t.castSucc from rfl]
  refine BIBase.Entails.trans ?_ (BIBase.Entails.trans hk (wp_mono _ _ _ fun _ => ?_))
  · iintro ⟨⟨⟨S0, S1, S2⟩, Hp⟩, Ho, ⟨%d0, H0⟩, ⟨%d1, H1⟩, ⟨%d2, H2⟩, ⟨%d3, H3⟩⟩
    isplitl [Hp Ho]; · isplitl [Hp]; · iexact Hp
                       iexact Ho
    isplitl [H0]; · iexact H0
    isplitl [H1]; · iexact H1
    isplitl [H2]; · iexact H2
    isplitl [H3]; · iexists _; iexact H3
    isplitl [S0]; · iexact S0
    isplitl [S1]; · iexact S1
    iexact S2
  · iintro ⟨⟨Hp, Ho⟩, H0, H1, H2, H3, S0, S1, S2⟩
    isplitl [Hp S0 S1 S2]
    · isplitl [S0 S1 S2]
      · isplitl [S0]; · iexact S0
        isplitl [S1]; · iexact S1
        iexact S2
      iexact Hp
    isplitl [Ho]; · iexact Ho
    isplitl [H0]; · iexact H0
    isplitl [H1]; · iexact H1
    isplitl [H2]; · iexact H2
    iexact H3

set_option backward.isDefEq.respectTransparency.types false in
/-- The program's run: every array at what the proof data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (fun c => body_obligation m c) (fun c => (dats m 0 c).share_full fun _ => rfl) (fun _ _ => rfl) (V m) (hmain m Variants.none) (fun c w => A_eq m c w) (fun _ _ => rfl)
    (Q' := fun r => Pipeline.FramePost cfgs (dats m) 0 (V m) r ∧ r.2.sem = fun _ => 0) (hQ' := fun _ h => h)

/-- The quiescent frame: arguments unchanged, counters at zero. -/
theorem quiescent_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main m ρ)

/-- The run, without the counters. -/
theorem run_post : θ_run defs (onTc (τ := τ) (main (F := F))) (s₀ m ρ) (Pipeline.FramePost cfgs (dats m) 0 (V m)) :=
  (θ_run defs _ _).mono (fun _ h => h.1) (run_main m ρ)

end Cert.Proof.KernelMlaIdeal
end
end
-- ==== Proof.MTile.lean ====
/-
  One tile of the latent attention read at a row and a lane: the running softmax taken one step further.
-/
module

public import proofs.«01_k».proof.Proof.MOuter
public import proofs.«01_k».proof.Proof.Softmax
public import Idealize.ShloMosaic.Lib.Pointwise

@[expose] public section

set_option maxRecDepth 16384

noncomputable section

namespace Cert.Proof.KernelMlaIdeal

open Cert.KernelMlaIdeal Cert.KernelMlaIdeal.Gen
open Idealize.ShloMosaic Idealize.ShloMosaic.TcCoe
open Cert.Proof.Online

/-- The running arrays at a row and a lane: the softmax over the first `n` tiles of the scores `σ` of the row and
    the values `v` of the lane. -/
def Good (σ : Fin 512 → ℕ → Fin 512 → EReal) (v : Fin 128 → ℕ → Fin 512 → EReal) (n : ℕ) (s : St Ideal) : Prop :=
  ∀ (r : Fin 512) (x : Fin 128), s.1 (ix2 r x) = Mx (σ r) n ∧ s.2.1 (ix2 r x) = Lx (σ r) n ∧ s.2.2 (ix2 r x) = Ax (σ r) (v x) n

variable {q : FVec Ideal S512x128 .bf16} {Q K V : FVec Ideal S1x512x128 .bf16} {S : FVec Ideal S512x512 .f32}
variable {σ : Fin 512 → ℕ → Fin 512 → EReal} {v : Fin 128 → ℕ → Fin 512 → EReal} {n : ℕ} {s : St Ideal}

theorem pay4_good (hs : Good σ v n s) (hS : ∀ r c, k0_pay3 q K (ix2 r c) = σ r n c) (r : Fin 512) (x : Fin 128) :
    k0_pay4 q K s.1 (ix2 r x) = Mx (σ r) (n + 1) := by
  pointwise [k0_pay4]
  rw [(hs r x).1, pattern_bot, fold_bot, Mx_succ]
  exact congrArg (max _) (Finset.sup_congr rfl fun c _ => hS r c)

theorem pay6_good (hs : Good σ v n s) (hS : ∀ r c, k0_pay3 q K (ix2 r c) = σ r n c) (r c : Fin 512) :
    k0_pay6 q K s.1 (ix2 r c) = Ideal.exp (σ r n c - Mx (σ r) (n + 1)) := by
  pointwise [k0_pay6]
  simp only [pay4_good hs hS, hS, dite_eq_ite, ite_self]

/-- One tile of an inner loop takes the softmax one tile further. -/
theorem step2_good (hs : Good σ v n s) (hS : ∀ r c, k0_pay3 q K (ix2 r c) = σ r n c) (hV : ∀ x c, V (ix3 0 c x) = v x n c) :
    Good σ v (n + 1) (step2 q K V s) := by
  intro r x
  refine ⟨?_, ?_, ?_⟩
  · show k0_pay19 (k0_pay4 q K s.1) (ix2 r x) = _
    pointwise [k0_pay19]
    exact pay4_good hs hS r x
  · show k0_pay7 q K s.1 s.2.1 (ix2 r x) = _
    pointwise [k0_pay7, k0_pay5]
    rw [(hs r x).1, (hs r x).2.1, pay4_good hs hS, ← Lx_succ]
    exact congrArg (_ + ·) (Finset.sum_congr rfl fun c _ => pay6_good hs hS r c)
  · show k0_pay8 q K s.1 s.2.2 V (ix2 r x) = _
    pointwise [k0_pay8, k0_pay5]
    rw [(hs r x).1, (hs r x).2.2, pay4_good hs hS, ← Ax_succ]
    refine Ideal.add_congr rfl (Finset.sum_congr rfl fun c _ => ?_)
    rw [pay6_good hs hS r c, hV]

theorem pay22_good (hs : Good σ v n s) (hS : ∀ r c, S (ix2 r c) = σ r n c) (r : Fin 512) (x : Fin 128) :
    k0_pay22 S s.1 (ix2 r x) = Mx (σ r) (n + 1) := by
  pointwise [k0_pay22]
  rw [(hs r x).1, pattern_bot, fold_bot, Mx_succ]
  exact congrArg (max _) (Finset.sup_congr rfl fun c _ => hS r c)

theorem pay24_good (hs : Good σ v n s) (hS : ∀ r c, S (ix2 r c) = σ r n c) (r c : Fin 512) :
    k0_pay24 S s.1 (ix2 r c) = Ideal.exp (σ r n c - Mx (σ r) (n + 1)) := by
  pointwise [k0_pay24]
  simp only [pay22_good hs hS, hS, dite_eq_ite, ite_self]

/-- The diagonal tile takes the softmax one tile further. -/
theorem stepD_good (hs : Good σ v n s) (hS : ∀ r c, S (ix2 r c) = σ r n c) (hV : ∀ x c, V (ix3 0 c x) = v x n c) :
    Good σ v (n + 1) (stepD S V s) := by
  intro r x
  refine ⟨?_, ?_, ?_⟩
  · show k0_pay27 S s.1 (ix2 r x) = _
    pointwise [k0_pay27]
    exact pay22_good hs hS r x
  · show k0_pay25 S s.1 s.2.1 (ix2 r x) = _
    pointwise [k0_pay25, k0_pay23]
    rw [(hs r x).1, (hs r x).2.1, pay22_good hs hS, ← Lx_succ]
    exact congrArg (_ + ·) (Finset.sum_congr rfl fun c _ => pay24_good hs hS r c)
  · show k0_pay26 S s.1 s.2.2 V (ix2 r x) = _
    pointwise [k0_pay26, k0_pay23]
    rw [(hs r x).1, (hs r x).2.2, pay22_good hs hS, ← Ax_succ]
    refine Ideal.add_congr rfl (Finset.sum_congr rfl fun c _ => ?_)
    rw [pay24_good hs hS r c, hV]

/-- The second head's diagonal tile is the first head's. -/
theorem stepE_eq : stepE S V s = stepD S V s := rfl

/-- The start is the softmax over no tile. -/
theorem st0_good : Good σ v 0 st0 := by
  intro r x
  refine ⟨?_, ?_, ?_⟩
  · show k0_pay16 (ix2 r x) = _
    pointwise [k0_pay16]
    exact pattern_bot
  · show k0_pay17 (ix2 r x) = _
    pointwise [k0_pay17]
    rfl
  · show k0_pay18 (ix2 r x) = _
    pointwise [k0_pay18]
    rfl

/-- The score of row `r` against key `c` of a tile. -/
theorem pay3_at (r c : Fin 512) : k0_pay3 q K (ix2 r c) = ∑ x : Fin 128, q (ix2 r x) * K (ix3 0 c x) := by
  pointwise [k0_pay3]

/-- The masked score of the diagonal tile. -/
theorem pay21_at (r c : Fin 512) : k0_pay21 (F := Ideal) (iota .tc S512x512 32 [0] iota_S512x512_d0_w32) (iota .tc S512x512 32 [1] iota_S512x512_d1_w32) Q K (ix2 r c)
    = if c.val ≤ r.val then ∑ x : Fin 128, Q (ix3 0 r x) * K (ix3 0 c x) else ⊥ := by
  pointwise [k0_pay21, k0_pay15]
  rw [pattern_bot]
  word_cmp

/-- The query rows. -/
theorem pay15_at (r : Fin 512) (x : Fin 128) : k0_pay15 Q (ix2 r x) = Q (ix3 0 r x) := by
  pointwise [k0_pay15]

theorem pay1_at (a l : FVec Ideal S512x128 .f32) (r : Fin 512) (x : Fin 128) : k0_pay1 (k0_pay28 (F := Ideal) a l) (ix3 0 r x) = Ideal.div (a (ix2 r x)) (l (ix2 r x)) := by
  pointwise [k0_pay1, k0_pay28]

theorem pay2_at (a l : FVec Ideal S512x128 .f32) (o : FVec Ideal S1x512x128 .bf16) (r : Fin 512) (x : Fin 128) :
    k0_pay2 (k0_pay54 a l) o (ix3 0 r x) = if x.val < 64 then o (ix3 0 r x) else Ideal.div (a (ix2 r x)) (l (ix2 r x)) := by
  pointwise [k0_pay2, k0_pay54]
  word_cmp
  by_cases h : x.val < 64
  · rw [if_pos h, if_neg (by omega)]
  · rw [if_neg h, if_pos (by omega)]

end Cert.Proof.KernelMlaIdeal
end
end
-- ==== Proof.MBlock.lean ====
/-
  The block the latent attention's body leaves, read at a row and a lane: the softmax of the row's scores over the
  whole row.
-/
module

public import proofs.«01_k».proof.Proof.MBody
public import proofs.«01_k».proof.Proof.MTile

@[expose] public section

set_option maxRecDepth 16384

noncomputable section

namespace Cert.Proof.KernelMlaIdeal

open Cert.KernelMlaIdeal Cert.KernelMlaIdeal.Gen
open Idealize.ShloMosaic Idealize.ShloMosaic.TcCoe
open Cert.Proof.Online

/-- A tile of the values read at a row of the tile. -/
theorem rows_at (X : FVec Ideal S1x4096x128 .bf16) {off : Fin 3 → ℕ} (h) {n : ℕ} (ho : off = ![0, 512 * n, 0]) (hn : n < 8) (r : Fin 512) (x : Fin 128) :
    rows (F := Ideal) X off h (ix3 0 r x) = X (ix3 0 ⟨512 * n + r.val, by omega⟩ x) := by
  subst ho
  pointwise [rows]

/-- A tile of the queries or keys, at the lanes of head `a`, read at a row of the tile. -/
theorem wide_at (X : FVec Ideal S1x4096x256 .bf16) {off : Fin 3 → ℕ} (h) (a : Fin 2) {n : ℕ} (ho : off = ![0, 512 * n, 128 * a.val]) (hn : n < 8) (r : Fin 512) (x : Fin 128) :
    wide (F := Ideal) X off h (ix3 0 r x) = X (ix3 0 ⟨512 * n + r.val, by omega⟩ ⟨128 * a.val + x.val, by omega⟩) := by
  subst ho
  pointwise [wide]

variable (X2 X3 : FVec Ideal S1x4096x256 .bf16) (X4 : FVec Ideal S1x4096x128 .bf16)

/-- The kernel's score of query `t` against key `s` in head `a` of the block. -/
def ks (a : Fin 2) (t s : Fin 4096) : EReal :=
  if s.val ≤ t.val then ∑ x : Fin 128, X2 (ix3 0 t ⟨128 * a.val + x.val, by omega⟩) * X3 (ix3 0 s ⟨128 * a.val + x.val, by omega⟩) else ⊥

/-- The scores of query tile `k`, tile by tile of keys; and the values. -/
def σk (a : Fin 2) (k : Fin 8) (r : Fin 512) : ℕ → Fin 512 → EReal := fun j c => ks X2 X3 a ⟨512 * k.val + r.val, by omega⟩ (Fin.ofNat 4096 (512 * j + c.val))
def vk (x : Fin 128) : ℕ → Fin 512 → EReal := fun j c => X4 (ix3 0 (Fin.ofNat 4096 (512 * j + c.val)) x)

theorem ofNat_tile {n : ℕ} (hn : n < 8) (c : Fin 512) : Fin.ofNat 4096 (512 * n + c.val) = ⟨512 * n + c.val, by omega⟩ :=
  Fin.ext (Nat.mod_eq_of_lt (by omega))

section
variable {X2 X3 X4}
variable {a : Fin 2} {k : Fin 8} {n : ℕ} (hn : n < 8) {q : FVec Ideal S512x128 .bf16} {Q K V : FVec Ideal S1x512x128 .bf16}
  (hK : ∀ c x, K (ix3 0 c x) = X3 (ix3 0 ⟨512 * n + c.val, by omega⟩ ⟨128 * a.val + x.val, by omega⟩))

include hK in
theorem inner_score (hq : ∀ r x, q (ix2 r x) = X2 (ix3 0 ⟨512 * k.val + r.val, by omega⟩ ⟨128 * a.val + x.val, by omega⟩)) (hnk : n < k.val) (r c : Fin 512) :
    k0_pay3 q K (ix2 r c) = σk X2 X3 a k r n c := by
  refine (pay3_at r c).trans ?_
  unfold σk ks
  rw [ofNat_tile hn, if_pos (by show 512 * n + c.val ≤ 512 * k.val + r.val; omega)]
  exact Finset.sum_congr rfl fun x _ => by rw [hq, hK]

include hK in
theorem diag_score (hQ : ∀ r x, Q (ix3 0 r x) = X2 (ix3 0 ⟨512 * k.val + r.val, by omega⟩ ⟨128 * a.val + x.val, by omega⟩)) (hnk : n = k.val) (r c : Fin 512) :
    k0_pay21 (F := Ideal) rowI colI Q K (ix2 r c) = σk X2 X3 a k r n c := by
  refine (pay21_at r c).trans ?_
  unfold σk ks
  rw [ofNat_tile hn]
  by_cases h : c.val ≤ r.val
  · rw [if_pos h, if_pos (by show 512 * n + c.val ≤ 512 * k.val + r.val; omega)]
    exact Finset.sum_congr rfl fun x _ => by rw [hQ, hK]
  · rw [if_neg h, if_neg (by show ¬ 512 * n + c.val ≤ 512 * k.val + r.val; omega)]
end

/-- Past the diagonal every score is minus infinity: the softmax over the tiles done is that over all eight. -/
theorem all_tiles (a : Fin 2) (k : Fin 8) (r : Fin 512) (x : Fin 128) :
    Ideal.div (Ax (σk X2 X3 a k r) (vk X4 x) (k.val + 1)) (Lx (σk X2 X3 a k r) (k.val + 1))
      = soft (ks X2 X3 a ⟨512 * k.val + r.val, by omega⟩) fun s => X4 (ix3 0 s x) := by
  rw [← tiles_soft]
  have hbot : ∀ j, k.val + 1 ≤ j → j < k.val + 1 + (8 - (k.val + 1)) → ∀ c, σk X2 X3 a k r j c = ⊥ := by
    intro j h1 h2 c
    unfold σk ks
    rw [ofNat_tile (by omega), if_neg (by show ¬ 512 * j + c.val ≤ 512 * k.val + r.val; omega)]
  obtain ⟨-, hL, hA⟩ := tail_bot (σk X2 X3 a k r) (vk X4 x) hbot
  rw [show k.val + 1 + (8 - (k.val + 1)) = 8 from by omega] at hL hA
  rw [← hL, ← hA]
  rfl

theorem trips2 : ∀ k, (k0_t2_loop k).trips = k.val := by decide +kernel
theorem trips5 : ∀ k, (k0_t5_loop k).trips = k.val := by decide +kernel

/-- The running arrays of the first head after the tiles before the diagonal. -/
theorem run2_good (k : Fin k0_t1_loop.trips) (hk : k.val < 8) (n : ℕ) (hn : n ≤ k.val) :
    Good (σk X2 X3 0 ⟨k.val, hk⟩) (vk X4) n
      (run2 (F := Ideal) X3 X4 k (k0_pay15 (wide (F := Ideal) X2 (k0_off1 k) (k0_off1_inb k))) st0 n) := by
  induction n with
  | zero => exact st0_good
  | succ n ih =>
    have hn8 : n < 8 := by omega
    rw [run2_succ (F := Ideal) X3 X4 k _ _ ⟨n, by rw [trips2]; omega⟩]
    refine step2_good (ih (by omega)) (inner_score hn8 (fun c x => ?_) (fun r x => ?_) (by show n < k.val; omega)) (fun x c => ?_)
    · exact wide_at X3 _ 0 (k0_off2_eq k _) hn8 c x
    · exact (pay15_at r x).trans (wide_at X2 _ 0 (k0_off1_eq k) hk r x)
    · unfold vk
      rw [ofNat_tile hn8]
      exact rows_at X4 _ (k0_off3_eq k _) hn8 c x

/-- The running arrays of the first head after the diagonal tile. -/
theorem fin1_good (k : Fin k0_t1_loop.trips) (hk : k.val < 8) : Good (σk X2 X3 0 ⟨k.val, hk⟩) (vk X4) (k.val + 1) (fin1 (F := Ideal) rowI colI X2 X3 X4 k) := by
  unfold fin1
  rw [trips2]
  refine stepD_good (run2_good X2 X3 X4 k hk _ le_rfl) (diag_score hk (fun c x => ?_) (fun r x => ?_) rfl) (fun x c => ?_)
  · exact wide_at X3 _ 0 (k0_off1_eq k) hk c x
  · exact wide_at X2 _ 0 (k0_off1_eq k) hk r x
  · unfold vk
    rw [ofNat_tile hk]
    exact rows_at X4 _ (k0_off6_eq k) hk c x

/-- The running arrays of the second head after the tiles before the diagonal. -/
theorem run5_good (k : Fin k0_t4_loop.trips) (hk : k.val < 8) (n : ℕ) (hn : n ≤ k.val) :
    Good (σk X2 X3 1 ⟨k.val, hk⟩) (vk X4) n
      (run5 (F := Ideal) X3 X4 k (k0_pay41 (wide (F := Ideal) X2 (k0_off7 k) (k0_off7_inb k))) st1 n) := by
  induction n with
  | zero => exact st0_good
  | succ n ih =>
    have hn8 : n < 8 := by omega
    rw [run5_succ (F := Ideal) X3 X4 k _ _ ⟨n, by rw [trips5]; omega⟩]
    refine step2_good (ih (by omega)) (inner_score hn8 (fun c x => ?_) (fun r x => ?_) (by show n < k.val; omega)) (fun x c => ?_)
    · exact wide_at X3 _ 1 (k0_off8_eq k _) hn8 c x
    · exact (pay15_at r x).trans (wide_at X2 _ 1 (k0_off7_eq k) hk r x)
    · unfold vk
      rw [ofNat_tile hn8]
      exact rows_at X4 _ (k0_off9_eq k _) hn8 c x

/-- The running arrays of the second head after the diagonal tile. -/
theorem fin4_good (k : Fin k0_t4_loop.trips) (hk : k.val < 8) : Good (σk X2 X3 1 ⟨k.val, hk⟩) (vk X4) (k.val + 1) (fin4 (F := Ideal) rowI colI X2 X3 X4 k) := by
  unfold fin4
  rw [trips5]
  refine stepD_good (run5_good X2 X3 X4 k hk _ le_rfl) (diag_score hk (fun c x => ?_) (fun r x => ?_) rfl) (fun x c => ?_)
  · exact wide_at X3 _ 1 (k0_off7_eq k) hk c x
  · exact wide_at X2 _ 1 (k0_off7_eq k) hk r x
  · unfold vk
    rw [ofNat_tile hk]
    exact rows_at X4 _ (k0_off12_eq k) hk c x

/-- The block at row `t` and lane `x`: the head is the half of the lanes `x` lies in. -/
theorem blk_at (t : Fin 4096) (x : Fin 128) : blk (F := Ideal) rowI colI X2 X3 X4 (ix3 0 t x)
    = soft (ks X2 X3 ⟨x.val / 64, by omega⟩ t) fun s => X4 (ix3 0 s x) := by
  have hl : loc (ix3 0 t x) = ix3 0 (⟨t.val % 512, by omega⟩ : Fin 512) x := by
    funext a
    revert a
    refine Fin.forall_fin_succ.2 ⟨?_, Fin.forall_fin_succ.2 ⟨rfl, Fin.forall_fin_succ.2 ⟨?_, fun a => a.elim0⟩⟩⟩
    · exact Fin.ext rfl
    · exact Fin.ext (Nat.mod_eq_of_lt x.isLt)
  have h8 : t.val / 512 < 8 := by omega
  have ht : (⟨512 * (t.val / 512) + t.val % 512, by omega⟩ : Fin 4096) = t := Fin.ext (by show 512 * (t.val / 512) + t.val % 512 = t.val; omega)
  unfold blk
  rw [hl, pay2_at, pay1_at]
  by_cases h : x.val < 64
  · obtain ⟨-, hL, hA⟩ := fin1_good X2 X3 X4 (tl1 (ix3 0 t x)) h8 ⟨t.val % 512, by omega⟩ x
    rw [if_pos h, hL, hA]
    refine (all_tiles X2 X3 X4 0 ⟨t.val / 512, h8⟩ ⟨t.val % 512, by omega⟩ x).trans ?_
    rw [ht, show (⟨x.val / 64, by omega⟩ : Fin 2) = 0 from Fin.ext (by show x.val / 64 = 0; omega)]
  · obtain ⟨-, hL, hA⟩ := fin4_good X2 X3 X4 (tl4 (ix3 0 t x)) h8 ⟨t.val % 512, by omega⟩ x
    rw [if_neg h, hL, hA]
    refine (all_tiles X2 X3 X4 1 ⟨t.val / 512, h8⟩ ⟨t.val % 512, by omega⟩ x).trans ?_
    rw [ht, show (⟨x.val / 64, by omega⟩ : Fin 2) = 1 from Fin.ext (by show x.val / 64 = 1; omega)]

end Cert.Proof.KernelMlaIdeal
end
end
-- ==== Proof.MValue.lean ====
/-
  The latent attention's result array as a function of its arguments.
-/
module

public import proofs.«01_k».proof.Proof.MRun
public import proofs.«01_k».proof.Proof.MBlock
public import Idealize.ShloMosaic.Lib.Pipeline.ValueKit

@[expose] public section

set_option maxRecDepth 16384

noncomputable section

namespace Cert.Proof.KernelMlaIdeal

open Cert.KernelMlaIdeal Cert.KernelMlaIdeal.Gen
open Idealize.ShloMosaic Idealize.ShloMosaic.TcCoe Idealize.SL.Sem
open Idealize.ShloMosaic.Pipeline (Dat)
open Cert.Proof.Online

variable (m : (ℓ : Loc nD τ sig) → Buf (Elt Ideal) ℓ)

/-- The windows' places: batch `t / 4`, pair of heads `t % 4`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem lt32 : ∀ t : Fin cfg0.N, t.val < 32 := (by decide +kernel : ∀ t : Fin grid0.N, t.val < 32)

/-- The score in head `h` of batch `b`, over the whole arguments. -/
def msc (Q K : FVec Ideal S8x4096x1024 .bf16) (b h : Fin 8) (t s : Fin 4096) : EReal :=
  if s.val ≤ t.val then ∑ x : Fin 128, Q (ix3 b t ⟨h.val * 128 + x.val, by omega⟩) * K (ix3 b s ⟨h.val * 128 + x.val, by omega⟩) else ⊥

/-- The result, a function of the arguments. -/
def MV (Q K : FVec Ideal S8x4096x1024 .bf16) (W : FVec Ideal S8x4096x512 .bf16) : FVec Ideal S8x4096x512 .bf16 := fun i =>
  soft (msc Q K (i 0) ⟨(i 2).val / 64, Nat.div_lt_of_lt_mul (i 2).isLt⟩ (i 1)) fun s => W (ix3 (i 0) s (i 2 : Fin 512))

theorem blk0 (c : Dev nD) (t : Fin cfg0.N) (s : Fin 4096) (x : Fin 256) : (iblk m c 0 t : FVec Ideal S1x4096x256 .bf16) (ix3 0 s x)
    = (m ((c.tc : Thread nD τ).loc main_arg0) : FVec Ideal S8x4096x1024 .bf16) (ix3 ⟨t.val / 4, by have := lt32 t; omega⟩ s ⟨256 * (t.val % 4) + x.val, by omega⟩) := by
  blk_ext [iblk, V, idx t]

theorem blk1 (c : Dev nD) (t : Fin cfg0.N) (s : Fin 4096) (x : Fin 256) : (iblk m c 1 t : FVec Ideal S1x4096x256 .bf16) (ix3 0 s x)
    = (m ((c.tc : Thread nD τ).loc main_arg1) : FVec Ideal S8x4096x1024 .bf16) (ix3 ⟨t.val / 4, by have := lt32 t; omega⟩ s ⟨256 * (t.val % 4) + x.val, by omega⟩) := by
  blk_ext [iblk, V, idx t]

theorem blk2 (c : Dev nD) (t : Fin cfg0.N) (s : Fin 4096) (x : Fin 128) : (iblk m c 2 t : FVec Ideal S1x4096x128 .bf16) (ix3 0 s x)
    = (m ((c.tc : Thread nD τ).loc main_arg2) : FVec Ideal S8x4096x512 .bf16) (ix3 ⟨t.val / 4, by have := lt32 t; omega⟩ s ⟨128 * (t.val % 4) + x.val, by omega⟩) := by
  blk_ext [iblk, V, idx t]

/-- The body's block at a place is the result there. -/
theorem point (c : Dev nD) (t : Fin cfg0.N) (y : S1x4096x128.Idx) : outB m c t y
    = MV (m ((c.tc : Thread nD τ).loc main_arg0)) (m ((c.tc : Thread nD τ).loc main_arg1)) (m ((c.tc : Thread nD τ).loc main_arg2))
      (ix3 ⟨t.val / 4, by have := lt32 t; omega⟩ (y 1 : Fin 4096) ⟨128 * (t.val % 4) + (y 2).val, by have : (y 2).val < 128 := (y 2).isLt; omega⟩) := by
  idx_vars y
  unfold outB
  rw [show y0 = 0 from Subsingleton.elim _ _]
  refine (blk_at (iblk m c 0 t) (iblk m c 1 t) (iblk m c 2 t) y1 y2).trans ?_
  unfold MV
  refine congrArg₂ soft (funext fun s => ?_) (funext fun s => blk2 m c t s y2)
  show ks _ _ _ _ _ = msc _ _ ⟨t.val / 4, _⟩ ⟨(128 * (t.val % 4) + y2.val) / 64, _⟩ y1 s
  unfold ks msc
  refine if_congr Iff.rfl (Finset.sum_congr rfl fun x _ => ?_) rfl
  rw [blk0, blk1]
  refine Ideal.mul_congr (congrArg _ (congrArg (ix3 _ y1) (Fin.ext ?_))) (congrArg _ (congrArg (ix3 _ s) (Fin.ext ?_)))
  · show 256 * (t.val % 4) + (128 * (y2.val / 64) + x.val) = (128 * (t.val % 4) + y2.val) / 64 * 128 + x.val
    omega
  · show 256 * (t.val % 4) + (128 * (y2.val / 64) + x.val) = (128 * (t.val % 4) + y2.val) / 64 * 128 + x.val
    omega

/-- The result array after the run. -/
theorem final (c : Dev nD) : (dats m 0 c).arrAt 3 (cfgs 0).N
    = MV (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  refine (point m c t y).trans ?_
  blk_ext [idx t]

end Cert.Proof.KernelMlaIdeal
end
end
-- ==== Proof.MRef.lean ====
/-
  The latent attention's reference, its term taken apart and read at an index.
-/
module

public import proofs.«01_k».proof.Proof.Gen.ReferenceMlaIdeal
public import proofs.«01_k».proof.Proof.Softmax
public import Idealize.ShloMosaic.Lib.Pointwise
public import Idealize.ShloMosaic.Lib.WordCmp

@[expose] public section

set_option maxRecDepth 16384

noncomputable section

namespace Cert.Proof.ReferenceMlaIdeal

open Cert.ReferenceMlaIdeal Cert.ReferenceMlaIdeal.Gen
open Idealize.ShloMosaic Idealize.ShloMosaic.TcCoe
open Cert.Proof.Online

variable (Q K : FVec Ideal S8x4096x1024 .bf16) (W : FVec Ideal S8x4096x512 .bf16)

/-- The scores: query times key. -/
def score : FVec Ideal S8x8x4096x4096 .f32 :=
  Host.dotGeneral dot_S8x4096x8x128_S8x4096x8x128_S8x8x4096x4096_3_3_1_1_02_02 none
    (extf .f32 (shapeCast S8x4096x8x128 Q shapeCasts_S8x4096x1024_S8x4096x8x128) bitsLt_bf16_f32)
    (extf .f32 (shapeCast S8x4096x8x128 K shapeCasts_S8x4096x1024_S8x4096x8x128) bitsLt_bf16_f32)

/-- The mask: a key at or before the query. -/
def mask : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked scores. -/
def masked : FVec Ideal S8x8x4096x4096 .f32 :=
  select (broadcastInDim S8x8x4096x4096 ![2, 3] bcast_S4096x4096_S8x8x4096x4096_2_3 mask) (score Q K)
    (broadcastInDim S8x8x4096x4096 ![] bcast_S_S8x8x4096x4096 (constant S_ .f32 0xFF800000#32))

/-- The greatest score of a row. -/
def top : FVec Ideal S8x8x4096 .f32 :=
  maximumf (broadcastInDim S8x8x4096 ![] bcast_S_S8x8x4096 (constant S_ .f32 0xFF800000#32))
    (Host.reduce FloatOps.maximumf (masked Q K) (constant S_ .f32 0xFF800000#32) reducesTo_S8x8x4096x4096_S8x8x4096_d3 h_S_)

/-- The exponentials of the scores less the greatest. -/
def expo : FVec Ideal S8x8x4096x4096 .f32 :=
  Host.exp (subf (masked Q K) (broadcastInDim S8x8x4096x4096 ![0, 1, 2, 3] bcast_S8x8x4096x1_S8x8x4096x4096_0_1_2_3 (broadcastInDim S8x8x4096x1 ![0, 1, 2] bcast_S8x8x4096_S8x8x4096x1_0_1_2 (top Q K))))

/-- Their sums along a row. -/
def den : FVec Ideal S8x8x4096 .f32 :=
  Host.reduceAdd (expo Q K) (constant S_ .f32 0x00000000#32) reducesTo_S8x8x4096x4096_S8x8x4096_d3 h_S_

/-- The reference's result. -/
def REF : FVec Ideal S8x4096x512 .bf16 :=
  truncf .bf16 (shapeCast S8x4096x512 (transpose S8x4096x8x64 [0, 3, 1, 2]
    (Host.dotGeneral dot_S8x4096x8x64_S8x8x4096x4096_S8x8x64x4096_1_3_3_2_02_01 none
      (extf .f32 (shapeCast S8x4096x8x64 W shapeCasts_S8x4096x512_S8x4096x8x64) bitsLt_bf16_f32)
      (Host.divf (expo Q K) (broadcastInDim S8x8x4096x4096 ![0, 1, 2, 3] bcast_S8x8x4096x1_S8x8x4096x4096_0_1_2_3 (broadcastInDim S8x8x4096x1 ![0, 1, 2] bcast_S8x8x4096_S8x8x4096x1_0_1_2 (den Q K)))))
    transposes_S8x8x64x4096_S8x4096x8x64_0_3_1_2) shapeCasts_S8x4096x8x64_S8x4096x512) bitsLt_bf16_f32

variable (b h : Fin 8) (t s : Fin 4096)

/-- The score of a query against a key: minus infinity past the query. -/
def rs : EReal :=
  if s.val ≤ t.val then ∑ x : Fin 128, Q (ix3 b t ⟨h.val * 128 + x.val, by omega⟩) * K (ix3 b s ⟨h.val * 128 + x.val, by omega⟩) else ⊥

theorem masked_at : masked Q K (ix4 b h t s) = rs Q K b h t s := by
  unfold rs
  pointwise [masked, mask, score]
  rw [pattern_bot]
  word_cmp

theorem top_at : top Q K (ix3 b h t) = Finset.univ.sup (rs Q K b h t) := by
  unfold top
  rw [show ∀ u w : FVec Ideal S8x8x4096 .f32, maximumf u w (ix3 b h t) = max (u (ix3 b h t)) (w (ix3 b h t)) from fun _ _ => rfl]
  rw [max_last (n0 := 8) (n1 := 8) (n2 := 4096) (n3 := 4096)]
  pointwise []
  rw [pattern_bot, fold_bot, max_bot_left]
  exact Finset.sup_congr rfl fun s _ => masked_at Q K b h t s

theorem expo_at : expo Q K (ix4 b h t s) = Ideal.exp (rs Q K b h t s - Finset.univ.sup (rs Q K b h t)) := by
  pointwise [expo]
  rw [masked_at, top_at]

theorem den_at : den Q K (ix3 b h t) = ∑ s, Ideal.exp (rs Q K b h t s - Finset.univ.sup (rs Q K b h t)) := by
  pointwise [den]
  exact Finset.sum_congr rfl fun s _ => expo_at Q K b h t s

/-- The result at a batch, a position and a lane. -/
theorem REF_at (x : Fin 512) : REF Q K W (ix3 b t x)
    = ∑ s : Fin 4096, W (ix3 b s x) * Ideal.div (Ideal.exp (rs Q K b ⟨x.val / 64, by omega⟩ t s - Finset.univ.sup (rs Q K b ⟨x.val / 64, by omega⟩ t)))
      (∑ s, Ideal.exp (rs Q K b ⟨x.val / 64, by omega⟩ t s - Finset.univ.sup (rs Q K b ⟨x.val / 64, by omega⟩ t))) := by
  pointwise [REF]
  refine Finset.sum_congr rfl fun s _ => ?_
  rw [expo_at, den_at]

end Cert.Proof.ReferenceMlaIdeal
end
end
-- ==== Proof.MEqual.lean ====
/-
  The latent attention's function of its arguments is the reference's, where the queries and the keys are finite.
-/
module

public import proofs.«01_k».proof.Proof.Equal
public import proofs.«01_k».proof.Proof.MValue
public import proofs.«01_k».proof.Proof.MRef

@[expose] public section

set_option maxRecDepth 16384

noncomputable section

namespace Cert.Proof.Mla

open Idealize.ShloMosaic Idealize.ShloMosaic.TcCoe
open Cert.Proof.Online Cert.Proof.KernelMlaIdeal Cert.Proof.ReferenceMlaIdeal

/-- The shape facts of the precondition. -/
theorem preFacts : Cert.Pre_finite_latent.Facts := by constructor <;> decide

open Cert.KernelMlaIdeal

variable {Q K : FVec Ideal S8x4096x1024 .bf16} {W : FVec Ideal S8x4096x512 .bf16}

theorem pre_Q (h : (@Cert.Pre_finite_latent.fn preFacts Idealize.ShloMosaic.Ideal _ Q K W).1 = fun _ => 1#1) (b : Fin 8) (t : Fin 4096) (x : Fin 1024) : ∃ r : ℝ, Q (ix3 b t x) = r := by
  have h' := congrFun h (ix3 b t x)
  pointwise [Cert.Pre_finite_latent.fn] at h'
  exact real_of_abs _ _ rfl h'

theorem pre_K (h : (@Cert.Pre_finite_latent.fn preFacts Idealize.ShloMosaic.Ideal _ Q K W).2 = fun _ => 1#1) (b : Fin 8) (t : Fin 4096) (x : Fin 1024) : ∃ r : ℝ, K (ix3 b t x) = r := by
  have h' := congrFun h (ix3 b t x)
  pointwise [Cert.Pre_finite_latent.fn] at h'
  exact real_of_abs _ _ rfl h'

variable (hQ : ∀ b t (x : Fin 1024), ∃ r : ℝ, Q (ix3 b t x) = r) (hK : ∀ b t (x : Fin 1024), ∃ r : ℝ, K (ix3 b t x) = r)

include hQ hK in
theorem rs_real (b h : Fin 8) (t s : Fin 4096) (hs : s.val ≤ t.val) : ∃ r : ℝ, rs Q K b h t s = r := by
  choose f hf using hQ
  choose g hg using hK
  refine ⟨∑ x : Fin 128, f b t ⟨h.val * 128 + x.val, by omega⟩ * g b s ⟨h.val * 128 + x.val, by omega⟩, ?_⟩
  unfold rs
  rw [if_pos hs]
  refine Eq.trans (Finset.sum_congr rfl fun x _ => ?_) (map_sum (⟨⟨fun x : ℝ => (x : EReal), rfl⟩, EReal.coe_add⟩ : ℝ →+ EReal) _ Finset.univ).symm
  show _ = ((_ * _ : ℝ) : EReal)
  rw [EReal.coe_mul, ← hf, ← hg]

include hQ hK in
/-- The two functions are the same. -/
theorem MV_eq_REF : MV Q K W = REF Q K W := by
  funext i
  idx_vars i
  refine Eq.trans ?_ (REF_at Q K W i0 i1 i2).symm
  exact soft_eq _ _ (fun s => W (ix3 i0 s i2)) 0 i1
    (fun s => (le_or_gt s.val i1.val).elim (fun h => Or.inr (rs_real hQ hK _ _ _ _ h)) (fun h => Or.inl (if_neg (by omega))))
    (rs_real hQ hK _ _ _ _ le_rfl) (fun s => by rw [EReal.coe_zero, add_zero]; rfl)

end Cert.Proof.Mla
end
end
-- ==== Proof.ProjRef.lean ====
/-
  The input projections' reference term by term: the norm, its projection, the two latent norms, the up-projections,
  the rotary angles, and the six arrays it returns.
-/
module

public import proofs.«01_k».proof.Proof.Gen.ReferenceProjIdeal
public import Idealize.ShloMosaic.Lib.Pipeline.ValueKit
public import Idealize.ShloMosaic.Lib.Claim

@[expose] public section

set_option maxRecDepth 16384

noncomputable section

namespace Cert.Proof.ReferenceProj

open Cert.ReferenceProjIdeal Cert.ReferenceProjIdeal.Gen
open Idealize.ShloMosaic Idealize.ShloMosaic.TcCoe

variable (X : FVec Ideal S8x4096x1024 .f32) (POS : IVec S8x4096 32) (GI : FVec Ideal S1x1024 .f32) (WI : FVec Ideal S1024x2208 .f32) (GQ : FVec Ideal S1x256 .f32) (WQ : FVec Ideal S256x768 .f32) (GK : FVec Ideal S1x128 .f32) (WK : FVec Ideal S128x1024 .f32)

/-- The norm of the input, scaled by the gain. -/
def hR : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![1, 2] bcast_S1x1024_S1x1x1024_1_2 GI))

/-- Its projection. -/
def zR : FVec Ideal S8x4096x2208 .f32 :=
  Host.dotGeneral dot_S8x4096x1024_S1024x2208_S8x4096x2208_2_0_01_1_n_n none (hR X GI) WI

/-- The norm of the latent query. -/
def cqR : FVec Ideal S8x4096x256 .f32 :=
  mulf (mulf (extractStridedSlice S8x4096x256 ![0, 0, 0] (zR X GI WI) slices_S8x4096x2208_S8x4096x256_0_0_0) (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf (extractStridedSlice S8x4096x256 ![0, 0, 0] (zR X GI WI) slices_S8x4096x2208_S8x4096x256_0_0_0) (extractStridedSlice S8x4096x256 ![0, 0, 0] (zR X GI WI) slices_S8x4096x2208_S8x4096x256_0_0_0)) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![1, 2] bcast_S1x256_S1x1x256_1_2 GQ))

/-- The norm of the latent key. -/
def ckR : FVec Ideal S8x4096x128 .f32 :=
  mulf (mulf (extractStridedSlice S8x4096x128 ![0, 0, 256] (zR X GI WI) slices_S8x4096x2208_S8x4096x128_0_0_256) (broadcastInDim S8x4096x128 ![0, 1, 2] bcast_S8x4096x1_S8x4096x128_0_1_2 (Host.rsqrt (addf (Host.divf (broadcastInDim S8x4096x1 ![0, 1] bcast_S8x4096_S8x4096x1_0_1 (Host.reduceAdd (mulf (extractStridedSlice S8x4096x128 ![0, 0, 256] (zR X GI WI) slices_S8x4096x2208_S8x4096x128_0_0_256) (extractStridedSlice S8x4096x128 ![0, 0, 256] (zR X GI WI) slices_S8x4096x2208_S8x4096x128_0_0_256)) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x358637BD#32)))))) (broadcastInDim S8x4096x128 ![0, 1, 2] bcast_S1x1x128_S8x4096x128_0_1_2 (broadcastInDim S1x1x128 ![1, 2] bcast_S1x128_S1x1x128_1_2 GK))

/-- The queries. -/
def qR : FVec Ideal S8x4096x768 .f32 :=
  Host.dotGeneral dot_S8x4096x256_S256x768_S8x4096x768_2_0_01_1_n_n none (cqR X GI WI GQ) WQ

/-- The keys and the values. -/
def kvR : FVec Ideal S8x4096x1024 .f32 :=
  Host.dotGeneral dot_S8x4096x128_S128x1024_S8x4096x1024_2_0_01_1_n_n none (ckR X GI WI GK) WK

/-- The rotary angles. -/
def angR : FVec Ideal S8x4096x16 .f32 :=
  mulf (broadcastInDim S8x4096x16 ![0, 1, 2] bcast_S8x4096x1_S8x4096x16_0_1_2 (broadcastInDim S8x4096x1 ![0, 1] bcast_S8x4096_S8x4096x1_0_1 (sitofp .f32 POS))) (broadcastInDim S8x4096x16 ![0, 1, 2] bcast_S1x1x16_S8x4096x16_0_1_2 (broadcastInDim S1x1x16 ![2] bcast_S16_S1x1x16_2 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))

/-- The first array: the queries, their last lanes rotated, in lanes of a hundred and twenty-eight. -/
def qmR : FVec Ideal S8x4096x1024 .bf16 :=
  truncf .bf16 (shapeCast _ (pad S8x4096x8x128 ![0, 0, 0, 0] ![0, 0, 0, 32] ![0, 0, 0, 0] (mulf (concatenate S8x4096x8x96 3 [⟨S8x4096x8x64, (extractStridedSlice S8x4096x8x64 ![0, 0, 0, 0] (shapeCast _ (qR X GI WI GQ WQ) shapeCasts_S8x4096x768_S8x4096x8x96) slices_S8x4096x8x96_S8x4096x8x64_0_0_0_0)⟩, ⟨S8x4096x8x32, (concatenate S8x4096x8x32 3 [⟨S8x4096x8x16, (subf (mulf (extractStridedSlice S8x4096x8x16 ![0, 0, 0, 0] (extractStridedSlice S8x4096x8x32 ![0, 0, 0, 64] (shapeCast _ (qR X GI WI GQ WQ) shapeCasts_S8x4096x768_S8x4096x8x96) slices_S8x4096x8x96_S8x4096x8x32_0_0_0_64) slices_S8x4096x8x32_S8x4096x8x16_0_0_0_0) (broadcastInDim S8x4096x8x16 ![0, 1, 2, 3] bcast_S8x4096x1x16_S8x4096x8x16_0_1_2_3 (Host.cos (broadcastInDim S8x4096x1x16 ![0, 1, 3] bcast_S8x4096x16_S8x4096x1x16_0_1_3 (angR POS))))) (mulf (extractStridedSlice S8x4096x8x16 ![0, 0, 0, 16] (extractStridedSlice S8x4096x8x32 ![0, 0, 0, 64] (shapeCast _ (qR X GI WI GQ WQ) shapeCasts_S8x4096x768_S8x4096x8x96) slices_S8x4096x8x96_S8x4096x8x32_0_0_0_64) slices_S8x4096x8x32_S8x4096x8x16_0_0_0_16) (broadcastInDim S8x4096x8x16 ![0, 1, 2, 3] bcast_S8x4096x1x16_S8x4096x8x16_0_1_2_3 (Host.sin (broadcastInDim S8x4096x1x16 ![0, 1, 3] bcast_S8x4096x16_S8x4096x1x16_0_1_3 (angR POS))))))⟩, ⟨S8x4096x8x16, (addf (mulf (extractStridedSlice S8x4096x8x16 ![0, 0, 0, 16] (extractStridedSlice S8x4096x8x32 ![0, 0, 0, 64] (shapeCast _ (qR X GI WI GQ WQ) shapeCasts_S8x4096x768_S8x4096x8x96) slices_S8x4096x8x96_S8x4096x8x32_0_0_0_64) slices_S8x4096x8x32_S8x4096x8x16_0_0_0_16) (broadcastInDim S8x4096x8x16 ![0, 1, 2, 3] bcast_S8x4096x1x16_S8x4096x8x16_0_1_2_3 (Host.cos (broadcastInDim S8x4096x1x16 ![0, 1, 3] bcast_S8x4096x16_S8x4096x1x16_0_1_3 (angR POS))))) (mulf (extractStridedSlice S8x4096x8x16 ![0, 0, 0, 0] (extractStridedSlice S8x4096x8x32 ![0, 0, 0, 64] (shapeCast _ (qR X GI WI GQ WQ) shapeCasts_S8x4096x768_S8x4096x8x96) slices_S8x4096x8x96_S8x4096x8x32_0_0_0_64) slices_S8x4096x8x32_S8x4096x8x16_0_0_0_0) (broadcastInDim S8x4096x8x16 ![0, 1, 2, 3] bcast_S8x4096x1x16_S8x4096x8x16_0_1_2_3 (Host.sin (broadcastInDim S8x4096x1x16 ![0, 1, 3] bcast_S8x4096x16_S8x4096x1x16_0_1_3 (angR POS))))))⟩] concatenates_S8x4096x8x16_S8x4096x8x16_S8x4096x8x32_d3)⟩] concatenates_S8x4096x8x64_S8x4096x8x32_S8x4096x8x96_d3) (broadcastInDim S8x4096x8x96 ![] bcast_S_S8x4096x8x96 (constant S_ .f32 0x3DD105EC#32))) (sitofp .f32 (constantI S_ 32 0#32)) pads_S8x4096x8x96_S8x4096x8x128_000_000_000_0320 h_S_) shapeCasts_S8x4096x8x128_S8x4096x1024) bitsLt_bf16_f32

/-- The second: the keys. -/
def kmR : FVec Ideal S8x4096x1024 .bf16 :=
  truncf .bf16 (shapeCast _ (pad S8x4096x8x128 ![0, 0, 0, 0] ![0, 0, 0, 32] ![0, 0, 0, 0] (concatenate S8x4096x8x96 3 [⟨S8x4096x8x64, (extractStridedSlice S8x4096x8x64 ![0, 0, 0, 0] (shapeCast _ (kvR X GI WI GK WK) shapeCasts_S8x4096x1024_S8x4096x8x128) slices_S8x4096x8x128_S8x4096x8x64_0_0_0_0)⟩, ⟨S8x4096x8x32, (broadcastInDim S8x4096x8x32 ![0, 1, 2, 3] bcast_S8x4096x1x32_S8x4096x8x32_0_1_2_3 (broadcastInDim S8x4096x1x32 ![0, 1, 3] bcast_S8x4096x32_S8x4096x1x32_0_1_3 (concatenate S8x4096x32 2 [⟨S8x4096x16, (subf (mulf (extractStridedSlice S8x4096x16 ![0, 0, 0] (extractStridedSlice S8x4096x32 ![0, 0, 384] (zR X GI WI) slices_S8x4096x2208_S8x4096x32_0_0_384) slices_S8x4096x32_S8x4096x16_0_0_0) (Host.cos (angR POS))) (mulf (extractStridedSlice S8x4096x16 ![0, 0, 16] (extractStridedSlice S8x4096x32 ![0, 0, 384] (zR X GI WI) slices_S8x4096x2208_S8x4096x32_0_0_384) slices_S8x4096x32_S8x4096x16_0_0_16) (Host.sin (angR POS))))⟩, ⟨S8x4096x16, (addf (mulf (extractStridedSlice S8x4096x16 ![0, 0, 16] (extractStridedSlice S8x4096x32 ![0, 0, 384] (zR X GI WI) slices_S8x4096x2208_S8x4096x32_0_0_384) slices_S8x4096x32_S8x4096x16_0_0_16) (Host.cos (angR POS))) (mulf (extractStridedSlice S8x4096x16 ![0, 0, 0] (extractStridedSlice S8x4096x32 ![0, 0, 384] (zR X GI WI) slices_S8x4096x2208_S8x4096x32_0_0_384) slices_S8x4096x32_S8x4096x16_0_0_0) (Host.sin (angR POS))))⟩] concatenates_S8x4096x16_S8x4096x16_S8x4096x32_d2)))⟩] concatenates_S8x4096x8x64_S8x4096x8x32_S8x4096x8x96_d3) (sitofp .f32 (constantI S_ 32 0#32)) pads_S8x4096x8x96_S8x4096x8x128_000_000_000_0320 h_S_) shapeCasts_S8x4096x8x128_S8x4096x1024) bitsLt_bf16_f32

/-- The third: the values. -/
def vmR : FVec Ideal S8x4096x512 .bf16 :=
  truncf .bf16 (shapeCast _ (extractStridedSlice S8x4096x8x64 ![0, 0, 0, 64] (shapeCast _ (kvR X GI WI GK WK) shapeCasts_S8x4096x1024_S8x4096x8x128) slices_S8x4096x8x128_S8x4096x8x64_0_0_0_64) shapeCasts_S8x4096x8x64_S8x4096x512) bitsLt_bf16_f32

/-- The fourth: the windowed queries. -/
def qsR : FVec Ideal S8x4096x512 .bf16 :=
  truncf .bf16 (mulf (extractStridedSlice S8x4096x512 ![0, 0, 416] (zR X GI WI) slices_S8x4096x2208_S8x4096x512_0_0_416) (broadcastInDim S8x4096x512 ![] bcast_S_S8x4096x512 (constant S_ .f32 0x3E000000#32))) bitsLt_bf16_f32

/-- The fifth: the windowed keys and values, every head twice. -/
def kvsR : FVec Ideal S8x4096x512 .bf16 :=
  truncf .bf16 (concatenate S8x4096x512 2 [⟨S8x4096x256, (shapeCast _ (shapeCast _ (broadcastInDim S8x4096x2x1x2x64 ![0, 1, 2, 3, 5] bcast_S8x4096x2x1x64_S8x4096x2x1x2x64_0_1_2_3_5 (shapeCast _ (extractStridedSlice S8x4096x128 ![0, 0, 928] (zR X GI WI) slices_S8x4096x2208_S8x4096x128_0_0_928) shapeCasts_S8x4096x128_S8x4096x2x1x64)) shapeCasts_S8x4096x2x1x2x64_S8x4096x2x2x64) shapeCasts_S8x4096x2x2x64_S8x4096x256)⟩, ⟨S8x4096x256, (shapeCast _ (shapeCast _ (broadcastInDim S8x4096x2x1x2x64 ![0, 1, 2, 3, 5] bcast_S8x4096x2x1x64_S8x4096x2x1x2x64_0_1_2_3_5 (shapeCast _ (extractStridedSlice S8x4096x128 ![0, 0, 1056] (zR X GI WI) slices_S8x4096x2208_S8x4096x128_0_0_1056) shapeCasts_S8x4096x128_S8x4096x2x1x64)) shapeCasts_S8x4096x2x1x2x64_S8x4096x2x2x64) shapeCasts_S8x4096x2x2x64_S8x4096x256)⟩] concatenates_S8x4096x256_S8x4096x256_S8x4096x512_d2) bitsLt_bf16_f32

/-- The sixth: the gate. -/
def gateR : FVec Ideal S8x4096x1024 .bf16 :=
  truncf .bf16 (extractStridedSlice S8x4096x1024 ![0, 0, 1184] (zR X GI WI) slices_S8x4096x2208_S8x4096x1024_0_0_1184) bitsLt_bf16_f32

end Cert.Proof.ReferenceProj
end
end
-- ==== Proof.ProjHost.lean ====
/-
  The arrays the host prepares for the first layer's input projections, each read at an entry: the columns of the
  weight matrices that an entry holds, or zero.
-/
module

public import proofs.«01_k».proof.Proof.Gen.KernelProjIdeal.Frame
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem

variable (m : (ℓ : Loc nD τ sig) → Buf (Elt Ideal) ℓ)

/-- The word zero, made a float, is zero. -/
theorem zero_word : (FloatOps.sitofp (F := Ideal) FTy.f32 (0#32 : BitVec 32) : EReal) = 0 := by
  simp [FloatOps.sitofp]

/-- The input projection's weights. -/
abbrev w3 (c : Dev nD) : FVec Ideal S1024x2208 .f32 := m ((c : Thread nD τ).loc main_arg3)

/-- The queries' up-projection's weights. -/
abbrev w5 (c : Dev nD) : FVec Ideal S256x768 .f32 := m ((c : Thread nD τ).loc main_arg5)

/-- The keys' and values' up-projection's weights. -/
abbrev w7 (c : Dev nD) : FVec Ideal S128x1024 .f32 := m ((c : Thread nD τ).loc main_arg7)

set_option maxHeartbeats 2000000 in
/-- The latent queries' up-projection, padded. -/
theorem wq_val (c : Dev nD) (a : Fin 256) (j : Fin 1024) (k : Fin 768) (h : (j : ℕ) % 128 < 96) (hk : (k : ℕ) = (j : ℕ) / 128 * 96 + (j : ℕ) % 128) : V m c main_v42 (ix2 a j : S256x1024.Idx) = (w5 m c) (ix2 a k) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  rw [dif_pos ⟨by omega, h⟩]
  exact congrArg (fun e => (w5 m c) (ix2 a e)) (Fin.ext (by dsimp only; omega))

set_option maxHeartbeats 2000000 in
/-- Its padding. -/
theorem wq_zero (c : Dev nD) (a : Fin 256) (j : Fin 1024) (h : ¬ (j : ℕ) % 128 < 96) : V m c main_v42 (ix2 a j : S256x1024.Idx) = (0 : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  rw [dif_neg fun q => h q.2]
  exact zero_word

set_option maxHeartbeats 2000000 in
/-- Its rotary lanes, the first half, exchanged. -/
theorem wqs_lo (c : Dev nD) (a : Fin 256) (j : Fin 1024) (k : Fin 768) (h : 64 ≤ (j : ℕ) % 128 ∧ (j : ℕ) % 128 < 80) (hk : (k : ℕ) = (j : ℕ) / 128 * 96 + (j : ℕ) % 128 + 16) : V m c main_v43 (ix2 a j : S256x1024.Idx) = (w5 m c) (ix2 a k) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  rw [dif_pos ⟨by omega, by omega, by omega⟩, dif_pos (by omega)]
  exact congrArg (fun e => (w5 m c) (ix2 a e)) (Fin.ext (by dsimp only; omega))

set_option maxHeartbeats 2000000 in
/-- Its rotary lanes, the second half, exchanged. -/
theorem wqs_hi (c : Dev nD) (a : Fin 256) (j : Fin 1024) (k : Fin 768) (h : 80 ≤ (j : ℕ) % 128 ∧ (j : ℕ) % 128 < 96) (hk : (k : ℕ) + 16 = (j : ℕ) / 128 * 96 + (j : ℕ) % 128) : V m c main_v43 (ix2 a j : S256x1024.Idx) = (w5 m c) (ix2 a k) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  rw [dif_pos ⟨by omega, by omega, by omega⟩, dif_neg (by omega)]
  exact congrArg (fun e => (w5 m c) (ix2 a e)) (Fin.ext (by dsimp only; omega))

set_option maxHeartbeats 2000000 in
/-- Its padding. -/
theorem wqs_zero (c : Dev nD) (a : Fin 256) (j : Fin 1024) (h : (j : ℕ) % 128 < 64 ∨ 96 ≤ (j : ℕ) % 128) : V m c main_v43 (ix2 a j : S256x1024.Idx) = (0 : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  rw [dif_neg (by omega)]
  exact zero_word

set_option maxHeartbeats 2000000 in
/-- The latent keys' up-projection, padded. -/
theorem wk_val (c : Dev nD) (a : Fin 128) (j : Fin 1024) (h : (j : ℕ) % 128 < 64) : V m c main_v44 (ix2 a j : S128x1024.Idx) = (w7 m c) (ix2 a j) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  rw [dif_pos ⟨by omega, h⟩]
  exact congrArg (fun e => (w7 m c) (ix2 a e)) (Fin.ext (by dsimp only; omega))

set_option maxHeartbeats 2000000 in
/-- Its padding. -/
theorem wk_zero (c : Dev nD) (a : Fin 128) (j : Fin 1024) (h : ¬ (j : ℕ) % 128 < 64) : V m c main_v44 (ix2 a j : S128x1024.Idx) = (0 : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  rw [dif_neg fun q => h q.2]
  exact zero_word

set_option maxHeartbeats 2000000 in
/-- The latent values' up-projection. -/
theorem wv_val (c : Dev nD) (a : Fin 128) (j : Fin 512) (k : Fin 1024) (hk : (k : ℕ) = (j : ℕ) / 64 * 128 + 64 + (j : ℕ) % 64) : V m c main_v45 (ix2 a j : S128x512.Idx) = (w7 m c) (ix2 a k) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  exact congrArg (fun e => (w7 m c) (ix2 a e)) (Fin.ext (by dsimp only; omega))

set_option maxHeartbeats 2000000 in
/-- The windowed queries' projection, scaled. -/
theorem ws_val (c : Dev nD) (a : Fin 1024) (j : Fin 512) (k : Fin 2208) (hk : (k : ℕ) = 416 + (j : ℕ)) : V m c main_v39 (ix2 a j : S1024x512.Idx) = ((w3 m c) (ix2 a k) : EReal) * Ideal.ofBits .f32 0x3E000000#32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  exact congrArg (fun e => ((w3 m c) (ix2 a e) : EReal) * Ideal.ofBits .f32 0x3E000000#32) (Fin.ext (by dsimp only; omega))

set_option maxHeartbeats 2000000 in
/-- The gate's projection. -/
theorem wg_val (c : Dev nD) (a : Fin 1024) (j : Fin 1024) (k : Fin 2208) (hk : (k : ℕ) = 1184 + (j : ℕ)) : V m c main_v41 (ix2 a j : S1024x1024.Idx) = (w3 m c) (ix2 a k) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise
  exact congrArg (fun e => (w3 m c) (ix2 a e)) (Fin.ext (by dsimp only; omega))

end Cert.Proof.KernelProj
end
end
-- ==== Proof.ProjCols.lean ====
/-
  The arrays the host prepares for the first layer's input projections, read at an entry, continued: those put together from
  several pieces.
-/
module

public import proofs.«01_k».proof.Proof.ProjHost
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem

variable (m : (ℓ : Loc nD τ sig) → Buf (Elt Ideal) ℓ)

/-- Two lines of operations, one after the other. -/
theorem after_app (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

set_option maxHeartbeats 2000000 in
/-- The down-projection from its four pieces. -/
theorem wa_of (U : Valuation τ sig (Elt Ideal)) :
    StableHlo.after (List.flatten [hostOps0_4, hostOps0_5, hostOps0_6, hostOps0_7, hostOps0_8, hostOps0_9, hostOps0_10]) U (Proc.devRef .tc main_v38)
      = (truncf .bf16 (concatenate S1024x640 1 [⟨S1024x256, (U (Proc.devRef .tc main_v0) : FVec Ideal S1024x256 .f32)⟩, ⟨S1024x128, (U (Proc.devRef .tc main_v1) : FVec Ideal S1024x128 .f32)⟩, ⟨S1024x128, (U (Proc.devRef .tc main_v10) : FVec Ideal S1024x128 .f32)⟩, ⟨S1024x128, (U (Proc.devRef .tc main_v11) : FVec Ideal S1024x128 .f32)⟩] concatenates_S1024x256_S1024x128_S1024x128_S1024x128_S1024x640_d1) bitsLt_bf16_f32 : FVec Ideal S1024x640 .bf16) := by
  simp only [hostOps0_4, hostOps0_5, hostOps0_6, hostOps0_7, hostOps0_8, hostOps0_9, hostOps0_10, List.flatten_cons, List.flatten_nil, List.append_nil, List.cons_append, List.nil_append, List.take_succ_cons, List.take_zero, List.drop_succ_cons, List.drop_zero]
  after_results_simp
  rfl

set_option maxHeartbeats 2000000 in
/-- The windowed keys' and values' projection from its eight pieces. -/
theorem wkv_of (U : Valuation τ sig (Elt Ideal)) :
    StableHlo.after (List.flatten [hostOps0_4.drop 9, hostOps0_5, hostOps0_6, hostOps0_7, hostOps0_8, hostOps0_9, hostOps0_10]) U (Proc.devRef .tc main_v40)
      = (truncf .bf16 (concatenate S1024x512 1 [⟨S1024x64, (U (Proc.devRef .tc main_v13) : FVec Ideal S1024x64 .f32)⟩, ⟨S1024x64, (U (Proc.devRef .tc main_v14) : FVec Ideal S1024x64 .f32)⟩, ⟨S1024x64, (U (Proc.devRef .tc main_v15) : FVec Ideal S1024x64 .f32)⟩, ⟨S1024x64, (U (Proc.devRef .tc main_v16) : FVec Ideal S1024x64 .f32)⟩, ⟨S1024x64, (U (Proc.devRef .tc main_v17) : FVec Ideal S1024x64 .f32)⟩, ⟨S1024x64, (U (Proc.devRef .tc main_v18) : FVec Ideal S1024x64 .f32)⟩, ⟨S1024x64, (U (Proc.devRef .tc main_v19) : FVec Ideal S1024x64 .f32)⟩, ⟨S1024x64, (U (Proc.devRef .tc main_v20) : FVec Ideal S1024x64 .f32)⟩] concatenates_S1024x64_S1024x64_S1024x64_S1024x64_S1024x64_S1024x64_S1024x64_S1024x64_S1024x512_d1) bitsLt_bf16_f32 : FVec Ideal S1024x512 .bf16) := by
  simp only [hostOps0_4, hostOps0_5, hostOps0_6, hostOps0_7, hostOps0_8, hostOps0_9, hostOps0_10, List.flatten_cons, List.flatten_nil, List.append_nil, List.cons_append, List.nil_append, List.take_succ_cons, List.take_zero, List.drop_succ_cons, List.drop_zero]
  after_results_simp
  rfl

set_option maxHeartbeats 2000000 in
/-- The down-projection's first columns. -/
theorem wa_lo (c : Dev nD) (a : Fin 1024) (j : Fin 640) (k : Fin 2208) (h : (j : ℕ) < 384) (hk : (k : ℕ) = j) : V m c main_v38 (ix2 a j : S1024x640.Idx) = w3 m c (ix2 a k) := by
  show StableHlo.after (List.flatten [hostOps0, hostOps0_1, hostOps0_2, hostOps0_3] ++ List.flatten [hostOps0_4, hostOps0_5, hostOps0_6, hostOps0_7, hostOps0_8, hostOps0_9, hostOps0_10]) _ (Proc.devRef .tc main_v38) _ = _
  rw [after_app, wa_of]
  simp only [hostOps0, hostOps0_1, hostOps0_2, hostOps0_3, List.flatten_cons, List.flatten_nil, List.append_nil, List.cons_append, List.nil_append]
  entry_read
  try simp only [Idealize.ShloMosaic.StableHlo.TRef.toBuf, Idealize.ShloMosaic.StableHlo.TRef.ofBuf, cast_eq]
  pointwise
  repeat' split
  all_goals first
    | exact congrArg (fun e => w3 m c (ix2 a e)) (Fin.ext (by dsimp only; omega))
    | (exfalso; omega)

set_option maxHeartbeats 2000000 in
/-- Its rotary columns. -/
theorem wa_cos (c : Dev nD) (a : Fin 1024) (j : Fin 640) (k : Fin 2208) (h : 448 ≤ (j : ℕ) ∧ (j : ℕ) < 480) (hk : (k : ℕ) + 64 = j) : V m c main_v38 (ix2 a j : S1024x640.Idx) = w3 m c (ix2 a k) := by
  show StableHlo.after (List.flatten [hostOps0, hostOps0_1, hostOps0_2, hostOps0_3] ++ List.flatten [hostOps0_4, hostOps0_5, hostOps0_6, hostOps0_7, hostOps0_8, hostOps0_9, hostOps0_10]) _ (Proc.devRef .tc main_v38) _ = _
  rw [after_app, wa_of]
  simp only [hostOps0, hostOps0_1, hostOps0_2, hostOps0_3, List.flatten_cons, List.flatten_nil, List.append_nil, List.cons_append, List.nil_append]
  entry_read
  try simp only [Idealize.ShloMosaic.StableHlo.TRef.toBuf, Idealize.ShloMosaic.StableHlo.TRef.ofBuf, cast_eq]
  pointwise
  repeat' split
  all_goals first
    | exact congrArg (fun e => w3 m c (ix2 a e)) (Fin.ext (by dsimp only; omega))
    | (exfalso; omega)

set_option maxHeartbeats 2000000 in
/-- Its rotary columns exchanged, the first half. -/
theorem wa_sin_lo (c : Dev nD) (a : Fin 1024) (j : Fin 640) (k : Fin 2208) (h : 576 ≤ (j : ℕ) ∧ (j : ℕ) < 592) (hk : (k : ℕ) + 176 = j) : V m c main_v38 (ix2 a j : S1024x640.Idx) = w3 m c (ix2 a k) := by
  show StableHlo.after (List.flatten [hostOps0, hostOps0_1, hostOps0_2, hostOps0_3] ++ List.flatten [hostOps0_4, hostOps0_5, hostOps0_6, hostOps0_7, hostOps0_8, hostOps0_9, hostOps0_10]) _ (Proc.devRef .tc main_v38) _ = _
  rw [after_app, wa_of]
  simp only [hostOps0, hostOps0_1, hostOps0_2, hostOps0_3, List.flatten_cons, List.flatten_nil, List.append_nil, List.cons_append, List.nil_append]
  entry_read
  try simp only [Idealize.ShloMosaic.StableHlo.TRef.toBuf, Idealize.ShloMosaic.StableHlo.TRef.ofBuf, cast_eq]
  pointwise
  repeat' split
  all_goals first
    | exact congrArg (fun e => w3 m c (ix2 a e)) (Fin.ext (by dsimp only; omega))
    | (exfalso; omega)

set_option maxHeartbeats 2000000 in
/-- Its rotary columns exchanged, the second half. -/
theorem wa_sin_hi (c : Dev nD) (a : Fin 1024) (j : Fin 640) (k : Fin 2208) (h : 592 ≤ (j : ℕ) ∧ (j : ℕ) < 608) (hk : (k : ℕ) + 208 = j) : V m c main_v38 (ix2 a j : S1024x640.Idx) = w3 m c (ix2 a k) := by
  show StableHlo.after (List.flatten [hostOps0, hostOps0_1, hostOps0_2, hostOps0_3] ++ List.flatten [hostOps0_4, hostOps0_5, hostOps0_6, hostOps0_7, hostOps0_8, hostOps0_9, hostOps0_10]) _ (Proc.devRef .tc main_v38) _ = _
  rw [after_app, wa_of]
  simp only [hostOps0, hostOps0_1, hostOps0_2, hostOps0_3, List.flatten_cons, List.flatten_nil, List.append_nil, List.cons_append, List.nil_append]
  entry_read
  try simp only [Idealize.ShloMosaic.StableHlo.TRef.toBuf, Idealize.ShloMosaic.StableHlo.TRef.ofBuf, cast_eq]
  pointwise
  repeat' split
  all_goals first
    | exact congrArg (fun e => w3 m c (ix2 a e)) (Fin.ext (by dsimp only; omega))
    | (exfalso; omega)

set_option maxHeartbeats 2000000 in
/-- The windowed keys' columns. -/
theorem wkv_lo (c : Dev nD) (a : Fin 1024) (j : Fin 512) (k : Fin 2208) (h : (j : ℕ) < 256) (hk : (k : ℕ) = 928 + (j : ℕ) / 128 * 64 + (j : ℕ) % 64) : V m c main_v40 (ix2 a j : S1024x512.Idx) = w3 m c (ix2 a k) := by
  show StableHlo.after (List.flatten [hostOps0, hostOps0_1, hostOps0_2, hostOps0_3, hostOps0_4.take 9] ++ List.flatten [hostOps0_4.drop 9, hostOps0_5, hostOps0_6, hostOps0_7, hostOps0_8, hostOps0_9, hostOps0_10]) _ (Proc.devRef .tc main_v40) _ = _
  rw [after_app, wkv_of]
  simp only [hostOps0, hostOps0_1, hostOps0_2, hostOps0_3, hostOps0_4, List.flatten_cons, List.flatten_nil, List.append_nil, List.cons_append, List.nil_append, List.take_succ_cons, List.take_zero, List.drop_succ_cons, List.drop_zero]
  entry_read
  try simp only [Idealize.ShloMosaic.StableHlo.TRef.toBuf, Idealize.ShloMosaic.StableHlo.TRef.ofBuf, cast_eq]
  pointwise
  repeat' split
  all_goals first
    | exact congrArg (fun e => w3 m c (ix2 a e)) (Fin.ext (by dsimp only; omega))
    | (exfalso; omega)

set_option maxHeartbeats 2000000 in
/-- The windowed values' columns. -/
theorem wkv_hi (c : Dev nD) (a : Fin 1024) (j : Fin 512) (k : Fin 2208) (h : 256 ≤ (j : ℕ)) (hk : (k : ℕ) = 1056 + ((j : ℕ) - 256) / 128 * 64 + (j : ℕ) % 64) : V m c main_v40 (ix2 a j : S1024x512.Idx) = w3 m c (ix2 a k) := by
  show StableHlo.after (List.flatten [hostOps0, hostOps0_1, hostOps0_2, hostOps0_3, hostOps0_4.take 9] ++ List.flatten [hostOps0_4.drop 9, hostOps0_5, hostOps0_6, hostOps0_7, hostOps0_8, hostOps0_9, hostOps0_10]) _ (Proc.devRef .tc main_v40) _ = _
  rw [after_app, wkv_of]
  simp only [hostOps0, hostOps0_1, hostOps0_2, hostOps0_3, hostOps0_4, List.flatten_cons, List.flatten_nil, List.append_nil, List.cons_append, List.nil_append, List.take_succ_cons, List.take_zero, List.drop_succ_cons, List.drop_zero]
  entry_read
  try simp only [Idealize.ShloMosaic.StableHlo.TRef.toBuf, Idealize.ShloMosaic.StableHlo.TRef.ofBuf, cast_eq]
  pointwise
  repeat' split
  all_goals first
    | exact congrArg (fun e => w3 m c (ix2 a e)) (Fin.ext (by dsimp only; omega))
    | (exfalso; omega)

end Cert.Proof.KernelProj
end
end
-- ==== Proof.ProjRope.lean ====
/-
  The table of the rotary angles that the host prepares, read at an entry: its rows are written piece by piece.
-/
module

public import proofs.«01_k».proof.Proof.Gen.KernelProjIdeal.Frame
public import Idealize.ShloMosaic.Lib.Routing.OpsOne
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem
open Idealize.ShloMosaic.Routing

variable (m : (ℓ : Loc nD τ sig) → Buf (Elt Ideal) ℓ)

/-- Where a piece of a row lands. -/
theorem lands_row {R C U w : Nat} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (c : Fin C) :
    d.resultIdx? (ValueIdx.ix1 k) idx = some (ValueIdx.ix2 r c) ↔ (idx (ValueIdx.ix1 (0 : Fin 2))).toInt = r.val ∧ (idx (ValueIdx.ix1 (1 : Fin 2))).toInt + (k.val : Int) = c.val := by
  have hwin0 : d.window (ValueIdx.ix1 k) 0 = 0 := by
    unfold ScatterDims.window
    rw [dif_neg fun h => (of_decide_eq_true (List.mem_filter.1 h).2) (by rw [hiw]; simp)]
  have hwin1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  rw [resultIdx?_ix2, start_pair d hsd hivd, start_pair d hsd hivd, hwin0, hwin1]
  omega

/-- A piece of a row written into a table, read at an entry. -/
theorem scatter_row {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (p q : ℕ) (h0 : (idx (ValueIdx.ix1 (0 : Fin 2))).toInt = p) (h1 : (idx (ValueIdx.ix1 (1 : Fin 2))).toInt = q) (r : Fin R) (c : Fin C) :
    Host.scatter d (fun _ b => b) x0 idx upd (ValueIdx.ix2 r c)
      = if h : r.val = p ∧ q ≤ c.val ∧ c.val - q < U then upd (ValueIdx.ix1 ⟨c.val - q, h.2.2⟩) else x0 (ValueIdx.ix2 r c) := by
  have lands : ∀ k' : (shape1 U).Idx, d.resultIdx? k' idx = some (ValueIdx.ix2 r c) →
      (idx (ValueIdx.ix1 (0 : Fin 2))).toInt = r.val ∧ (idx (ValueIdx.ix1 (1 : Fin 2))).toInt + ((k' 0).val : Int) = c.val := fun k' hk' =>
    (lands_row d hiw hsd hivd idx (k' 0) r c).1 ((congrArg (fun t => d.resultIdx? t idx) (ValueIdx.eq_ix1 k').symm).trans hk')
  rw [h0, h1] at lands
  split
  · next h =>
    refine scatter_set_hit d x0 idx upd _ _ (fun k' hk' => ?_) (ValueIdx.ix1 ⟨c.val - q, h.2.2⟩)
      ((lands_row d hiw hsd hivd idx _ r c).2 ⟨by rw [h0]; omega, by rw [h1]; show (q : Int) + ((c.val - q : ℕ) : Int) = _; omega⟩)
    have e := (lands k' hk').2
    rw [ValueIdx.eq_ix1 k']
    refine congrArg (fun e => upd (ValueIdx.ix1 e)) (Fin.ext ?_)
    show (k' 0).val = c.val - q
    omega
  · next h =>
    refine scatter_set_miss d x0 idx upd _ fun k' hk' => h ?_
    obtain ⟨q0, q1⟩ := lands k' hk'
    have hlt : (k' 0).val < U := (k' 0).isLt
    exact ⟨by omega, by omega, by omega⟩

/-- The same at an entry given whole. -/
theorem scatter_row' {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (p q : ℕ) (h0 : (idx (ValueIdx.ix1 (0 : Fin 2))).toInt = p) (h1 : (idx (ValueIdx.ix1 (1 : Fin 2))).toInt = q) (r : Fin R) (c : Fin C) :
    Host.scatter d (fun _ b => b) x0 idx upd (ix2 r c)
      = if h : r.val = p ∧ q ≤ c.val ∧ c.val - q < U then upd (ix1 ⟨c.val - q, h.2.2⟩) else x0 (ix2 r c) := by
  have e2 : (ix2 r c : (shape2 R C).Idx) = ValueIdx.ix2 r c := by
    funext t
    match t with
    | ⟨0, _⟩ => rfl
    | ⟨1, _⟩ => rfl
  have e1 : ∀ e : Fin U, (ix1 e : (shape1 U).Idx) = ValueIdx.ix1 e := fun e => by
    funext t
    match t with
    | ⟨0, _⟩ => rfl
  simp only [e1]
  rw [e2]
  exact scatter_row d hiw hsd hivd x0 idx upd p q h0 h1 r c

/-- The angles' frequencies. -/
def freq (n : ℕ) : EReal :=
  Ideal.div 1 (Ideal.pow (Ideal.ofBits FTy.f32 1176256512#32)
    (Ideal.div (Ideal.ofBits FTy.f32 1073741824#32 * FloatOps.sitofp (F := Idealize.ShloMosaic.Ideal) FTy.f32 (BitVec.ofNat 32 n)) (Ideal.ofBits FTy.f32 1107296256#32)))

set_option maxHeartbeats 4000000 in
/-- The table at an entry. -/
theorem rope_at (c : Dev nD) (r : Fin 8) (l : Fin 128) : V m c main_v86 (ix2 r l : S8x128.Idx)
    = (if (r : ℕ) = 3 ∧ (l : ℕ) < 64 then 1
       else if (r : ℕ) = 2 ∧ 80 ≤ (l : ℕ) ∧ (l : ℕ) - 80 < 16 then 1
       else if (r : ℕ) = 2 ∧ 64 ≤ (l : ℕ) ∧ (l : ℕ) - 64 < 16 then Ideal.ofBits FTy.f32 3212836864#32
       else if (r : ℕ) = 1 ∧ 64 ≤ (l : ℕ) ∧ (l : ℕ) - 64 < 32 then 1
       else if (r : ℕ) = 0 ∧ 80 ≤ (l : ℕ) ∧ (l : ℕ) - 80 < 16 then freq ((l : ℕ) - 80)
       else if (r : ℕ) = 0 ∧ 64 ≤ (l : ℕ) ∧ (l : ℕ) - 64 < 16 then freq ((l : ℕ) - 64)
       else 0 : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rw [scatter_row' _ rfl rfl rfl _ _ _ 3 0 (by decide) (by decide) r l, scatter_row' _ rfl rfl rfl _ _ _ 2 80 (by decide) (by decide) r l, scatter_row' _ rfl rfl rfl _ _ _ 2 64 (by decide) (by decide) r l, scatter_row' _ rfl rfl rfl _ _ _ 1 64 (by decide) (by decide) r l, scatter_row' _ rfl rfl rfl _ _ _ 0 80 (by decide) (by decide) r l, scatter_row' _ rfl rfl rfl _ _ _ 0 64 (by decide) (by decide) r l]
  pointwise [freq]
  try rfl

end Cert.Proof.KernelProj
end
end
-- ==== Proof.ProjBlocks.lean ====
/-
  The blocks the input projections' kernel reads at a point of its grid, and the value of its norm there.
-/
module

public import proofs.«01_k».proof.Proof.ProjRef
public import proofs.«01_k».proof.Proof.ProjHost
public import proofs.«01_k».proof.Proof.ProjCols
public import proofs.«01_k».proof.Proof.ProjRope
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem
open Cert.Proof.ReferenceProj

variable (m : (ℓ : Loc nD τ sig) → Buf (Elt Ideal) ℓ)

theorem idx : ∀ t : Fin cfg0.N, win0_0.index t = ![t.val / 8, t.val % 8, 0] ∧ win0_1.index t = ![t.val / 8, t.val % 8, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val / 8, t.val % 8, 0] ∧ win0_15.index t = ![t.val / 8, t.val % 8, 0] ∧ win0_16.index t = ![t.val / 8, t.val % 8, 0] ∧ win0_17.index t = ![t.val / 8, t.val % 8, 0] ∧ win0_18.index t = ![t.val / 8, t.val % 8, 0] ∧ win0_19.index t = ![t.val / 8, t.val % 8, 0] :=
  (by decide +kernel : ∀ t : Fin grid0.N, _)

theorem blk2 (c : Dev nD) (t : Fin cfg0.N) (i : Fin 1) (j : Fin 1024) : iblk m c 2 t (ix2 i j : S1x1024.Idx) = V m c main_arg2 (ix2 i j : S1x1024.Idx) := by
  blk_point [iblk, idx t]

theorem blk3 (c : Dev nD) (t : Fin cfg0.N) (i : Fin 1024) (j : Fin 640) : iblk m c 3 t (ix2 i j : S1024x640.Idx) = V m c main_v38 (ix2 i j : S1024x640.Idx) := by
  blk_point [iblk, idx t]

theorem blk4 (c : Dev nD) (t : Fin cfg0.N) (i : Fin 1024) (j : Fin 512) : iblk m c 4 t (ix2 i j : S1024x512.Idx) = V m c main_v39 (ix2 i j : S1024x512.Idx) := by
  blk_point [iblk, idx t]

theorem blk5 (c : Dev nD) (t : Fin cfg0.N) (i : Fin 1024) (j : Fin 512) : iblk m c 5 t (ix2 i j : S1024x512.Idx) = V m c main_v40 (ix2 i j : S1024x512.Idx) := by
  blk_point [iblk, idx t]

theorem blk6 (c : Dev nD) (t : Fin cfg0.N) (i : Fin 1024) (j : Fin 1024) : iblk m c 6 t (ix2 i j : S1024x1024.Idx) = V m c main_v41 (ix2 i j : S1024x1024.Idx) := by
  blk_point [iblk, idx t]

theorem blk7 (c : Dev nD) (t : Fin cfg0.N) (i : Fin 1) (j : Fin 256) : iblk m c 7 t (ix2 i j : S1x256.Idx) = V m c main_arg4 (ix2 i j : S1x256.Idx) := by
  blk_point [iblk, idx t]

theorem blk8 (c : Dev nD) (t : Fin cfg0.N) (i : Fin 256) (j : Fin 1024) : iblk m c 8 t (ix2 i j : S256x1024.Idx) = V m c main_v42 (ix2 i j : S256x1024.Idx) := by
  blk_point [iblk, idx t]

theorem blk9 (c : Dev nD) (t : Fin cfg0.N) (i : Fin 256) (j : Fin 1024) : iblk m c 9 t (ix2 i j : S256x1024.Idx) = V m c main_v43 (ix2 i j : S256x1024.Idx) := by
  blk_point [iblk, idx t]

theorem blk10 (c : Dev nD) (t : Fin cfg0.N) (i : Fin 1) (j : Fin 128) : iblk m c 10 t (ix2 i j : S1x128.Idx) = V m c main_arg6 (ix2 i j : S1x128.Idx) := by
  blk_point [iblk, idx t]

theorem blk11 (c : Dev nD) (t : Fin cfg0.N) (i : Fin 128) (j : Fin 1024) : iblk m c 11 t (ix2 i j : S128x1024.Idx) = V m c main_v44 (ix2 i j : S128x1024.Idx) := by
  blk_point [iblk, idx t]

theorem blk12 (c : Dev nD) (t : Fin cfg0.N) (i : Fin 128) (j : Fin 512) : iblk m c 12 t (ix2 i j : S128x512.Idx) = V m c main_v45 (ix2 i j : S128x512.Idx) := by
  blk_point [iblk, idx t]

theorem blk13 (c : Dev nD) (t : Fin cfg0.N) (i : Fin 8) (j : Fin 128) : iblk m c 13 t (ix2 i j : S8x128.Idx) = V m c main_v86 (ix2 i j : S8x128.Idx) := by
  blk_point [iblk, idx t]

theorem blk0 (c : Dev nD) (t : Fin cfg0.N) (r : Fin 512) (x : Fin 1024) (b : Fin 8) (s : Fin 4096)
    (hb : (b : ℕ) = t.val / 8) (hs : (s : ℕ) = t.val % 8 * 512 + r) :
    iblk m c 0 t (ix3 0 r x : S1x512x1024.Idx) = V m c main_arg0 (ix3 b s x : S8x4096x1024.Idx) := by
  blk_point [iblk, idx t]

theorem pos_at (c : Dev nD) (b : Fin 8) (s : Fin 4096) : V m c main_v46 (ix3 b s 0 : S8x4096x1.Idx) = (m ((c : Thread nD τ).loc main_arg1)) (ix2 b s : S8x4096.Idx) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp only [Idealize.ShloMosaic.StableHlo.TRef.toBuf, Idealize.ShloMosaic.StableHlo.TRef.ofBuf, cast_eq]
  pointwise

theorem blk1 (c : Dev nD) (t : Fin cfg0.N) (r : Fin 512) (b : Fin 8) (s : Fin 4096)
    (hb : (b : ℕ) = t.val / 8) (hs : (s : ℕ) = t.val % 8 * 512 + r) :
    iblk m c 1 t (ix3 0 r 0 : S1x512x1.Idx) = V m c main_v46 (ix3 b s 0 : S8x4096x1.Idx) := by
  blk_point [iblk, idx t]

end Cert.Proof.KernelProj
end
end
-- ==== Proof.ProjNorm.lean ====
/-
  The input projections' kernel: the norm, its projection and the two latent norms, at a row of a block.
-/
module

public import proofs.«01_k».proof.Proof.ProjBlocks
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem
open Cert.Proof.ReferenceProj

variable (m : (ℓ : Loc nD τ sig) → Buf (Elt Ideal) ℓ)

/-- The input. -/
abbrev x0 (c : Dev nD) : FVec Ideal S8x4096x1024 .f32 := m ((c : Thread nD τ).loc main_arg0)

/-- The positions. -/
abbrev ps (c : Dev nD) : IVec S8x4096 32 := m ((c : Thread nD τ).loc main_arg1)

/-- The first gain. -/
abbrev g2 (c : Dev nD) : FVec Ideal S1x1024 .f32 := m ((c : Thread nD τ).loc main_arg2)

/-- The latent query's gain. -/
abbrev g4 (c : Dev nD) : FVec Ideal S1x256 .f32 := m ((c : Thread nD τ).loc main_arg4)

/-- The latent key's gain. -/
abbrev g6 (c : Dev nD) : FVec Ideal S1x128 .f32 := m ((c : Thread nD τ).loc main_arg6)

/-- The norm of a block's rows. -/
abbrev hB (c : Dev nD) (t : Fin cfg0.N) : FVec Ideal S512x1024 .bf16 :=
  k0_pay2 (F := Ideal) (View.ld (iblk m c 0 t) r0_0) (View.ld (iblk m c 2 t) r0_1)

/-- Its projection down. -/
abbrev zB (c : Dev nD) (t : Fin cfg0.N) : FVec Ideal S512x640 .f32 :=
  k0_pay3 (F := Ideal) (View.ld (iblk m c 0 t) r0_0) (View.ld (iblk m c 2 t) r0_1) (View.ld (iblk m c 3 t) r0_2)

section
variable (c : Dev nD) (t : Fin cfg0.N) (r : Fin 512) (b : Fin 8) (s : Fin 4096) (hb : (b : ℕ) = t.val / 8) (hs : (s : ℕ) = t.val % 8 * 512 + r)

include hb hs

/-- The norm at a row of a point's block. -/
theorem h_pt (x : Fin 1024) : hB m c t (ix2 r x) = hR (x0 m c) (g2 m c) (ix3 b s x) := by
  have h0 : ∀ y : Fin 1024, iblk m c 0 t (ix3 0 r y) = x0 m c (ix3 b s y) := fun y =>
    ((blk0 m c t r y b s hb hs).trans (congrFun (V_main_arg0 m c) _))
  have h2 : ∀ y : Fin 1024, iblk m c 2 t (ix2 0 y) = g2 m c (ix2 0 y) := fun y =>
    ((blk2 m c t 0 y).trans (congrFun (V_main_arg2 m c) _))
  pointwise [k0_pay2, hR]
  simp only [h0, h2]

/-- The norm against a column of the projection's weights. -/
theorem z_of (C : Fin 1024 → EReal) (k : Fin 2208) (h : ∀ x, C x = w3 m c (ix2 x k)) :
    ∑ x : Fin 1024, hB m c t (ix2 r x) * C x = zR (x0 m c) (g2 m c) (w3 m c) (ix3 b s k) := by
  pointwise [zR]
  exact Finset.sum_congr rfl fun x _ => by rw [h_pt m c t r b s hb hs, h]

/-- A column of the projection down. -/
theorem za_pt (j : Fin 640) (k : Fin 2208) (h : ∀ x, V m c main_v38 (ix2 x j : S1024x640.Idx) = w3 m c (ix2 x k)) :
    zB m c t (ix2 r j) = zR (x0 m c) (g2 m c) (w3 m c) (ix3 b s k) := by
  have h3 : ∀ x : Fin 1024, iblk m c 3 t (ix2 x j) = w3 m c (ix2 x k) := fun x =>
    ((blk3 m c t x j).trans (h x))
  pointwise [k0_pay3]
  exact z_of m c t r b s hb hs _ k h3

/-- The latent query's norm. -/
theorem cq_pt (x : Fin 256) : k0_pay4 (F := Ideal) (View.ld (iblk m c 0 t) r0_0) (View.ld (iblk m c 2 t) r0_1) (View.ld (iblk m c 3 t) r0_2) (View.ld (iblk m c 7 t) r0_3) (ix2 r x)
    = cqR (x0 m c) (g2 m c) (w3 m c) (g4 m c) (ix3 b s x) := by
  have hz : ∀ y : Fin 256, zB m c t (ix2 r ⟨y, by omega⟩) = zR (x0 m c) (g2 m c) (w3 m c) (ix3 b s ⟨y, by omega⟩) := fun y =>
    za_pt m c t r b s hb hs _ _ fun x => wa_lo m c x _ _ (by dsimp only; omega) rfl
  have h7 : ∀ y : Fin 256, iblk m c 7 t (ix2 0 y) = g4 m c (ix2 0 y) := fun y =>
    ((blk7 m c t 0 y).trans (congrFun (V_main_arg4 m c) _))
  pointwise [k0_pay4, cqR]
  simp only [hz, h7]

/-- The latent key's norm. -/
theorem ck_pt (x : Fin 128) : k0_pay7 (F := Ideal) (k0_pay5 (View.ld (iblk m c 0 t) r0_0) (View.ld (iblk m c 2 t) r0_1) (View.ld (iblk m c 3 t) r0_2)) (View.ld (iblk m c 10 t) r0_4) (k0_pay6 (View.ld (iblk m c 0 t) r0_0) (View.ld (iblk m c 2 t) r0_1) (View.ld (iblk m c 3 t) r0_2)) (ix2 r x)
    = ckR (x0 m c) (g2 m c) (w3 m c) (g6 m c) (ix3 b s x) := by
  have hz : ∀ y : Fin 128, zB m c t (ix2 r ⟨256 + y, by omega⟩) = zR (x0 m c) (g2 m c) (w3 m c) (ix3 b s ⟨256 + y, by omega⟩) := fun y =>
    za_pt m c t r b s hb hs _ _ fun x => wa_lo m c x _ _ (by dsimp only; omega) rfl
  have h10 : ∀ y : Fin 128, iblk m c 10 t (ix2 0 y) = g6 m c (ix2 0 y) := fun y =>
    ((blk10 m c t 0 y).trans (congrFun (V_main_arg6 m c) _))
  pointwise [k0_pay7, k0_pay6, k0_pay5, ckR]
  simp only [hz, h10]

end

end Cert.Proof.KernelProj
end
end
-- ==== Proof.ProjPlain.lean ====
/-
  The input projections' kernel: the four plain arrays it leaves, each the reference's.
-/
module

public import proofs.«01_k».proof.Proof.ProjNorm
public import proofs.«01_k».proof.Proof.Online
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem
open Idealize.ShloMosaic.Pipeline (Dat)
open Cert.Proof.ReferenceProj

variable (m : (ℓ : Loc nD τ sig) → Buf (Elt Ideal) ℓ)

/-- The scale of the windowed queries is a real number at least zero. -/
theorem eighth : (0 : EReal) ≤ Ideal.ofBits .f32 0x3E000000#32 ∧ Ideal.ofBits .f32 0x3E000000#32 ≠ ⊤ := by
  have h : Ideal.ofBits .f32 0x3E000000#32 = (((1 : ℝ) / 8 : ℝ) : EReal) := by
    simp [Ideal.ofBits, Ideal.ieee, -EReal.coe_mul]; norm_num
  rw [h]
  exact ⟨by exact_mod_cast (by norm_num : (0 : ℝ) ≤ 1 / 8), EReal.coe_ne_top _⟩

section
variable (c : Dev nD) (t : Fin cfg0.N) (r : Fin 512) (b : Fin 8) (s : Fin 4096) (hb : (b : ℕ) = t.val / 8) (hs : (s : ℕ) = t.val % 8 * 512 + r)

include hb hs

/-- The values. -/
theorem vm_core (x : Fin 512) : k0_pay46 (F := Ideal) (k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 12 t) (ix3 0 r x) = vmR (x0 m c) (g2 m c) (w3 m c) (g6 m c) (w7 m c) (ix3 b s x) := by
  have hw : ∀ k : Fin 128, iblk m c 12 t (ix2 k x) = w7 m c (ix2 k ⟨x.val / 64 * 128 + (64 + x.val % 64), by omega⟩) := fun k =>
    (blk12 m c t k x).trans (wv_val m c k x _ (by dsimp only; omega))
  pointwise [k0_pay46, vmR, kvR]
  refine Finset.sum_congr rfl fun k _ => ?_
  rw [show k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r k) = _ from ck_pt m c t r b s hb hs k, hw]

/-- The windowed queries. -/
theorem qs_core (x : Fin 512) : k0_pay47 (F := Ideal) (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 4 t) (ix3 0 r x) = qsR (x0 m c) (g2 m c) (w3 m c) (ix3 b s x) := by
  have hw : ∀ k : Fin 1024, iblk m c 4 t (ix2 k x) = w3 m c (ix2 k ⟨416 + x.val, by omega⟩) * Ideal.ofBits .f32 0x3E000000#32 := fun k =>
    (blk4 m c t k x).trans (ws_val m c k x _ rfl)
  pointwise [k0_pay47, qsR, zR]
  rw [mul_comm (∑ _ : Fin 1024, _) _, Online.mul_sum_of_real _ _ eighth.1 eighth.2]
  refine Finset.sum_congr rfl fun k _ => ?_
  rw [hw, show k0_pay50 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r k) = _ from h_pt m c t r b s hb hs k, ← mul_assoc, mul_comm]

/-- The windowed keys and values. -/
theorem kvs_core (x : Fin 512) : k0_pay48 (F := Ideal) (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 5 t) (ix3 0 r x) = kvsR (x0 m c) (g2 m c) (w3 m c) (ix3 b s x) := by
  pointwise [k0_pay48, kvsR]
  split
  · next h =>
    exact z_of m c t r b s hb hs _ _ fun k => (blk5 m c t k x).trans (wkv_lo m c k x _ h (by dsimp only; omega))
  · next h =>
    exact z_of m c t r b s hb hs _ _ fun k => (blk5 m c t k x).trans (wkv_hi m c k x _ (by omega) (by dsimp only; omega))

/-- The gate. -/
theorem gate_core (x : Fin 1024) : k0_pay1 (F := Ideal) (k0_pay49 (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 6 t)) (ix3 0 r x) = gateR (x0 m c) (g2 m c) (w3 m c) (ix3 b s x) := by
  pointwise [k0_pay1, k0_pay49, gateR]
  exact z_of m c t r b s hb hs _ _ fun k => (blk6 m c t k x).trans (wg_val m c k x _ rfl)

end

/-- The array of the values. -/
theorem vm_pt (c : Dev nD) (t : Fin cfg0.N) (x : S1x512x512.Idx) (j : S8x4096x512.Idx)
    (hj0 : (j 0 : ℕ) = t.val / 8) (hj1 : (j 1 : ℕ) = t.val % 8 * 512 + x 1) (hj2 : (j 2 : ℕ) = x 2) :
    k0_pay46 (F := Ideal) (k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 12 t) x = vmR (x0 m c) (g2 m c) (w3 m c) (g6 m c) (w7 m c) j := by
  idx_vars x
  idx_vars j
  rw [show x0 = 0 from Subsingleton.elim _ _, show j2 = x2 from Fin.ext hj2]
  exact vm_core m c t _ _ _ hj0 hj1 _

/-- The array of the values. -/
theorem final16 (c : Dev nD) : (dats m 0 c).arrAt 16 (cfgs 0).N = vmR (x0 m c) (g2 m c) (w3 m c) (g6 m c) (w7 m c) := by
  refine (dats m 0 c).arrAt_eq_of_covers 16 _ (by decide +kernel) fun t _ y => ?_
  blk_simp
  rw [after0_16]
  frame_out
  refine vm_pt m c t _ _ ?_ ?_ ?_ <;> (blk_simp [idx t] <;> try omega)

/-- The array of the windowed queries. -/
theorem qs_pt (c : Dev nD) (t : Fin cfg0.N) (x : S1x512x512.Idx) (j : S8x4096x512.Idx)
    (hj0 : (j 0 : ℕ) = t.val / 8) (hj1 : (j 1 : ℕ) = t.val % 8 * 512 + x 1) (hj2 : (j 2 : ℕ) = x 2) :
    k0_pay47 (F := Ideal) (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 4 t) x = qsR (x0 m c) (g2 m c) (w3 m c) j := by
  idx_vars x
  idx_vars j
  rw [show x0 = 0 from Subsingleton.elim _ _, show j2 = x2 from Fin.ext hj2]
  exact qs_core m c t _ _ _ hj0 hj1 _

/-- The array of the windowed queries. -/
theorem final17 (c : Dev nD) : (dats m 0 c).arrAt 17 (cfgs 0).N = qsR (x0 m c) (g2 m c) (w3 m c) := by
  refine (dats m 0 c).arrAt_eq_of_covers 17 _ (by decide +kernel) fun t _ y => ?_
  blk_simp
  rw [after0_17]
  frame_out
  refine qs_pt m c t _ _ ?_ ?_ ?_ <;> (blk_simp [idx t] <;> try omega)

/-- The array of the windowed keys and values. -/
theorem kvs_pt (c : Dev nD) (t : Fin cfg0.N) (x : S1x512x512.Idx) (j : S8x4096x512.Idx)
    (hj0 : (j 0 : ℕ) = t.val / 8) (hj1 : (j 1 : ℕ) = t.val % 8 * 512 + x 1) (hj2 : (j 2 : ℕ) = x 2) :
    k0_pay48 (F := Ideal) (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 5 t) x = kvsR (x0 m c) (g2 m c) (w3 m c) j := by
  idx_vars x
  idx_vars j
  rw [show x0 = 0 from Subsingleton.elim _ _, show j2 = x2 from Fin.ext hj2]
  exact kvs_core m c t _ _ _ hj0 hj1 _

/-- The array of the windowed keys and values. -/
theorem final18 (c : Dev nD) : (dats m 0 c).arrAt 18 (cfgs 0).N = kvsR (x0 m c) (g2 m c) (w3 m c) := by
  refine (dats m 0 c).arrAt_eq_of_covers 18 _ (by decide +kernel) fun t _ y => ?_
  blk_simp
  rw [after0_18]
  frame_out
  refine kvs_pt m c t _ _ ?_ ?_ ?_ <;> (blk_simp [idx t] <;> try omega)

/-- The array of the gate. -/
theorem gate_pt (c : Dev nD) (t : Fin cfg0.N) (x : S1x512x1024.Idx) (j : S8x4096x1024.Idx)
    (hj0 : (j 0 : ℕ) = t.val / 8) (hj1 : (j 1 : ℕ) = t.val % 8 * 512 + x 1) (hj2 : (j 2 : ℕ) = x 2) :
    k0_pay1 (F := Ideal) (k0_pay49 (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 6 t)) x = gateR (x0 m c) (g2 m c) (w3 m c) j := by
  idx_vars x
  idx_vars j
  rw [show x0 = 0 from Subsingleton.elim _ _, show j2 = x2 from Fin.ext hj2]
  exact gate_core m c t _ _ _ hj0 hj1 _

/-- The array of the gate. -/
theorem final19 (c : Dev nD) : (dats m 0 c).arrAt 19 (cfgs 0).N = gateR (x0 m c) (g2 m c) (w3 m c) := by
  refine (dats m 0 c).arrAt_eq_of_covers 19 _ (by decide +kernel) fun t _ y => ?_
  blk_simp
  rw [after0_19]
  frame_out
  refine gate_pt m c t _ _ ?_ ?_ ?_ <;> (blk_simp [idx t] <;> try omega)

end Cert.Proof.KernelProj
end
end
-- ==== Proof.ProjRot.lean ====
/-
  The input projections' kernel: the rotary table's lanes, and the queries and the keys lane by lane.
-/
module

public import proofs.«01_k».proof.Proof.ProjPlain
public import proofs.«01_k».proof.Proof.Online
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem
open Idealize.ShloMosaic.Pipeline (Dat)
open Cert.Proof.ReferenceProj

variable (m : (ℓ : Loc nD τ sig) → Buf (Elt Ideal) ℓ)

/-- Minus one, as the table holds it. -/
theorem minus_one : Ideal.ofBits FTy.f32 3212836864#32 = -(1 : EReal) := by
  have h : Ideal.ofBits FTy.f32 3212836864#32 = -((1 : ℝ) : EReal) := by
    simp [Ideal.ofBits, Ideal.ieee, -EReal.coe_mul, -EReal.coe_neg]; norm_num
  exact h.trans (by rw [EReal.coe_one])

/-- The queries' scale is a real number at least zero. -/
theorem scale_real : (0 : EReal) ≤ Ideal.ofBits FTy.f32 1037108716#32 ∧ Ideal.ofBits FTy.f32 1037108716#32 ≠ ⊤ := by
  have h : Ideal.ofBits FTy.f32 1037108716#32 = (((13698540 : ℝ) / 134217728 : ℝ) : EReal) := by
    simp [Ideal.ofBits, Ideal.ieee, -EReal.coe_mul]; norm_num
  rw [h]
  exact ⟨by exact_mod_cast (by norm_num : (0 : ℝ) ≤ 13698540 / 134217728), EReal.coe_ne_top _⟩

/-- Minus one times, in a product. -/
theorem rot_minus (a x y : EReal) : a + x * (y * Ideal.ofBits FTy.f32 3212836864#32) = a - x * y := by
  rw [minus_one, mul_neg, mul_one, mul_neg, sub_eq_add_neg]

/-- A rotation's scale, for the first half. -/
theorem turn_minus (x y u v : EReal) {S : EReal} (h0 : 0 ≤ S) (ht : S ≠ ⊤) :
    x * ((u * 1 + 0) * S) + y * (v * (-(1 : EReal)) * S) = (x * u - y * v) * S := by
  rw [mul_neg, mul_one, mul_one, add_zero, neg_mul, mul_neg, sub_eq_add_neg,
    mul_comm (x * u + _) S, EReal.left_distrib_of_nonneg_of_ne_top h0 ht, mul_neg]
  ac_rfl

/-- A rotation's scale, for the second half. -/
theorem turn_plus (x y u v : EReal) {S : EReal} (h0 : 0 ≤ S) (ht : S ≠ ⊤) :
    x * ((u * 1 + 0) * S) + y * (v * 1 * S) = (x * u + y * v) * S := by
  rw [mul_one, mul_one, add_zero, mul_comm (x * u + _) S, EReal.left_distrib_of_nonneg_of_ne_top h0 ht]
  ac_rfl

theorem cos_lo (c : Dev nD) (r : Fin 8) (hr : (r : ℕ) = 1) (l : Fin 128) (h : (l : ℕ) < 64) : V m c main_v86 (ix2 r l : S8x128.Idx) = (0 : EReal) := by
  rw [rope_at]
  split_ifs <;> first | rfl | (exfalso; omega)

theorem cos_mid (c : Dev nD) (r : Fin 8) (hr : (r : ℕ) = 1) (l : Fin 128) (h : 64 ≤ (l : ℕ) ∧ (l : ℕ) < 96) : V m c main_v86 (ix2 r l : S8x128.Idx) = (1 : EReal) := by
  rw [rope_at]
  split_ifs <;> first | rfl | (exfalso; omega)

theorem cos_hi (c : Dev nD) (r : Fin 8) (hr : (r : ℕ) = 1) (l : Fin 128) (h : 96 ≤ (l : ℕ)) : V m c main_v86 (ix2 r l : S8x128.Idx) = (0 : EReal) := by
  rw [rope_at]
  split_ifs <;> first | rfl | (exfalso; omega)

theorem sin_lo (c : Dev nD) (r : Fin 8) (hr : (r : ℕ) = 2) (l : Fin 128) (h : (l : ℕ) < 64) : V m c main_v86 (ix2 r l : S8x128.Idx) = (0 : EReal) := by
  rw [rope_at]
  split_ifs <;> first | rfl | (exfalso; omega)

theorem sin_a (c : Dev nD) (r : Fin 8) (hr : (r : ℕ) = 2) (l : Fin 128) (h : 64 ≤ (l : ℕ) ∧ (l : ℕ) < 80) : V m c main_v86 (ix2 r l : S8x128.Idx) = Ideal.ofBits FTy.f32 3212836864#32 := by
  rw [rope_at]
  split_ifs <;> first | rfl | (exfalso; omega)

theorem sin_b (c : Dev nD) (r : Fin 8) (hr : (r : ℕ) = 2) (l : Fin 128) (h : 80 ≤ (l : ℕ) ∧ (l : ℕ) < 96) : V m c main_v86 (ix2 r l : S8x128.Idx) = (1 : EReal) := by
  rw [rope_at]
  split_ifs <;> first | rfl | (exfalso; omega)

theorem sin_hi (c : Dev nD) (r : Fin 8) (hr : (r : ℕ) = 2) (l : Fin 128) (h : 96 ≤ (l : ℕ)) : V m c main_v86 (ix2 r l : S8x128.Idx) = (0 : EReal) := by
  rw [rope_at]
  split_ifs <;> first | rfl | (exfalso; omega)

theorem one_lo (c : Dev nD) (r : Fin 8) (hr : (r : ℕ) = 3) (l : Fin 128) (h : (l : ℕ) < 64) : V m c main_v86 (ix2 r l : S8x128.Idx) = (1 : EReal) := by
  rw [rope_at]
  split_ifs <;> first | rfl | (exfalso; omega)

theorem one_hi (c : Dev nD) (r : Fin 8) (hr : (r : ℕ) = 3) (l : Fin 128) (h : 64 ≤ (l : ℕ)) : V m c main_v86 (ix2 r l : S8x128.Idx) = (0 : EReal) := by
  rw [rope_at]
  split_ifs <;> first | rfl | (exfalso; omega)

theorem freq_a (c : Dev nD) (r : Fin 8) (hr : (r : ℕ) = 0) (l : Fin 128) (h : 64 ≤ (l : ℕ) ∧ (l : ℕ) < 80) : V m c main_v86 (ix2 r l : S8x128.Idx) = freq ((l : ℕ) - 64) := by
  rw [rope_at]
  split_ifs <;> first | rfl | (exfalso; omega)

theorem freq_b (c : Dev nD) (r : Fin 8) (hr : (r : ℕ) = 0) (l : Fin 128) (h : 80 ≤ (l : ℕ) ∧ (l : ℕ) < 96) : V m c main_v86 (ix2 r l : S8x128.Idx) = freq ((l : ℕ) - 64 - 16) := by
  rw [rope_at]
  rw [show (l : ℕ) - 64 - 16 = (l : ℕ) - 80 by omega]
  split_ifs <;> first | rfl | (exfalso; omega)

section
variable (c : Dev nD) (t : Fin cfg0.N) (r : Fin 512) (b : Fin 8) (s : Fin 4096) (hb : (b : ℕ) = t.val / 8) (hs : (s : ℕ) = t.val % 8 * 512 + r)

include hb hs

omit hb hs in
theorem qm_lo (j : Fin 1024) (h : (j : ℕ) % 128 < 64) : qmR (x0 m c) (ps m c) (g2 m c) (w3 m c) (g4 m c) (w5 m c) (ix3 b s j) = qR (x0 m c) (g2 m c) (w3 m c) (g4 m c) (w5 m c) (ix3 b s ⟨(j : ℕ) / 128 * 96 + (j : ℕ) % 128, by omega⟩) * Ideal.ofBits FTy.f32 1037108716#32 := by
  pointwise [qmR, angR]
  rw [dif_pos ⟨by omega, by omega⟩, dif_pos h]

omit hb hs in
theorem qm_a (j : Fin 1024) (h : 64 ≤ (j : ℕ) % 128 ∧ (j : ℕ) % 128 < 80) : qmR (x0 m c) (ps m c) (g2 m c) (w3 m c) (g4 m c) (w5 m c) (ix3 b s j)
    = (qR (x0 m c) (g2 m c) (w3 m c) (g4 m c) (w5 m c) (ix3 b s ⟨(j : ℕ) / 128 * 96 + (64 + ((j : ℕ) % 128 - 64)), by omega⟩) * Ideal.cos (FloatOps.sitofp (F := Idealize.ShloMosaic.Ideal) FTy.f32 (ps m c (ix2 b s)) * freq ((j : ℕ) % 128 - 64))
      - qR (x0 m c) (g2 m c) (w3 m c) (g4 m c) (w5 m c) (ix3 b s ⟨(j : ℕ) / 128 * 96 + (64 + (16 + ((j : ℕ) % 128 - 64))), by omega⟩) * Ideal.sin (FloatOps.sitofp (F := Idealize.ShloMosaic.Ideal) FTy.f32 (ps m c (ix2 b s)) * freq ((j : ℕ) % 128 - 64))) * Ideal.ofBits FTy.f32 1037108716#32 := by
  pointwise [qmR, angR, freq]
  rw [dif_pos ⟨by omega, by omega⟩, dif_neg (by omega), dif_pos (by omega)]

omit hb hs in
theorem qm_b (j : Fin 1024) (h : 80 ≤ (j : ℕ) % 128 ∧ (j : ℕ) % 128 < 96) : qmR (x0 m c) (ps m c) (g2 m c) (w3 m c) (g4 m c) (w5 m c) (ix3 b s j)
    = (qR (x0 m c) (g2 m c) (w3 m c) (g4 m c) (w5 m c) (ix3 b s ⟨(j : ℕ) / 128 * 96 + (64 + (16 + ((j : ℕ) % 128 - 64 - 16))), by omega⟩) * Ideal.cos (FloatOps.sitofp (F := Idealize.ShloMosaic.Ideal) FTy.f32 (ps m c (ix2 b s)) * freq ((j : ℕ) % 128 - 64 - 16))
      + qR (x0 m c) (g2 m c) (w3 m c) (g4 m c) (w5 m c) (ix3 b s ⟨(j : ℕ) / 128 * 96 + (64 + ((j : ℕ) % 128 - 64 - 16)), by omega⟩) * Ideal.sin (FloatOps.sitofp (F := Idealize.ShloMosaic.Ideal) FTy.f32 (ps m c (ix2 b s)) * freq ((j : ℕ) % 128 - 64 - 16))) * Ideal.ofBits FTy.f32 1037108716#32 := by
  pointwise [qmR, angR, freq]
  rw [dif_pos ⟨by omega, by omega⟩, dif_neg (by omega), dif_neg (by omega)]

omit hb hs in
theorem qm_hi (j : Fin 1024) (h : 96 ≤ (j : ℕ) % 128) : qmR (x0 m c) (ps m c) (g2 m c) (w3 m c) (g4 m c) (w5 m c) (ix3 b s j) = 0 := by
  pointwise [qmR, angR]
  rw [dif_neg (by omega)]
  exact zero_word

omit hb hs in
theorem km_lo (j : Fin 1024) (h : (j : ℕ) % 128 < 64) : kmR (x0 m c) (ps m c) (g2 m c) (w3 m c) (g6 m c) (w7 m c) (ix3 b s j) = kvR (x0 m c) (g2 m c) (w3 m c) (g6 m c) (w7 m c) (ix3 b s j) := by
  pointwise [kmR, angR]
  rw [dif_pos ⟨by omega, by omega⟩, dif_pos h]

omit hb hs in
theorem km_a (j : Fin 1024) (h : 64 ≤ (j : ℕ) % 128 ∧ (j : ℕ) % 128 < 80) : kmR (x0 m c) (ps m c) (g2 m c) (w3 m c) (g6 m c) (w7 m c) (ix3 b s j)
    = zR (x0 m c) (g2 m c) (w3 m c) (ix3 b s ⟨384 + ((j : ℕ) % 128 - 64), by omega⟩) * Ideal.cos (FloatOps.sitofp (F := Idealize.ShloMosaic.Ideal) FTy.f32 (ps m c (ix2 b s)) * freq ((j : ℕ) % 128 - 64))
      - zR (x0 m c) (g2 m c) (w3 m c) (ix3 b s ⟨384 + (16 + ((j : ℕ) % 128 - 64)), by omega⟩) * Ideal.sin (FloatOps.sitofp (F := Idealize.ShloMosaic.Ideal) FTy.f32 (ps m c (ix2 b s)) * freq ((j : ℕ) % 128 - 64)) := by
  pointwise [kmR, angR, freq]
  rw [dif_pos ⟨by omega, by omega⟩, dif_neg (by omega), dif_pos (by omega)]

omit hb hs in
theorem km_b (j : Fin 1024) (h : 80 ≤ (j : ℕ) % 128 ∧ (j : ℕ) % 128 < 96) : kmR (x0 m c) (ps m c) (g2 m c) (w3 m c) (g6 m c) (w7 m c) (ix3 b s j)
    = zR (x0 m c) (g2 m c) (w3 m c) (ix3 b s ⟨384 + (16 + ((j : ℕ) % 128 - 64 - 16)), by omega⟩) * Ideal.cos (FloatOps.sitofp (F := Idealize.ShloMosaic.Ideal) FTy.f32 (ps m c (ix2 b s)) * freq ((j : ℕ) % 128 - 64 - 16))
      + zR (x0 m c) (g2 m c) (w3 m c) (ix3 b s ⟨384 + ((j : ℕ) % 128 - 64 - 16), by omega⟩) * Ideal.sin (FloatOps.sitofp (F := Idealize.ShloMosaic.Ideal) FTy.f32 (ps m c (ix2 b s)) * freq ((j : ℕ) % 128 - 64 - 16)) := by
  pointwise [kmR, angR, freq]
  rw [dif_pos ⟨by omega, by omega⟩, dif_neg (by omega), dif_neg (by omega)]

omit hb hs in
theorem km_hi (j : Fin 1024) (h : 96 ≤ (j : ℕ) % 128) : kmR (x0 m c) (ps m c) (g2 m c) (w3 m c) (g6 m c) (w7 m c) (ix3 b s j) = 0 := by
  pointwise [kmR, angR]
  rw [dif_neg (by omega)]
  exact zero_word

/-- The latent query's norm against a column of a weight. -/
theorem q_of (C : Fin 256 → EReal) (k : Fin 768) (h : ∀ x, C x = w5 m c (ix2 x k)) :
    ∑ x : Fin 256, k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r x) * C x = qR (x0 m c) (g2 m c) (w3 m c) (g4 m c) (w5 m c) (ix3 b s k) := by
  pointwise [qR]
  exact Finset.sum_congr rfl fun x _ => by rw [show k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r x) = _ from cq_pt m c t r b s hb hs x, h]

/-- The cosine's factor. -/
theorem p53 (l : Fin 128) : k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
    = (Ideal.cos (FloatOps.sitofp (F := Idealize.ShloMosaic.Ideal) FTy.f32 (ps m c (ix2 b s)) * V m c main_v86 (ix2 0 l : S8x128.Idx)) * V m c main_v86 (ix2 1 l : S8x128.Idx) + V m c main_v86 (ix2 3 l : S8x128.Idx)) * Ideal.ofBits FTy.f32 1037108716#32 := by
  have h1 : iblk m c 1 t (ix3 0 r 0) = ps m c (ix2 b s) := (blk1 m c t r b s hb hs).trans (pos_at m c b s)
  pointwise [k0_pay53, k0_pay11, k0_pay9, k0_pay8]
  rw [h1, blk13, blk13, blk13]

/-- The sine's. -/
theorem p54 (l : Fin 128) : k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
    = (Ideal.sin (FloatOps.sitofp (F := Idealize.ShloMosaic.Ideal) FTy.f32 (ps m c (ix2 b s)) * V m c main_v86 (ix2 0 l : S8x128.Idx)) * V m c main_v86 (ix2 2 l : S8x128.Idx)) * Ideal.ofBits FTy.f32 1037108716#32 := by
  have h1 : iblk m c 1 t (ix3 0 r 0) = ps m c (ix2 b s) := (blk1 m c t r b s hb hs).trans (pos_at m c b s)
  pointwise [k0_pay54, k0_pay12, k0_pay10, k0_pay8]
  rw [h1, blk13, blk13]

/-- The keys' rotated lanes. -/
theorem p55 (l : Fin 128) : k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
    = zB m c t (ix2 r ⟨384 + l.val, by omega⟩) * (Ideal.cos (FloatOps.sitofp (F := Idealize.ShloMosaic.Ideal) FTy.f32 (ps m c (ix2 b s)) * V m c main_v86 (ix2 0 l : S8x128.Idx)) * V m c main_v86 (ix2 1 l : S8x128.Idx))
      + zB m c t (ix2 r ⟨512 + l.val, by omega⟩) * (Ideal.sin (FloatOps.sitofp (F := Idealize.ShloMosaic.Ideal) FTy.f32 (ps m c (ix2 b s)) * V m c main_v86 (ix2 0 l : S8x128.Idx)) * V m c main_v86 (ix2 2 l : S8x128.Idx)) := by
  have h1 : iblk m c 1 t (ix3 0 r 0) = ps m c (ix2 b s) := (blk1 m c t r b s hb hs).trans (pos_at m c b s)
  pointwise [k0_pay55, k0_pay13, k0_pay10, k0_pay9, k0_pay8]
  rw [h1, blk13, blk13, blk13]
  rfl

/-- The queries, lane by lane. -/
theorem q_core (j : Fin 1024) (l : Fin 128) (hl : (l : ℕ) = (j : ℕ) % 128) :
    (∑ x : Fin 256, k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r x) * (iblk m c 8 t (ix2 x j : S256x1024.Idx) : EReal)) * k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
      + (∑ x : Fin 256, k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r x) * (iblk m c 9 t (ix2 x j : S256x1024.Idx) : EReal)) * k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l) = qmR (x0 m c) (ps m c) (g2 m c) (w3 m c) (g4 m c) (w5 m c) (ix3 b s j) := by
  rw [p53 m c t r b s hb hs, p54 m c t r b s hb hs]
  by_cases h1 : (j : ℕ) % 128 < 64
  · rw [qm_lo m c t r b s j h1, cos_lo m c 1 rfl l (by omega), one_lo m c 3 rfl l (by omega), sin_lo m c 2 rfl l (by omega),
      q_of m c t r b s hb hs _ ⟨(j : ℕ) / 128 * 96 + (j : ℕ) % 128, by omega⟩ fun x => (blk8 m c t x j).trans (wq_val m c x j _ (by omega) rfl)]
    simp only [mul_zero, zero_mul, zero_add, add_zero, one_mul]
  by_cases h2 : (j : ℕ) % 128 < 80
  · rw [qm_a m c t r b s j ⟨by omega, h2⟩, cos_mid m c 1 rfl l (by omega), one_hi m c 3 rfl l (by omega), sin_a m c 2 rfl l (by omega), freq_a m c 0 rfl l (by omega),
      q_of m c t r b s hb hs _ ⟨(j : ℕ) / 128 * 96 + (64 + ((j : ℕ) % 128 - 64)), by omega⟩ fun x => (blk8 m c t x j).trans (wq_val m c x j _ (by omega) (by dsimp only; omega)),
      q_of m c t r b s hb hs _ ⟨(j : ℕ) / 128 * 96 + (64 + (16 + ((j : ℕ) % 128 - 64))), by omega⟩ fun x => (blk9 m c t x j).trans (wqs_lo m c x j _ (by omega) (by dsimp only; omega)),
      hl, minus_one]
    exact turn_minus _ _ _ _ scale_real.1 scale_real.2
  by_cases h3 : (j : ℕ) % 128 < 96
  · rw [qm_b m c t r b s j ⟨by omega, h3⟩, cos_mid m c 1 rfl l (by omega), one_hi m c 3 rfl l (by omega), sin_b m c 2 rfl l (by omega), freq_b m c 0 rfl l (by omega),
      q_of m c t r b s hb hs _ ⟨(j : ℕ) / 128 * 96 + (64 + (16 + ((j : ℕ) % 128 - 64 - 16))), by omega⟩ fun x => (blk8 m c t x j).trans (wq_val m c x j _ (by omega) (by dsimp only; omega)),
      q_of m c t r b s hb hs _ ⟨(j : ℕ) / 128 * 96 + (64 + ((j : ℕ) % 128 - 64 - 16)), by omega⟩ fun x => (blk9 m c t x j).trans (wqs_hi m c x j _ (by omega) (by dsimp only; omega)),
      hl]
    exact turn_plus _ _ _ _ scale_real.1 scale_real.2
  · rw [qm_hi m c b s j (by omega), cos_hi m c 1 rfl l (by omega), one_hi m c 3 rfl l (by omega), sin_hi m c 2 rfl l (by omega)]
    simp only [mul_zero, zero_mul, add_zero]

/-- The keys, lane by lane. -/
theorem k_core (j : Fin 1024) (l : Fin 128) (hl : (l : ℕ) = (j : ℕ) % 128) :
    (∑ x : Fin 128, k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r x) * (iblk m c 11 t (ix2 x j : S128x1024.Idx) : EReal)) + k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l) = kmR (x0 m c) (ps m c) (g2 m c) (w3 m c) (g6 m c) (w7 m c) (ix3 b s j) := by
  have kz : 64 ≤ (j : ℕ) % 128 → (∑ x : Fin 128, k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r x) * (iblk m c 11 t (ix2 x j : S128x1024.Idx) : EReal)) = 0 := fun h =>
    Finset.sum_eq_zero fun x _ => by rw [blk11, wk_zero m c x j (by omega), mul_zero]
  rw [p55 m c t r b s hb hs]
  by_cases h1 : (j : ℕ) % 128 < 64
  · rw [km_lo m c b s j h1, cos_lo m c 1 rfl l (by omega), sin_lo m c 2 rfl l (by omega)]
    simp only [mul_zero, add_zero]
    pointwise [kvR]
    exact Finset.sum_congr rfl fun x _ => by rw [show k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r x) = _ from ck_pt m c t r b s hb hs x, blk11, wk_val m c x j h1]
  rw [kz (by omega), zero_add]
  by_cases h2 : (j : ℕ) % 128 < 80
  · rw [km_a m c t r b s j ⟨by omega, h2⟩, cos_mid m c 1 rfl l (by omega), sin_a m c 2 rfl l (by omega), freq_a m c 0 rfl l (by omega),
      za_pt m c t r b s hb hs _ ⟨384 + ((j : ℕ) % 128 - 64), by omega⟩ fun x => wa_cos m c x _ _ (by dsimp only; omega) (by dsimp only; omega),
      za_pt m c t r b s hb hs _ ⟨384 + (16 + ((j : ℕ) % 128 - 64)), by omega⟩ fun x => wa_sin_lo m c x _ _ (by dsimp only; omega) (by dsimp only; omega),
      hl, minus_one]
    simp only [mul_one]
    rw [← minus_one]
    exact rot_minus _ _ _
  by_cases h3 : (j : ℕ) % 128 < 96
  · rw [km_b m c t r b s j ⟨by omega, h3⟩, cos_mid m c 1 rfl l (by omega), sin_b m c 2 rfl l (by omega), freq_b m c 0 rfl l (by omega),
      za_pt m c t r b s hb hs _ ⟨384 + (16 + ((j : ℕ) % 128 - 64 - 16)), by omega⟩ fun x => wa_cos m c x _ _ (by dsimp only; omega) (by dsimp only; omega),
      za_pt m c t r b s hb hs _ ⟨384 + ((j : ℕ) % 128 - 64 - 16), by omega⟩ fun x => wa_sin_hi m c x _ _ (by dsimp only; omega) (by dsimp only; omega),
      hl]
    simp only [mul_one]
  · rw [km_hi m c b s j (by omega), cos_hi m c 1 rfl l (by omega), sin_hi m c 2 rfl l (by omega)]
    simp only [mul_zero, add_zero]

end

end Cert.Proof.KernelProj
end
end
-- ==== Proof.ProjQuery.lean ====
/-
  The input projections' kernel: the queries it leaves, the reference's.
-/
module

public import proofs.«01_k».proof.Proof.ProjRot
public import proofs.«01_k».proof.Proof.Online
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem
open Idealize.ShloMosaic.Pipeline (Dat)
open Cert.Proof.ReferenceProj

variable (m : (ℓ : Loc nD τ sig) → Buf (Elt Ideal) ℓ)

variable (m : (ℓ : Loc nD τ sig) → Buf (Elt Ideal) ℓ)

/-- The head whose lanes begin at 896. -/
theorem q_at896 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 896 + x 2) :
    k0_pay44 (F := Ideal) (k0_pay43 (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_22) (View.ld (iblk m c 9 t) r0_22)) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay44 (F := Ideal) (k0_pay43 (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_22) (View.ld (iblk m c 9 t) r0_22)) (ix3 0 r l) = qmR (x0 m c) (ps m c) (g2 m c) (w3 m c) (g4 m c) (w5 m c) (ix3 b s ⟨768 + (128 + l.val), by omega⟩) := by
    intro r l b s hb hs
    refine Eq.trans ?_ (q_core m c t r b s hb hs ⟨768 + (128 + l.val), by omega⟩ l (by dsimp only; omega))
    pointwise [k0_pay44, k0_pay43, k0_pay38, k0_pay39]
  idx_vars x
  idx_vars j
  have hx : (x2 : ℕ) < 128 := x2.isLt
  rw [show x0 = 0 from Subsingleton.elim _ _, show j2 = (⟨768 + (128 + x2.val), by omega⟩ : Fin 1024) from Fin.ext (by dsimp only; exact hj2.trans (by omega))]
  exact core _ _ _ _ hj0 hj1

/-- The head whose lanes begin at 768. -/
theorem q_at768 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 768 + x 2) :
    k0_pay41 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_22) (View.ld (iblk m c 9 t) r0_22) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay41 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_22) (View.ld (iblk m c 9 t) r0_22) (ix3 0 r l) = qmR (x0 m c) (ps m c) (g2 m c) (w3 m c) (g4 m c) (w5 m c) (ix3 b s ⟨768 + l.val, by omega⟩) := by
    intro r l b s hb hs
    refine Eq.trans ?_ (q_core m c t r b s hb hs ⟨768 + l.val, by omega⟩ l (by dsimp only; omega))
    pointwise [k0_pay41, k0_pay38, k0_pay39]
  idx_vars x
  idx_vars j
  have hx : (x2 : ℕ) < 128 := x2.isLt
  rw [show x0 = 0 from Subsingleton.elim _ _, show j2 = (⟨768 + x2.val, by omega⟩ : Fin 1024) from Fin.ext (by dsimp only; exact hj2.trans (by omega))]
  exact core _ _ _ _ hj0 hj1

/-- The head whose lanes begin at 640. -/
theorem q_at640 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 640 + x 2) :
    k0_pay35 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_18) (View.ld (iblk m c 9 t) r0_18) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay35 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_18) (View.ld (iblk m c 9 t) r0_18) (ix3 0 r l) = qmR (x0 m c) (ps m c) (g2 m c) (w3 m c) (g4 m c) (w5 m c) (ix3 b s ⟨512 + (128 + l.val), by omega⟩) := by
    intro r l b s hb hs
    refine Eq.trans ?_ (q_core m c t r b s hb hs ⟨512 + (128 + l.val), by omega⟩ l (by dsimp only; omega))
    pointwise [k0_pay35, k0_pay30, k0_pay31]
  idx_vars x
  idx_vars j
  have hx : (x2 : ℕ) < 128 := x2.isLt
  rw [show x0 = 0 from Subsingleton.elim _ _, show j2 = (⟨512 + (128 + x2.val), by omega⟩ : Fin 1024) from Fin.ext (by dsimp only; exact hj2.trans (by omega))]
  exact core _ _ _ _ hj0 hj1

/-- The head whose lanes begin at 512. -/
theorem q_at512 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 512 + x 2) :
    k0_pay33 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_18) (View.ld (iblk m c 9 t) r0_18) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay33 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_18) (View.ld (iblk m c 9 t) r0_18) (ix3 0 r l) = qmR (x0 m c) (ps m c) (g2 m c) (w3 m c) (g4 m c) (w5 m c) (ix3 b s ⟨512 + l.val, by omega⟩) := by
    intro r l b s hb hs
    refine Eq.trans ?_ (q_core m c t r b s hb hs ⟨512 + l.val, by omega⟩ l (by dsimp only; omega))
    pointwise [k0_pay33, k0_pay30, k0_pay31]
  idx_vars x
  idx_vars j
  have hx : (x2 : ℕ) < 128 := x2.isLt
  rw [show x0 = 0 from Subsingleton.elim _ _, show j2 = (⟨512 + x2.val, by omega⟩ : Fin 1024) from Fin.ext (by dsimp only; exact hj2.trans (by omega))]
  exact core _ _ _ _ hj0 hj1

/-- The head whose lanes begin at 384. -/
theorem q_at384 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 384 + x 2) :
    k0_pay27 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_14) (View.ld (iblk m c 9 t) r0_14) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay27 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_14) (View.ld (iblk m c 9 t) r0_14) (ix3 0 r l) = qmR (x0 m c) (ps m c) (g2 m c) (w3 m c) (g4 m c) (w5 m c) (ix3 b s ⟨256 + (128 + l.val), by omega⟩) := by
    intro r l b s hb hs
    refine Eq.trans ?_ (q_core m c t r b s hb hs ⟨256 + (128 + l.val), by omega⟩ l (by dsimp only; omega))
    pointwise [k0_pay27, k0_pay22, k0_pay23]
  idx_vars x
  idx_vars j
  have hx : (x2 : ℕ) < 128 := x2.isLt
  rw [show x0 = 0 from Subsingleton.elim _ _, show j2 = (⟨256 + (128 + x2.val), by omega⟩ : Fin 1024) from Fin.ext (by dsimp only; exact hj2.trans (by omega))]
  exact core _ _ _ _ hj0 hj1

/-- The head whose lanes begin at 256. -/
theorem q_at256 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 256 + x 2) :
    k0_pay25 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_14) (View.ld (iblk m c 9 t) r0_14) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay25 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 8 t) r0_14) (View.ld (iblk m c 9 t) r0_14) (ix3 0 r l) = qmR (x0 m c) (ps m c) (g2 m c) (w3 m c) (g4 m c) (w5 m c) (ix3 b s ⟨256 + l.val, by omega⟩) := by
    intro r l b s hb hs
    refine Eq.trans ?_ (q_core m c t r b s hb hs ⟨256 + l.val, by omega⟩ l (by dsimp only; omega))
    pointwise [k0_pay25, k0_pay22, k0_pay23]
  idx_vars x
  idx_vars j
  have hx : (x2 : ℕ) < 128 := x2.isLt
  rw [show x0 = 0 from Subsingleton.elim _ _, show j2 = (⟨256 + x2.val, by omega⟩ : Fin 1024) from Fin.ext (by dsimp only; exact hj2.trans (by omega))]
  exact core _ _ _ _ hj0 hj1

/-- The head whose lanes begin at 128. -/
theorem q_at128 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 128 + x 2) :
    k0_pay20 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay56 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 9 t) r0_10) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay20 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay56 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 9 t) r0_10) (ix3 0 r l) = qmR (x0 m c) (ps m c) (g2 m c) (w3 m c) (g4 m c) (w5 m c) (ix3 b s ⟨128 + l.val, by omega⟩) := by
    intro r l b s hb hs
    refine Eq.trans ?_ (q_core m c t r b s hb hs ⟨128 + l.val, by omega⟩ l (by dsimp only; omega))
    pointwise [k0_pay20, k0_pay15, k0_pay16, k0_pay56, k0_pay14]
  idx_vars x
  idx_vars j
  have hx : (x2 : ℕ) < 128 := x2.isLt
  rw [show x0 = 0 from Subsingleton.elim _ _, show j2 = (⟨128 + x2.val, by omega⟩ : Fin 1024) from Fin.ext (by dsimp only; exact hj2.trans (by omega))]
  exact core _ _ _ _ hj0 hj1

/-- The head whose lanes begin at 0. -/
theorem q_at0 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 0 + x 2) :
    k0_pay18 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay56 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 9 t) r0_10) x = qmR (x0 m c) (ps m c) (g2 m c) (w3 m c) (g4 m c) (w5 m c) j := by
  have core : ∀ (r : Fin 512) (l : Fin 128) (b : Fin 8) (s : Fin 4096) (_ : (b : ℕ) = t.val / 8) (_ : (s : ℕ) = t.val % 8 * 512 + r.val),
      k0_pay18 (F := Ideal) (k0_pay51 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay53 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay54 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay56 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 9 t) r0_10) (ix3 0 r l) = qmR (x0 m c) (ps m c) (g2 m c) (w3 m c) (g4 m c) (w5 m c) (ix3 b s ⟨l.val, by omega⟩) := by
    intro r l b s hb hs
    refine Eq.trans ?_ (q_core m c t r b s hb hs ⟨l.val, by omega⟩ l (by dsimp only; omega))
    pointwise [k0_pay18, k0_pay15, k0_pay16, k0_pay56, k0_pay14]
  idx_vars x
  idx_vars j
  have hx : (x2 : ℕ) < 128 := x2.isLt
  rw [show x0 = 0 from Subsingleton.elim _ _, show j2 = (⟨x2.val, by omega⟩ : Fin 1024) from Fin.ext (by dsimp only; exact hj2.trans (by omega))]
  exact core _ _ _ _ hj0 hj1

/-- The array's block, at a point. -/
theorem point14 (c : Dev nD) (t : Fin cfg0.N) (y) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = qmR (x0 m c) (ps m c) (g2 m c) (w3 m c) (g4 m c) (w5 m c) (((cfg0.win 14).blk t).view.emb y) := by
  unfold out0_14
  canon_tiles x h
  case piece0 =>
    refine q_at896 m c t x _ ?_ ?_ ?_ <;> (blk_simp [idx t] <;> try omega)
  case piece1 =>
    refine q_at768 m c t x _ ?_ ?_ ?_ <;> (blk_simp [idx t] <;> try omega)
  case piece2 =>
    refine q_at640 m c t x _ ?_ ?_ ?_ <;> (blk_simp [idx t] <;> try omega)
  case piece3 =>
    refine q_at512 m c t x _ ?_ ?_ ?_ <;> (blk_simp [idx t] <;> try omega)
  case piece4 =>
    refine q_at384 m c t x _ ?_ ?_ ?_ <;> (blk_simp [idx t] <;> try omega)
  case piece5 =>
    refine q_at256 m c t x _ ?_ ?_ ?_ <;> (blk_simp [idx t] <;> try omega)
  case piece6 =>
    refine q_at128 m c t x _ ?_ ?_ ?_ <;> (blk_simp [idx t] <;> try omega)
  case piece7 =>
    refine q_at0 m c t x _ ?_ ?_ ?_ <;> (blk_simp [idx t] <;> try omega)

/-- The array. -/
theorem final14 (c : Dev nD) : (dats m 0 c).arrAt 14 (cfgs 0).N = qmR (x0 m c) (ps m c) (g2 m c) (w3 m c) (g4 m c) (w5 m c) := by
  refine (dats m 0 c).arrAt_eq_of_covers 14 _ (by decide +kernel) fun t _ y => ?_
  blk_simp
  rw [after0_14]
  exact point14 m c t y

end Cert.Proof.KernelProj
end
end
-- ==== Proof.ProjKey.lean ====
/-
  The input projections' kernel: the keys it leaves, the reference's.
-/
module

public import proofs.«01_k».proof.Proof.ProjRot
public import proofs.«01_k».proof.Proof.Online
public import Idealize.ShloMosaic.Lib.Pipeline.ValueKit
public import Idealize.ShloMosaic.Lib.Claim

@[expose] public section

set_option maxRecDepth 16384

noncomputable section

namespace Cert.Proof.KernelProj

open Cert.KernelProjIdeal Cert.KernelProjIdeal.Gen
open Idealize.ShloMosaic Idealize.ShloMosaic.TcCoe Idealize.SL.Sem
open Idealize.ShloMosaic.Pipeline (Dat)
open Cert.Proof.ReferenceProj

variable (m : (ℓ : Loc nD τ sig) → Buf (Elt Ideal) ℓ)

variable (m : (ℓ : Loc nD τ sig) → Buf (Elt Ideal) ℓ)

/-- The head whose lanes begin at 896. -/
theorem k_at896 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 896 + x 2) :
    k0_pay45 (F := Ideal) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay40 (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_23)) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay45 (F := Ideal) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay40 (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_23)) (ix3 0 r l) = kmR (x0 m c) (ps m c) (g2 m c) (w3 m c) (g6 m c) (w7 m c) (ix3 b s ⟨768 + (128 + l.val), by omega⟩) := by
    intro r l b s hb hs
    refine Eq.trans ?_ (k_core m c t r b s hb hs ⟨768 + (128 + l.val), by omega⟩ l (by dsimp only; omega))
    pointwise [k0_pay45, k0_pay40]
  idx_vars x
  idx_vars j
  have hx : (x2 : ℕ) < 128 := x2.isLt
  rw [show x0 = 0 from Subsingleton.elim _ _, show j2 = (⟨768 + (128 + x2.val), by omega⟩ : Fin 1024) from Fin.ext (by dsimp only; exact hj2.trans (by omega))]
  exact core _ _ _ _ hj0 hj1

/-- The head whose lanes begin at 768. -/
theorem k_at768 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 768 + x 2) :
    k0_pay42 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_23) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay42 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_23) (ix3 0 r l) = kmR (x0 m c) (ps m c) (g2 m c) (w3 m c) (g6 m c) (w7 m c) (ix3 b s ⟨768 + l.val, by omega⟩) := by
    intro r l b s hb hs
    refine Eq.trans ?_ (k_core m c t r b s hb hs ⟨768 + l.val, by omega⟩ l (by dsimp only; omega))
    pointwise [k0_pay42, k0_pay40]
  idx_vars x
  idx_vars j
  have hx : (x2 : ℕ) < 128 := x2.isLt
  rw [show x0 = 0 from Subsingleton.elim _ _, show j2 = (⟨768 + x2.val, by omega⟩ : Fin 1024) from Fin.ext (by dsimp only; exact hj2.trans (by omega))]
  exact core _ _ _ _ hj0 hj1

/-- The head whose lanes begin at 640. -/
theorem k_at640 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 640 + x 2) :
    k0_pay37 (F := Ideal) (k0_pay36 (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_19)) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay37 (F := Ideal) (k0_pay36 (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_19)) (ix3 0 r l) = kmR (x0 m c) (ps m c) (g2 m c) (w3 m c) (g6 m c) (w7 m c) (ix3 b s ⟨512 + (128 + l.val), by omega⟩) := by
    intro r l b s hb hs
    refine Eq.trans ?_ (k_core m c t r b s hb hs ⟨512 + (128 + l.val), by omega⟩ l (by dsimp only; omega))
    pointwise [k0_pay37, k0_pay36, k0_pay32]
  idx_vars x
  idx_vars j
  have hx : (x2 : ℕ) < 128 := x2.isLt
  rw [show x0 = 0 from Subsingleton.elim _ _, show j2 = (⟨512 + (128 + x2.val), by omega⟩ : Fin 1024) from Fin.ext (by dsimp only; exact hj2.trans (by omega))]
  exact core _ _ _ _ hj0 hj1

/-- The head whose lanes begin at 512. -/
theorem k_at512 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 512 + x 2) :
    k0_pay34 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_19) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay34 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_19) (ix3 0 r l) = kmR (x0 m c) (ps m c) (g2 m c) (w3 m c) (g6 m c) (w7 m c) (ix3 b s ⟨512 + l.val, by omega⟩) := by
    intro r l b s hb hs
    refine Eq.trans ?_ (k_core m c t r b s hb hs ⟨512 + l.val, by omega⟩ l (by dsimp only; omega))
    pointwise [k0_pay34, k0_pay32]
  idx_vars x
  idx_vars j
  have hx : (x2 : ℕ) < 128 := x2.isLt
  rw [show x0 = 0 from Subsingleton.elim _ _, show j2 = (⟨512 + x2.val, by omega⟩ : Fin 1024) from Fin.ext (by dsimp only; exact hj2.trans (by omega))]
  exact core _ _ _ _ hj0 hj1

/-- The head whose lanes begin at 384. -/
theorem k_at384 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 384 + x 2) :
    k0_pay29 (F := Ideal) (k0_pay28 (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_15)) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay29 (F := Ideal) (k0_pay28 (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_15)) (ix3 0 r l) = kmR (x0 m c) (ps m c) (g2 m c) (w3 m c) (g6 m c) (w7 m c) (ix3 b s ⟨256 + (128 + l.val), by omega⟩) := by
    intro r l b s hb hs
    refine Eq.trans ?_ (k_core m c t r b s hb hs ⟨256 + (128 + l.val), by omega⟩ l (by dsimp only; omega))
    pointwise [k0_pay29, k0_pay28, k0_pay24]
  idx_vars x
  idx_vars j
  have hx : (x2 : ℕ) < 128 := x2.isLt
  rw [show x0 = 0 from Subsingleton.elim _ _, show j2 = (⟨256 + (128 + x2.val), by omega⟩ : Fin 1024) from Fin.ext (by dsimp only; exact hj2.trans (by omega))]
  exact core _ _ _ _ hj0 hj1

/-- The head whose lanes begin at 256. -/
theorem k_at256 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 256 + x 2) :
    k0_pay26 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_15) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay26 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_15) (ix3 0 r l) = kmR (x0 m c) (ps m c) (g2 m c) (w3 m c) (g6 m c) (w7 m c) (ix3 b s ⟨256 + l.val, by omega⟩) := by
    intro r l b s hb hs
    refine Eq.trans ?_ (k_core m c t r b s hb hs ⟨256 + l.val, by omega⟩ l (by dsimp only; omega))
    pointwise [k0_pay26, k0_pay24]
  idx_vars x
  idx_vars j
  have hx : (x2 : ℕ) < 128 := x2.isLt
  rw [show x0 = 0 from Subsingleton.elim _ _, show j2 = (⟨256 + x2.val, by omega⟩ : Fin 1024) from Fin.ext (by dsimp only; exact hj2.trans (by omega))]
  exact core _ _ _ _ hj0 hj1

/-- The head whose lanes begin at 128. -/
theorem k_at128 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 128 + x 2) :
    k0_pay21 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_11) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay21 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_11) (ix3 0 r l) = kmR (x0 m c) (ps m c) (g2 m c) (w3 m c) (g6 m c) (w7 m c) (ix3 b s ⟨128 + l.val, by omega⟩) := by
    intro r l b s hb hs
    refine Eq.trans ?_ (k_core m c t r b s hb hs ⟨128 + l.val, by omega⟩ l (by dsimp only; omega))
    pointwise [k0_pay21, k0_pay17]
  idx_vars x
  idx_vars j
  have hx : (x2 : ℕ) < 128 := x2.isLt
  rw [show x0 = 0 from Subsingleton.elim _ _, show j2 = (⟨128 + x2.val, by omega⟩ : Fin 1024) from Fin.ext (by dsimp only; exact hj2.trans (by omega))]
  exact core _ _ _ _ hj0 hj1

/-- The head whose lanes begin at 0. -/
theorem k_at0 (c : Dev nD) (t : Fin cfg0.N) (x : S1x512x128.Idx) (j : S8x4096x1024.Idx)
    (hj0 : (j 0 : ℕ) = t.val / 8) (hj1 : (j 1 : ℕ) = t.val % 8 * 512 + x 1) (hj2 : (j 2 : ℕ) = 0 + x 2) :
    k0_pay19 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_11) x = kmR (x0 m c) (ps m c) (g2 m c) (w3 m c) (g6 m c) (w7 m c) j := by
  have core : ∀ (r : Fin 512) (l : Fin 128) (b : Fin 8) (s : Fin 4096) (_ : (b : ℕ) = t.val / 8) (_ : (s : ℕ) = t.val % 8 * 512 + r.val),
      k0_pay19 (F := Ideal) (k0_pay52 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 11 t) r0_11) (ix3 0 r l) = kmR (x0 m c) (ps m c) (g2 m c) (w3 m c) (g6 m c) (w7 m c) (ix3 b s ⟨l.val, by omega⟩) := by
    intro r l b s hb hs
    refine Eq.trans ?_ (k_core m c t r b s hb hs ⟨l.val, by omega⟩ l (by dsimp only; omega))
    pointwise [k0_pay19, k0_pay17]
  idx_vars x
  idx_vars j
  have hx : (x2 : ℕ) < 128 := x2.isLt
  rw [show x0 = 0 from Subsingleton.elim _ _, show j2 = (⟨x2.val, by omega⟩ : Fin 1024) from Fin.ext (by dsimp only; exact hj2.trans (by omega))]
  exact core _ _ _ _ hj0 hj1

/-- The array's block, at a point. -/
theorem point15 (c : Dev nD) (t : Fin cfg0.N) (y) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = kmR (x0 m c) (ps m c) (g2 m c) (w3 m c) (g6 m c) (w7 m c) (((cfg0.win 15).blk t).view.emb y) := by
  unfold out0_15
  canon_tiles x h
  case piece0 =>
    refine k_at896 m c t x _ ?_ ?_ ?_ <;> (blk_simp [idx t] <;> try omega)
  case piece1 =>
    refine k_at768 m c t x _ ?_ ?_ ?_ <;> (blk_simp [idx t] <;> try omega)
  case piece2 =>
    refine k_at640 m c t x _ ?_ ?_ ?_ <;> (blk_simp [idx t] <;> try omega)
  case piece3 =>
    refine k_at512 m c t x _ ?_ ?_ ?_ <;> (blk_simp [idx t] <;> try omega)
  case piece4 =>
    refine k_at384 m c t x _ ?_ ?_ ?_ <;> (blk_simp [idx t] <;> try omega)
  case piece5 =>
    refine k_at256 m c t x _ ?_ ?_ ?_ <;> (blk_simp [idx t] <;> try omega)
  case piece6 =>
    refine k_at128 m c t x _ ?_ ?_ ?_ <;> (blk_simp [idx t] <;> try omega)
  case piece7 =>
    refine k_at0 m c t x _ ?_ ?_ ?_ <;> (blk_simp [idx t] <;> try omega)

/-- The array. -/
theorem final15 (c : Dev nD) : (dats m 0 c).arrAt 15 (cfgs 0).N = kmR (x0 m c) (ps m c) (g2 m c) (w3 m c) (g6 m c) (w7 m c) := by
  refine (dats m 0 c).arrAt_eq_of_covers 15 _ (by decide +kernel) fun t _ y => ?_
  blk_simp
  rw [after0_15]
  exact point15 m c t y

end Cert.Proof.KernelProj
end
end
-- ==== Proof.ProjEqual.lean ====
/-
  The first layer's input projections: kernel and reference agree.
-/
module

public import proofs.«01_k».proof.Defs
public import proofs.«01_k».proof.Proof.ProjQuery
public import proofs.«01_k».proof.Proof.ProjKey
public import proofs.«01_k».proof.Proof.Gen.ReferenceProjIdeal.Run
public import Idealize.ShloMosaic.Lib.Claim

@[expose] public section

set_option maxRecDepth 16384

noncomputable section

namespace Cert.Proof

open Idealize.ShloMosaic Idealize.ShloMosaic.TcCoe Idealize.SL.Sem

/-- The kernel's run: each array it leaves is the reference's function of the arguments, which stand as they were. -/
theorem proj_run (m : (ℓ : Loc Cert.KernelProjIdeal.nD Cert.KernelProjIdeal.τ Cert.KernelProjIdeal.sig) → Buf (Elt Ideal) ℓ) (g : Dev Cert.KernelProjIdeal.nD → PrngReg) :
    θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
r.2.mem ((c.tc : Thread Cert.KernelProjIdeal.nD Cert.KernelProjIdeal.τ).loc Cert.KernelProjIdeal.main_v87_0) = Cert.Proof.ReferenceProj.qmR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg4)) (m ((c.tc : Thread Cert.KernelProjIdeal.nD Cert.KernelProjIdeal.τ).loc Cert.KernelProjIdeal.main_arg5))
      ∧ r.2.mem ((c.tc : Thread Cert.KernelProjIdeal.nD Cert.KernelProjIdeal.τ).loc Cert.KernelProjIdeal.main_v87_1) = Cert.Proof.ReferenceProj.kmR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg6)) (m ((c.tc : Thread Cert.KernelProjIdeal.nD Cert.KernelProjIdeal.τ).loc Cert.KernelProjIdeal.main_arg7))
      ∧ r.2.mem ((c.tc : Thread Cert.KernelProjIdeal.nD Cert.KernelProjIdeal.τ).loc Cert.KernelProjIdeal.main_v87_2) = Cert.Proof.ReferenceProj.vmR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg6)) (m ((c.tc : Thread Cert.KernelProjIdeal.nD Cert.KernelProjIdeal.τ).loc Cert.KernelProjIdeal.main_arg7))
      ∧ r.2.mem ((c.tc : Thread Cert.KernelProjIdeal.nD Cert.KernelProjIdeal.τ).loc Cert.KernelProjIdeal.main_v87_3) = Cert.Proof.ReferenceProj.qsR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3))
      ∧ r.2.mem ((c.tc : Thread Cert.KernelProjIdeal.nD Cert.KernelProjIdeal.τ).loc Cert.KernelProjIdeal.main_v87_4) = Cert.Proof.ReferenceProj.kvsR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3))
      ∧ r.2.mem ((c.tc : Thread Cert.KernelProjIdeal.nD Cert.KernelProjIdeal.τ).loc Cert.KernelProjIdeal.main_v87_5) = Cert.Proof.ReferenceProj.gateR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3))
      ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)) :=
  θ_run_mono (θ_run_and (Cert.KernelProjIdeal.Gen.unchanged m g) (Cert.KernelProjIdeal.Gen.run_main m g)) fun r h c =>
    ⟨((h.2 c).1 14).trans (Cert.Proof.KernelProj.final14 m c),
      ((h.2 c).1 15).trans (Cert.Proof.KernelProj.final15 m c),
      ((h.2 c).1 16).trans (Cert.Proof.KernelProj.final16 m c),
      ((h.2 c).1 17).trans (Cert.Proof.KernelProj.final17 m c),
      ((h.2 c).1 18).trans (Cert.Proof.KernelProj.final18 m c),
      ((h.2 c).1 19).trans (Cert.Proof.KernelProj.final19 m c), h.1 c⟩

/-- The first layer's input projections: kernel and reference agree in all six arrays. -/
theorem proj : Cert.algebraic_KernelProjIdeal_ReferenceProjIdeal (hKernelProjIdeal := Cert.KernelProjIdeal.Gen.facts) (hReferenceProjIdeal := Cert.ReferenceProjIdeal.Gen.facts) := by
  intro m g m' g' _ hagree
  refine ⟨fun c => Cert.Proof.ReferenceProj.qmR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg4)) (m ((c.tc : Thread Cert.KernelProjIdeal.nD Cert.KernelProjIdeal.τ).loc Cert.KernelProjIdeal.main_arg5)), fun c => Cert.Proof.ReferenceProj.kmR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg6)) (m ((c.tc : Thread Cert.KernelProjIdeal.nD Cert.KernelProjIdeal.τ).loc Cert.KernelProjIdeal.main_arg7)), fun c => Cert.Proof.ReferenceProj.vmR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg6)) (m ((c.tc : Thread Cert.KernelProjIdeal.nD Cert.KernelProjIdeal.τ).loc Cert.KernelProjIdeal.main_arg7)), fun c => Cert.Proof.ReferenceProj.qsR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)), fun c => Cert.Proof.ReferenceProj.kvsR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)), fun c => Cert.Proof.ReferenceProj.gateR (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)), proj_run m g, ?_⟩
  refine θ_run_mono (Cert.ReferenceProjIdeal.Value.run m' g') fun r h c => ?_
  obtain ⟨e0, e1, e2, e3, e4, e5, e6, e7⟩ := hagree c
  obtain ⟨r0, r1, r2, r3, r4, r5, rest⟩ := h c
  refine ⟨r0.trans (Eq.trans (b := Cert.Proof.ReferenceProj.qmR (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg3)) (m' ((c.tc : Thread Cert.ReferenceProjIdeal.nD Cert.ReferenceProjIdeal.τ).loc Cert.ReferenceProjIdeal.main_arg4)) (m' ((c.tc : Thread Cert.ReferenceProjIdeal.nD Cert.ReferenceProjIdeal.τ).loc Cert.ReferenceProjIdeal.main_arg5))) ?_ ?_), r1.trans (Eq.trans (b := Cert.Proof.ReferenceProj.kmR (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg3)) (m' ((c.tc : Thread Cert.ReferenceProjIdeal.nD Cert.ReferenceProjIdeal.τ).loc Cert.ReferenceProjIdeal.main_arg6)) (m' ((c.tc : Thread Cert.ReferenceProjIdeal.nD Cert.ReferenceProjIdeal.τ).loc Cert.ReferenceProjIdeal.main_arg7))) ?_ ?_), r2.trans (Eq.trans (b := Cert.Proof.ReferenceProj.vmR (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg3)) (m' ((c.tc : Thread Cert.ReferenceProjIdeal.nD Cert.ReferenceProjIdeal.τ).loc Cert.ReferenceProjIdeal.main_arg6)) (m' ((c.tc : Thread Cert.ReferenceProjIdeal.nD Cert.ReferenceProjIdeal.τ).loc Cert.ReferenceProjIdeal.main_arg7))) ?_ ?_), r3.trans (Eq.trans (b := Cert.Proof.ReferenceProj.qsR (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg3))) ?_ ?_), r4.trans (Eq.trans (b := Cert.Proof.ReferenceProj.kvsR (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg3))) ?_ ?_), r5.trans (Eq.trans (b := Cert.Proof.ReferenceProj.gateR (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg3))) ?_ ?_), rest⟩
  · rfl
  · rw [e0, e1, e2, e3, e4, e5]
  · rfl
  · rw [e0, e1, e2, e3, e6, e7]
  · rfl
  · rw [e0, e2, e3, e6, e7]
  · rfl
  · rw [e0, e2, e3]
  · rfl
  · rw [e0, e2, e3]
  · rfl
  · rw [e0, e2, e3]

end Cert.Proof
end
end
-- ==== Proof.lean ====
/-
  The claims, assembled: the frames from the runs, the equality of the results from the kernel's array and the
  reference's term, each a function of the arguments.
-/
module

public import proofs.«01_k».proof.Defs
public import proofs.«01_k».proof.Proof.KRun
public import proofs.«01_k».proof.Proof.Equal
public import proofs.«01_k».proof.Proof.FinalValue
public import proofs.«01_k».proof.Proof.MidEqual
public import proofs.«01_k».proof.Proof.KMRun
public import proofs.«01_k».proof.Proof.MEqual
public import proofs.«01_k».proof.Proof.ProjEqual
public import proofs.«01_k».proof.Proof.Gen.KernelFinal.Frame
public import proofs.«01_k».proof.Proof.Gen.KernelMid.Frame
public import proofs.«01_k».proof.Proof.Gen.KernelProj.Frame
public import proofs.«01_k».proof.Proof.Gen.KernelProjIdeal.Frame
public import Idealize.ShloMosaic.Lib.Claim

@[expose] public section

set_option maxRecDepth 16384

noncomputable section

namespace Cert.Proof

open Idealize.ShloMosaic Idealize.ShloMosaic.TcCoe Idealize.SL.Sem

theorem frame_P : Cert.quiescent_Kernel (hKernel := Cert.Kernel.Gen.facts) := fun m g _ => Cert.Proof.Kernel.quiescent_run m g

theorem frame_PI : Cert.quiescent_KernelIdeal (hKernelIdeal := Cert.KernelIdeal.Gen.facts) := fun m g _ => Cert.Proof.KernelIdeal.quiescent_run m g

theorem frame_PI_pre : Cert.quiescent_KernelIdeal_pre_finite_scores (hKernelIdeal := Cert.KernelIdeal.Gen.facts) (hPre_finite_scores := preFacts) :=
  fun m g _ => Cert.Proof.KernelIdeal.quiescent_run m g

theorem frame_RI : Cert.quiescent_ReferenceIdeal (hReferenceIdeal := Cert.ReferenceIdeal.Gen.facts) := by
  intro m g _
  hlo_run
  · exact fun _ => ⟨trivial, trivial⟩
  · exact Idealize.ShloMosaic.sem_eq_zero_of_no_sems (by decide) _

theorem frame_RI_pre : Cert.quiescent_ReferenceIdeal_pre_finite_scores (hReferenceIdeal := Cert.ReferenceIdeal.Gen.facts) (hPre_finite_scores := preFacts) := by
  intro m g _
  hlo_run
  · exact fun _ => ⟨trivial, trivial⟩
  · exact Idealize.ShloMosaic.sem_eq_zero_of_no_sems (by decide) _

/-- The attention: kernel and reference agree. -/
theorem fox : Cert.algebraic_KernelIdeal_ReferenceIdeal_pre_finite_scores (hKernelIdeal := Cert.KernelIdeal.Gen.facts) (hReferenceIdeal := Cert.ReferenceIdeal.Gen.facts) (hPre_finite_scores := preFacts) := by
  pair_intro
  · run_from Cert.Proof.KernelIdeal.run_post m g
  · hlo_run
    refine Eq.trans (b := Cert.Proof.ReferenceIdeal.REF (m ((c.tc : Thread _ _).loc Cert.KernelIdeal.main_arg0)) (m ((c.tc : Thread _ _).loc Cert.KernelIdeal.main_arg1))) ?_ ?_
    · rfl
    · exact (KV_eq_REF (fun b t x => pre_X (hpre c).1 b t x) (fun b a t => pre_C (hpre c).2 b a t)).symm.trans (Cert.Proof.KernelIdeal.final m c).symm

theorem frame_F : Cert.quiescent_KernelFinal (hKernelFinal := Cert.KernelFinal.Gen.facts) := fun m ρ _ => Cert.KernelFinal.Gen.frame m ρ

theorem frame_FI : Cert.quiescent_KernelFinalIdeal (hKernelFinalIdeal := Cert.KernelFinalIdeal.Gen.facts) := fun m ρ _ => Cert.KernelFinalIdeal.Gen.frame m ρ

theorem frame_RF : Cert.quiescent_ReferenceFinalIdeal (hReferenceFinalIdeal := Cert.ReferenceFinalIdeal.Gen.facts) := by
  intro m g _
  hlo_run
  · exact fun _ => ⟨trivial, trivial, trivial, trivial, trivial⟩
  · exact Idealize.ShloMosaic.sem_eq_zero_of_no_sems (by decide) _

/-- The last call: kernel and reference agree. -/
theorem last : Cert.algebraic_KernelFinalIdeal_ReferenceFinalIdeal (hKernelFinalIdeal := Cert.KernelFinalIdeal.Gen.facts) (hReferenceFinalIdeal := Cert.ReferenceFinalIdeal.Gen.facts) := by
  pair_intro
  · run_from Cert.KernelFinalIdeal.Gen.run_main m g
  · hlo_run
    refine Eq.trans (b := Cert.Proof.ReferenceFinal.REF (m ((c.tc : Thread _ _).loc Cert.KernelFinalIdeal.main_arg0)) (m ((c.tc : Thread _ _).loc Cert.KernelFinalIdeal.main_arg1)) (m ((c.tc : Thread _ _).loc Cert.KernelFinalIdeal.main_arg2)) (m ((c.tc : Thread _ _).loc Cert.KernelFinalIdeal.main_arg3)) (m ((c.tc : Thread _ _).loc Cert.KernelFinalIdeal.main_arg4))) ?_ (Cert.Proof.KernelFinal.final m c).symm
    rfl

theorem frame_M : Cert.quiescent_KernelMid (hKernelMid := Cert.KernelMid.Gen.facts) := fun m ρ _ => Cert.KernelMid.Gen.frame m ρ

theorem frame_MI : Cert.quiescent_KernelMidIdeal (hKernelMidIdeal := Cert.KernelMidIdeal.Gen.facts) := fun m ρ _ => Cert.KernelMidIdeal.Gen.frame m ρ

theorem frame_RM : Cert.quiescent_ReferenceMidIdeal (hReferenceMidIdeal := Cert.ReferenceMidIdeal.Gen.facts) := by
  intro m g _
  hlo_run
  · exact fun _ => ⟨trivial, trivial, trivial, trivial, trivial, trivial, trivial, trivial⟩
  · exact Idealize.ShloMosaic.sem_eq_zero_of_no_sems (by decide) _

theorem frame_L : Cert.quiescent_KernelMla (hKernelMla := Cert.KernelMla.Gen.facts) := fun m g _ => Cert.Proof.KernelMla.quiescent_run m g

theorem frame_LI : Cert.quiescent_KernelMlaIdeal (hKernelMlaIdeal := Cert.KernelMlaIdeal.Gen.facts) := fun m g _ => Cert.Proof.KernelMlaIdeal.quiescent_run m g

theorem frame_LI_pre : Cert.quiescent_KernelMlaIdeal_pre_finite_latent (hKernelMlaIdeal := Cert.KernelMlaIdeal.Gen.facts) (hPre_finite_latent := Mla.preFacts) :=
  fun m g _ => Cert.Proof.KernelMlaIdeal.quiescent_run m g

theorem frame_RL : Cert.quiescent_ReferenceMlaIdeal (hReferenceMlaIdeal := Cert.ReferenceMlaIdeal.Gen.facts) := by
  intro m g _
  hlo_run
  · exact fun _ => ⟨trivial, trivial, trivial⟩
  · exact Idealize.ShloMosaic.sem_eq_zero_of_no_sems (by decide) _

theorem frame_RL_pre : Cert.quiescent_ReferenceMlaIdeal_pre_finite_latent (hReferenceMlaIdeal := Cert.ReferenceMlaIdeal.Gen.facts) (hPre_finite_latent := Mla.preFacts) := by
  intro m g _
  hlo_run
  · exact fun _ => ⟨trivial, trivial, trivial⟩
  · exact Idealize.ShloMosaic.sem_eq_zero_of_no_sems (by decide) _

/-- The latent attention: kernel and reference agree. -/
theorem latent : Cert.algebraic_KernelMlaIdeal_ReferenceMlaIdeal_pre_finite_latent (hKernelMlaIdeal := Cert.KernelMlaIdeal.Gen.facts) (hReferenceMlaIdeal := Cert.ReferenceMlaIdeal.Gen.facts) (hPre_finite_latent := Mla.preFacts) := by
  pair_intro
  · run_from Cert.Proof.KernelMlaIdeal.run_post m g
  · hlo_run
    refine Eq.trans (b := Cert.Proof.ReferenceMlaIdeal.REF (m ((c.tc : Thread _ _).loc Cert.KernelMlaIdeal.main_arg0)) (m ((c.tc : Thread _ _).loc Cert.KernelMlaIdeal.main_arg1)) (m ((c.tc : Thread _ _).loc Cert.KernelMlaIdeal.main_arg2))) ?_ ?_
    · rfl
    · exact (Mla.MV_eq_REF (fun b t x => Mla.pre_Q (hpre c).1 b t x) (fun b t x => Mla.pre_K (hpre c).2 b t x)).symm.trans (Cert.Proof.KernelMlaIdeal.final m c).symm

theorem frame_J : Cert.quiescent_KernelProj (hKernelProj := Cert.KernelProj.Gen.facts) := fun m ρ _ => Cert.KernelProj.Gen.frame m ρ

theorem frame_JI : Cert.quiescent_KernelProjIdeal (hKernelProjIdeal := Cert.KernelProjIdeal.Gen.facts) := fun m ρ _ => Cert.KernelProjIdeal.Gen.frame m ρ

theorem frame_RJ : Cert.quiescent_ReferenceProjIdeal (hReferenceProjIdeal := Cert.ReferenceProjIdeal.Gen.facts) := by
  intro m g _
  hlo_run
  · exact fun _ => ⟨trivial, trivial, trivial, trivial, trivial, trivial, trivial, trivial⟩
  · exact Idealize.ShloMosaic.sem_eq_zero_of_no_sems (by decide) _

theorem claim : Cert.Claim :=
  ⟨Cert.Kernel.Gen.facts, Cert.KernelIdeal.Gen.facts, Cert.ReferenceIdeal.Gen.facts, Cert.KernelFinal.Gen.facts, Cert.KernelFinalIdeal.Gen.facts, Cert.ReferenceFinalIdeal.Gen.facts,
    Cert.KernelMid.Gen.facts, Cert.KernelMidIdeal.Gen.facts, Cert.ReferenceMidIdeal.Gen.facts,
    Cert.KernelMla.Gen.facts, Cert.KernelMlaIdeal.Gen.facts, Cert.ReferenceMlaIdeal.Gen.facts,
    Cert.KernelProj.Gen.facts, Cert.KernelProjIdeal.Gen.facts, Cert.ReferenceProjIdeal.Gen.facts, preFacts, Mla.preFacts,
    frame_P, frame_PI, frame_PI_pre, frame_RI, frame_RI_pre, frame_F, frame_FI, frame_RF, frame_M, frame_MI, frame_RM,
    frame_L, frame_LI, frame_LI_pre, frame_RL, frame_RL_pre, frame_J, frame_JI, frame_RJ,
    trivial, fox, trivial, last, trivial, middle, trivial, latent, trivial, proj⟩

end Cert.Proof
end
end
